-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_finite [hPre_sorted_finite : Cert.Pre_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite [hPre_sorted_finite : Cert.Pre_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_sorted_finite [hKernelIdeal : Cert.KernelIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_sorted_finite [hReferenceIdeal : Cert.ReferenceIdeal.Facts] [hPre_sorted_finite : Cert.Pre_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_sorted_finite [hKernelIdeal : Cert.KernelIdeal.Facts] [hReferenceIdeal : Cert.ReferenceIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_sorted_finite : Cert.Pre_sorted_finite.Facts),
    quiescent_Kernel (hKernel := hKernel)
    ∧ quiescent_KernelIdeal (hKernelIdeal := hKernelIdeal)
    ∧ quiescent_KernelIdeal_pre_sorted_finite (hKernelIdeal := hKernelIdeal) (hPre_sorted_finite := hPre_sorted_finite)
    ∧ quiescent_ReferenceIdeal (hReferenceIdeal := hReferenceIdeal)
    ∧ quiescent_ReferenceIdeal_pre_sorted_finite (hReferenceIdeal := hReferenceIdeal) (hPre_sorted_finite := hPre_sorted_finite)
    ∧ preserves_Kernel_KernelIdeal
    ∧ algebraic_KernelIdeal_ReferenceIdeal_pre_sorted_finite (hKernelIdeal := hKernelIdeal) (hReferenceIdeal := hReferenceIdeal) (hPre_sorted_finite := hPre_sorted_finite)
-- ==== Pre_sorted_finite.lean ====
abbrev S1x32768x11 : Shape := ⟨3, ![1, 32768, 11]⟩
abbrev S1x512x3 : Shape := ⟨3, ![1, 512, 3]⟩
abbrev S1x32768 : Shape := ⟨2, ![1, 32768]⟩
abbrev S1x512 : Shape := ⟨2, ![1, 512]⟩
abbrev S128x11 : Shape := ⟨2, ![128, 11]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S384x512 : Shape := ⟨2, ![384, 512]⟩
abbrev S384 : Shape := ⟨1, ![384]⟩
abbrev S128x3 : Shape := ⟨2, ![128, 3]⟩
abbrev S384x128 : Shape := ⟨2, ![384, 128]⟩
abbrev S32768 : Shape := ⟨1, ![32768]⟩
abbrev S32767 : Shape := ⟨1, ![32767]⟩
abbrev S1 : Shape := ⟨1, ![1]⟩
abbrev S_ : Shape := ⟨0, ![]⟩
abbrev S511 : Shape := ⟨1, ![511]⟩
abbrev S512x256 : Shape := ⟨2, ![512, 256]⟩

class Facts : Prop where
  shapeCasts_S1x32768_S32768 : S1x32768.ShapeCasts S32768
  shapeCasts_S1x512_S512 : S1x512.ShapeCasts S512
  slices_S32768_S32767_1 : S32768.Slices ![1] S32767
  slices_S32768_S32767_0 : S32768.Slices ![0] S32767
  slices_S32768_S1_0 : S32768.Slices ![0] S1
  bcast_S_S1 : S_.BroadcastsInDim S1 (![] : Fin 0 → Fin S1.rank)
  slices_S32768_S1_32767 : S32768.Slices ![32767] S1
  bcast_S_S32767 : S_.BroadcastsInDim S32767 (![] : Fin 0 → Fin S32767.rank)
  slices_S512_S1_0 : S512.Slices ![0] S1
  slices_S512_S1_511 : S512.Slices ![511] S1
  slices_S512_S511_0 : S512.Slices ![0] S511
  slices_S512_S511_1 : S512.Slices ![1] S511
  bcast_S_S1x32768x11 : S_.BroadcastsInDim S1x32768x11 (![] : Fin 0 → Fin S1x32768x11.rank)
  bcast_S_S128x11 : S_.BroadcastsInDim S128x11 (![] : Fin 0 → Fin S128x11.rank)
  bcast_S_S256x128 : S_.BroadcastsInDim S256x128 (![] : Fin 0 → Fin S256x128.rank)
  slices_S512x512_S512x256_0_256 : S512x512.Slices ![0, 256] S512x256
  bcast_S_S512x256 : S_.BroadcastsInDim S512x256 (![] : Fin 0 → Fin S512x256.rank)

variable [Facts]

def fn_part1 {F : FTy → Type} [FloatOps F] (main_arg0 : FVec F S1x32768x11 .f32) (main_arg4 : FVec F S128x11 .f32) (main_arg6 : FVec F S256x128 .f32) (main_arg8 : FVec F S512x512 .f32) (main_v1 : IVec S512 32) (main_v7 : IVec S1 1) (main_v10 : IVec S1 1) (main_v15 : IVec S32767 1) (main_v18 : IVec S1 1) : IVec S1 1 × IVec S1 1 × IVec S32767 1 × IVec S1 1 × IVec S1 1 × IVec S511 1 × IVec S1x32768x11 1 × IVec S128x11 1 × IVec S256x128 1 × IVec S512x256 1 :=
  let main_v19 : IVec S1 32 := (extractStridedSlice S1 ![511] · slices_S512_S1_511) main_v1
  let main_c_4 : IVec S_ 32 := constantI S_ 32 32#32
  let main_v20 : IVec S1 32 := broadcastInDim S1 ![] bcast_S_S1 main_c_4
  let main_v21 : IVec S1 1 := cmpi .slt main_v19 main_v20
  let main_v22 : IVec S511 32 := (extractStridedSlice S511 ![0] · slices_S512_S511_0) main_v1
  let main_v23 : IVec S511 32 := (extractStridedSlice S511 ![1] · slices_S512_S511_1) main_v1
  let main_v24 : IVec S511 1 := cmpi .sle main_v22 main_v23
  let main_v25 : FVec F S1x32768x11 .f32 := Host.absf main_arg0
  let main_cst : FVec F S_ .f32 := constant S_ .f32 0x7F800000#32
  let main_v26 : FVec F S1x32768x11 .f32 := broadcastInDim S1x32768x11 ![] bcast_S_S1x32768x11 main_cst
  let main_v27 : IVec S1x32768x11 1 := cmpf .olt main_v25 main_v26
  let main_v28 : FVec F S128x11 .f32 := Host.absf main_arg4
  let main_cst_5 : FVec F S_ .f32 := constant S_ .f32 0x7F800000#32
  let main_v29 : FVec F S128x11 .f32 := broadcastInDim S128x11 ![] bcast_S_S128x11 main_cst_5
  let main_v30 : IVec S128x11 1 := cmpf .olt main_v28 main_v29
  let main_v31 : FVec F S256x128 .f32 := Host.absf main_arg6
  let main_cst_6 : FVec F S_ .f32 := constant S_ .f32 0x7F800000#32
  let main_v32 : FVec F S256x128 .f32 := broadcastInDim S256x128 ![] bcast_S_S256x128 main_cst_6
  let main_v33 : IVec S256x128 1 := cmpf .olt main_v31 main_v32
  let main_v34 : FVec F S512x256 .f32 := (extractStridedSlice S512x256 ![0, 256] · slices_S512x512_S512x256_0_256) main_arg8
  let main_v35 : FVec F S512x256 .f32 := Host.absf main_v34
  let main_cst_7 : FVec F S_ .f32 := constant S_ .f32 0x7F800000#32
  let main_v36 : FVec F S512x256 .f32 := broadcastInDim S512x256 ![] bcast_S_S512x256 main_cst_7
  let main_v37 : IVec S512x256 1 := cmpf .olt main_v35 main_v36
  (main_v7, main_v10, main_v15, main_v18, main_v21, main_v24, main_v27, main_v30, main_v33, main_v37)

def fn {F : FTy → Type} [FloatOps F] (main_arg0 : FVec F S1x32768x11 .f32) (main_arg1 : FVec F S1x512x3 .f32) (main_arg2 : IVec S1x32768 32) (main_arg3 : IVec S1x512 32) (main_arg4 : FVec F S128x11 .f32) (main_arg5 : FVec F S128 .f32) (main_arg6 : FVec F S256x128 .f32) (main_arg7 : FVec F S256 .f32) (main_arg8 : FVec F S512x512 .f32) (main_arg9 : FVec F S512 .f32) (main_arg10 : FVec F S384x512 .f32) (main_arg11 : FVec F S384 .f32) (main_arg12 : FVec F S128x3 .f32) (main_arg13 : FVec F S128 .f32) (main_arg14 : FVec F S384x128 .f32) (main_arg15 : FVec F S384 .f32) : IVec S1 1 × IVec S1 1 × IVec S32767 1 × IVec S1 1 × IVec S1 1 × IVec S511 1 × IVec S1x32768x11 1 × IVec S128x11 1 × IVec S256x128 1 × IVec S512x256 1 :=
  let main_v0 : IVec S32768 32 := shapeCast S32768 main_arg2 shapeCasts_S1x32768_S32768
  let main_v1 : IVec S512 32 := shapeCast S512 main_arg3 shapeCasts_S1x512_S512
  let main_v2 : IVec S32767 32 := (extractStridedSlice S32767 ![1] · slices_S32768_S32767_1) main_v0
  let main_v3 : IVec S32767 32 := (extractStridedSlice S32767 ![0] · slices_S32768_S32767_0) main_v0
  let main_v4 : IVec S32767 32 := subi main_v2 main_v3
  let main_v5 : IVec S1 32 := (extractStridedSlice S1 ![0] · slices_S32768_S1_0) main_v0
  let main_c : IVec S_ 32 := constantI S_ 32 0#32
  let main_v6 : IVec S1 32 := broadcastInDim S1 ![] bcast_S_S1 main_c
  let main_v7 : IVec S1 1 := cmpi .eq main_v5 main_v6
  let main_v8 : IVec S1 32 := (extractStridedSlice S1 ![32767] · slices_S32768_S1_32767) main_v0
  let main_c_0 : IVec S_ 32 := constantI S_ 32 511#32
  let main_v9 : IVec S1 32 := broadcastInDim S1 ![] bcast_S_S1 main_c_0
  let main_v10 : IVec S1 1 := cmpi .eq main_v8 main_v9
  let main_c_1 : IVec S_ 32 := constantI S_ 32 0#32
  let main_v11 : IVec S32767 32 := broadcastInDim S32767 ![] bcast_S_S32767 main_c_1
  let main_v12 : IVec S32767 1 := cmpi .eq main_v4 main_v11
  let main_c_2 : IVec S_ 32 := constantI S_ 32 1#32
  let main_v13 : IVec S32767 32 := broadcastInDim S32767 ![] bcast_S_S32767 main_c_2
  let main_v14 : IVec S32767 1 := cmpi .eq main_v4 main_v13
  let main_v15 : IVec S32767 1 := ori main_v12 main_v14
  let main_v16 : IVec S1 32 := (extractStridedSlice S1 ![0] · slices_S512_S1_0) main_v1
  let main_c_3 : IVec S_ 32 := constantI S_ 32 0#32
  let main_v17 : IVec S1 32 := broadcastInDim S1 ![] bcast_S_S1 main_c_3
  let main_v18 : IVec S1 1 := cmpi .sge main_v16 main_v17
  fn_part1 (F := F) main_arg0 main_arg4 main_arg6 main_arg8 main_v1 main_v7 main_v10 main_v15 main_v18
-- ==== Kernel.lean ====
abbrev S1x32768x11 : Shape := ⟨3, ![1, 32768, 11]⟩
abbrev S1x512x3 : Shape := ⟨3, ![1, 512, 3]⟩
abbrev S1x32768 : Shape := ⟨2, ![1, 32768]⟩
abbrev S1x512 : Shape := ⟨2, ![1, 512]⟩
abbrev S128x11 : Shape := ⟨2, ![128, 11]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S384x512 : Shape := ⟨2, ![384, 512]⟩
abbrev S384 : Shape := ⟨1, ![384]⟩
abbrev S128x3 : Shape := ⟨2, ![128, 3]⟩
abbrev S384x128 : Shape := ⟨2, ![384, 128]⟩
abbrev S32768x11 : Shape := ⟨2, ![32768, 11]⟩
abbrev S512x3 : Shape := ⟨2, ![512, 3]⟩
abbrev S32768 : Shape := ⟨1, ![32768]⟩
abbrev S256x11 : Shape := ⟨2, ![256, 11]⟩
abbrev S11x256 : Shape := ⟨2, ![11, 256]⟩
abbrev S1x256 : Shape := ⟨2, ![1, 256]⟩
abbrev S512x256 : Shape := ⟨2, ![512, 256]⟩
abbrev S256x512 : Shape := ⟨2, ![256, 512]⟩
abbrev S11x512 : Shape := ⟨2, ![11, 512]⟩
abbrev S512x384 : Shape := ⟨2, ![512, 384]⟩
abbrev S1x384 : Shape := ⟨2, ![1, 384]⟩
abbrev S3x128 : Shape := ⟨2, ![3, 128]⟩
abbrev S1x128 : Shape := ⟨2, ![1, 128]⟩
abbrev S128x384 : Shape := ⟨2, ![128, 384]⟩
abbrev S32768x1 : Shape := ⟨2, ![32768, 1]⟩
abbrev S32767 : Shape := ⟨1, ![32767]⟩
abbrev S_ : Shape := ⟨0, ![]⟩
abbrev S1 : Shape := ⟨1, ![1]⟩
abbrev S512x1 : Shape := ⟨2, ![512, 1]⟩
abbrev S2048x384 : Shape := ⟨2, ![2048, 384]⟩
abbrev S1024x11 : Shape := ⟨2, ![1024, 11]⟩
abbrev S1024x1 : Shape := ⟨2, ![1024, 1]⟩
abbrev S8x512 : Shape := ⟨2, ![8, 512]⟩
abbrev S8x128 : Shape := ⟨2, ![8, 128]⟩
abbrev S1024x512 : Shape := ⟨2, ![1024, 512]⟩
abbrev S1024x256 : Shape := ⟨2, ![1024, 256]⟩
abbrev S1x1 : Shape := ⟨2, ![1, 1]⟩
abbrev S2x256 : Shape := ⟨2, ![2, 256]⟩
abbrev S1024x384 : Shape := ⟨2, ![1024, 384]⟩
abbrev S2x384 : Shape := ⟨2, ![2, 384]⟩
abbrev S512x128 : Shape := ⟨2, ![512, 128]⟩
abbrev S512x32 : Shape := ⟨2, ![512, 32]⟩
abbrev S32 : Shape := ⟨1, ![32]⟩
abbrev S1x32 : Shape := ⟨2, ![1, 32]⟩
abbrev S256x1 : Shape := ⟨2, ![256, 1]⟩
abbrev S256x32 : Shape := ⟨2, ![256, 32]⟩
abbrev S256x384 : Shape := ⟨2, ![256, 384]⟩

abbrev nBuf : Space → Nat
  | .hbm => 50
  | .vmem => 26
  | .smem => 0
  | _ => 0

abbrev bufTy : (tb : Table) → Fin (tcTables nBuf tb) → BufTy
  | .hbm, ⟨0, _⟩ => ⟨S1x32768x11, .f32⟩
  | .hbm, ⟨1, _⟩ => ⟨S1x512x3, .f32⟩
  | .hbm, ⟨2, _⟩ => ⟨S1x32768, .i32⟩
  | .hbm, ⟨3, _⟩ => ⟨S1x512, .i32⟩
  | .hbm, ⟨4, _⟩ => ⟨S128x11, .f32⟩
  | .hbm, ⟨5, _⟩ => ⟨S128, .f32⟩
  | .hbm, ⟨6, _⟩ => ⟨S256x128, .f32⟩
  | .hbm, ⟨7, _⟩ => ⟨S256, .f32⟩
  | .hbm, ⟨8, _⟩ => ⟨S512x512, .f32⟩
  | .hbm, ⟨9, _⟩ => ⟨S512, .f32⟩
  | .hbm, ⟨10, _⟩ => ⟨S384x512, .f32⟩
  | .hbm, ⟨11, _⟩ => ⟨S384, .f32⟩
  | .hbm, ⟨12, _⟩ => ⟨S128x3, .f32⟩
  | .hbm, ⟨13, _⟩ => ⟨S128, .f32⟩
  | .hbm, ⟨14, _⟩ => ⟨S384x128, .f32⟩
  | .hbm, ⟨15, _⟩ => ⟨S384, .f32⟩
  | .hbm, ⟨16, _⟩ => ⟨S32768x11, .f32⟩
  | .hbm, ⟨17, _⟩ => ⟨S512x3, .f32⟩
  | .hbm, ⟨18, _⟩ => ⟨S32768, .i32⟩
  | .hbm, ⟨19, _⟩ => ⟨S512, .i32⟩
  | .hbm, ⟨20, _⟩ => ⟨S256x11, .f32⟩
  | .hbm, ⟨21, _⟩ => ⟨S11x256, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S512x256, .f32⟩
  | .hbm, ⟨26, _⟩ => ⟨S256x512, .f32⟩
  | .hbm, ⟨27, _⟩ => ⟨S256x512, .bf16⟩
  | .hbm, ⟨28, _⟩ => ⟨S512x256, .f32⟩
  | .hbm, ⟨29, _⟩ => ⟨S256x512, .f32⟩
  | .hbm, ⟨30, _⟩ => ⟨S11x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S512x384, .f32⟩
  | .hbm, ⟨35, _⟩ => ⟨S512x384, .bf16⟩
  | .hbm, ⟨36, _⟩ => ⟨S1x384, .f32⟩
  | .hbm, ⟨37, _⟩ => ⟨S3x128, .f32⟩
  | .hbm, ⟨38, _⟩ => ⟨S1x128, .f32⟩
  | .hbm, ⟨39, _⟩ => ⟨S128x384, .f32⟩
  | .hbm, ⟨40, _⟩ => ⟨S1x384, .f32⟩
  | .hbm, ⟨41, _⟩ => ⟨S32768x1, .i32⟩
  | .hbm, ⟨42, _⟩ => ⟨S32767, .i32⟩
  | .hbm, ⟨43, _⟩ => ⟨S_, .i32⟩
  | .hbm, ⟨44, _⟩ => ⟨S1, .i32⟩
  | .hbm, ⟨45, _⟩ => ⟨S32768, .i32⟩
  | .hbm, ⟨46, _⟩ => ⟨S32768x1, .i32⟩
  | .hbm, ⟨47, _⟩ => ⟨S512x1, .i32⟩
  | .hbm, ⟨48, _⟩ => ⟨S2048x384, .f32⟩
  | .hbm, ⟨49, _⟩ => ⟨S2048x384, .f32⟩
  | .local _ .vmem, ⟨0, _⟩ => ⟨S1024x11, .f32⟩
  | .local _ .vmem, ⟨1, _⟩ => ⟨S1024x11, .f32⟩
  | .local _ .vmem, ⟨2, _⟩ => ⟨S1024x1, .i32⟩
  | .local _ .vmem, ⟨3, _⟩ => ⟨S1024x1, .i32⟩
  | .local _ .vmem, ⟨4, _⟩ => ⟨S1024x1, .i32⟩
  | .local _ .vmem, ⟨5, _⟩ => ⟨S1024x1, .i32⟩
  | .local _ .vmem, ⟨6, _⟩ => ⟨S11x256, .f32⟩
  | .local _ .vmem, ⟨7, _⟩ => ⟨S1x256, .f32⟩
  | .local _ .vmem, ⟨8, _⟩ => ⟨S11x512, .f32⟩
  | .local _ .vmem, ⟨9, _⟩ => ⟨S256x512, .bf16⟩
  | .local _ .vmem, ⟨10, _⟩ => ⟨S1x512, .f32⟩
  | .local _ .vmem, ⟨11, _⟩ => ⟨S512x384, .bf16⟩
  | .local _ .vmem, ⟨12, _⟩ => ⟨S1x384, .f32⟩
  | .local _ .vmem, ⟨13, _⟩ => ⟨S512x3, .f32⟩
  | .local _ .vmem, ⟨14, _⟩ => ⟨S3x128, .f32⟩
  | .local _ .vmem, ⟨15, _⟩ => ⟨S1x128, .f32⟩
  | .local _ .vmem, ⟨16, _⟩ => ⟨S128x384, .f32⟩
  | .local _ .vmem, ⟨17, _⟩ => ⟨S1x384, .f32⟩
  | .local _ .vmem, ⟨18, _⟩ => ⟨S512x1, .i32⟩
  | .local _ .vmem, ⟨19, _⟩ => ⟨S2048x384, .f32⟩
  | .local _ .vmem, ⟨20, _⟩ => ⟨S2048x384, .f32⟩
  | .local _ .vmem, ⟨21, _⟩ => ⟨S512x256, .bf16⟩
  | .local _ .vmem, ⟨22, _⟩ => ⟨S512x512, .bf16⟩
  | .local _ .vmem, ⟨23, _⟩ => ⟨S512x384, .bf16⟩
  | .local _ .vmem, ⟨24, _⟩ => ⟨S8x512, .bf16⟩
  | .local _ .vmem, ⟨25, _⟩ => ⟨S8x128, .i32⟩
  | _, _ => ⟨S1x32768x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20

abbrev nD : Nat := 1
abbrev τ : Topo := Topo.v7x

variable {F : FTy → Type} [FloatOps F]

abbrev grid0 : Pipeline.Grid := ⟨1, ![64], ![false]⟩

def k0_cond5 (i : grid0.Coords) : BitVec 1 :=
  let arg0 : BitVec 32 := BitVec.ofNat 32 (i 0).val
  let c63_i32 : BitVec 32 := 63#32
  let v12 : BitVec 1 := Scalar.cmpi .eq arg0 c63_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S11x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2048x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S1x32768x11 : Shape := ⟨3, ![1, 32768, 11]⟩
abbrev S1x512x3 : Shape := ⟨3, ![1, 512, 3]⟩
abbrev S1x32768 : Shape := ⟨2, ![1, 32768]⟩
abbrev S1x512 : Shape := ⟨2, ![1, 512]⟩
abbrev S128x11 : Shape := ⟨2, ![128, 11]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S384x512 : Shape := ⟨2, ![384, 512]⟩
abbrev S384 : Shape := ⟨1, ![384]⟩
abbrev S128x3 : Shape := ⟨2, ![128, 3]⟩
abbrev S384x128 : Shape := ⟨2, ![384, 128]⟩
abbrev S32768x11 : Shape := ⟨2, ![32768, 11]⟩
abbrev S512x3 : Shape := ⟨2, ![512, 3]⟩
abbrev S32768 : Shape := ⟨1, ![32768]⟩
abbrev S11x128 : Shape := ⟨2, ![11, 128]⟩
abbrev S32768x128 : Shape := ⟨2, ![32768, 128]⟩
abbrev S1x128 : Shape := ⟨2, ![1, 128]⟩
abbrev S128x256 : Shape := ⟨2, ![128, 256]⟩
abbrev S32768x256 : Shape := ⟨2, ![32768, 256]⟩
abbrev S1x256 : Shape := ⟨2, ![1, 256]⟩
abbrev S32768x1 : Shape := ⟨2, ![32768, 1]⟩
abbrev S32768x512 : Shape := ⟨2, ![32768, 512]⟩
abbrev S32768x512x1 : Shape := ⟨3, ![32768, 512, 1]⟩
abbrev S32768x1x256 : Shape := ⟨3, ![32768, 1, 256]⟩
abbrev S_ : Shape := ⟨0, ![]⟩
abbrev S32768x512x256 : Shape := ⟨3, ![32768, 512, 256]⟩
abbrev S512x256 : Shape := ⟨2, ![512, 256]⟩
abbrev S512x384 : Shape := ⟨2, ![512, 384]⟩
abbrev S32768x384 : Shape := ⟨2, ![32768, 384]⟩
abbrev S1x384 : Shape := ⟨2, ![1, 384]⟩
abbrev S32768x1x384 : Shape := ⟨3, ![32768, 1, 384]⟩
abbrev S32768x512x384 : Shape := ⟨3, ![32768, 512, 384]⟩
abbrev S3x128 : Shape := ⟨2, ![3, 128]⟩
abbrev S512x128 : Shape := ⟨2, ![512, 128]⟩
abbrev S128x384 : Shape := ⟨2, ![128, 384]⟩
abbrev S512x1 : Shape := ⟨2, ![512, 1]⟩
abbrev S32 : Shape := ⟨1, ![32]⟩
abbrev S1x32 : Shape := ⟨2, ![1, 32]⟩
abbrev S512x32 : Shape := ⟨2, ![512, 32]⟩
abbrev S32x64x384 : Shape := ⟨3, ![32, 64, 384]⟩
abbrev S512x2 : Shape := ⟨2, ![512, 2]⟩
abbrev S2048x384 : Shape := ⟨2, ![2048, 384]⟩

abbrev nBuf : Space → Nat
  | .hbm => 168
  | .vmem => 0
  | .smem => 0
  | _ => 0

abbrev hbmTy0_0 (i : Nat) : BufTy := match i % 128 with
  | 0 => ⟨S1x32768x11, .f32⟩
  | 1 => ⟨S1x512x3, .f32⟩
  | 2 => ⟨S1x32768, .i32⟩
  | 3 => ⟨S1x512, .i32⟩
  | 4 => ⟨S128x11, .f32⟩
  | 5 => ⟨S128, .f32⟩
  | 6 => ⟨S256x128, .f32⟩
  | 7 => ⟨S256, .f32⟩
  | 8 => ⟨S512x512, .f32⟩
  | 9 => ⟨S512, .f32⟩
  | 10 => ⟨S384x512, .f32⟩
  | 11 => ⟨S384, .f32⟩
  | 12 => ⟨S128x3, .f32⟩
  | 13 => ⟨S128, .f32⟩
  | 14 => ⟨S384x128, .f32⟩
  | 15 => ⟨S384, .f32⟩
  | 16 => ⟨S32768x11, .f32⟩
  | 17 => ⟨S512x3, .f32⟩
  | 18 => ⟨S32768, .i32⟩
  | 19 => ⟨S512, .i32⟩
  | 20 => ⟨S11x128, .f32⟩
  | 21 => ⟨S32768x128, .f32⟩
  | 22 => ⟨S1x128, .f32⟩
  | 23 => ⟨S32768x128, .f32⟩
  | 24 => ⟨S32768x128, .f32⟩
  | 25 => ⟨S128x256, .f32⟩
  | 26 => ⟨S32768x256, .f32⟩
  | 27 => ⟨S1x256, .f32⟩
  | 28 => ⟨S32768x256, .f32⟩
  | 29 => ⟨S32768x256, .f32⟩
  | 30 => ⟨S32768x1, .i32⟩
  | 31 => ⟨S512, .i32⟩
  | 32 => ⟨S1x512, .i32⟩
  | 33 => ⟨S32768x512, .i32⟩
  | 34 => ⟨S32768x512, .i32⟩
  | 35 => ⟨S32768x512, .i1⟩
  | 36 => ⟨S32768x512x1, .i1⟩
  | 37 => ⟨S32768x1x256, .f32⟩
  | 38 => ⟨S_, .f32⟩
  | 39 => ⟨S_, .f32⟩
  | 40 => ⟨S32768x512x256, .i1⟩
  | 41 => ⟨S32768x512x256, .f32⟩
  | 42 => ⟨S32768x512x256, .f32⟩
  | 43 => ⟨S32768x512x256, .f32⟩
  | 44 => ⟨S_, .f32⟩
  | 45 => ⟨S512x256, .f32⟩
  | 46 => ⟨S_, .i32⟩
  | 47 => ⟨S32768, .i32⟩
  | 48 => ⟨S32768, .i1⟩
  | 49 => ⟨S_, .i32⟩
  | 50 => ⟨S32768, .i32⟩
  | 51 => ⟨S32768, .i32⟩
  | 52 => ⟨S32768, .i32⟩
  | 53 => ⟨S32768x1, .i32⟩
  | 54 => ⟨S32768x256, .f32⟩
  | 55 => ⟨S32768x512, .f32⟩
  | 56 => ⟨S512x512, .f32⟩
  | 57 => ⟨S32768x512, .f32⟩
  | 58 => ⟨S1x512, .f32⟩
  | 59 => ⟨S32768x512, .f32⟩
  | 60 => ⟨S32768x512, .f32⟩
  | 61 => ⟨S_, .f32⟩
  | 62 => ⟨S32768x512, .f32⟩
  | 63 => ⟨S32768x512, .f32⟩
  | 64 => ⟨S512x384, .f32⟩
  | 65 => ⟨S32768x384, .f32⟩
  | 66 => ⟨S1x384, .f32⟩
  | 67 => ⟨S32768x384, .f32⟩
  | 68 => ⟨S32768x384, .f32⟩
  | 69 => ⟨S32768x1, .i32⟩
  | 70 => ⟨S512, .i32⟩
  | 71 => ⟨S1x512, .i32⟩
  | 72 => ⟨S32768x512, .i32⟩
  | 73 => ⟨S32768x512, .i32⟩
  | 74 => ⟨S32768x512, .i1⟩
  | 75 => ⟨S32768x512x1, .i1⟩
  | 76 => ⟨S32768x1x384, .f32⟩
  | 77 => ⟨S_, .f32⟩
  | 78 => ⟨S_, .f32⟩
  | 79 => ⟨S32768x512x384, .i1⟩
  | 80 => ⟨S32768x512x384, .f32⟩
  | 81 => ⟨S32768x512x384, .f32⟩
  | 82 => ⟨S32768x512x384, .f32⟩
  | 83 => ⟨S_, .f32⟩
  | 84 => ⟨S512x384, .f32⟩
  | 85 => ⟨S3x128, .f32⟩
  | 86 => ⟨S512x128, .f32⟩
  | 87 => ⟨S1x128, .f32⟩
  | 88 => ⟨S512x128, .f32⟩
  | 89 => ⟨S512x128, .f32⟩
  | 90 => ⟨S_, .f32⟩
  | 91 => ⟨S512x128, .f32⟩
  | 92 => ⟨S512x128, .f32⟩
  | 93 => ⟨S_, .f32⟩
  | 94 => ⟨S512x128, .f32⟩
  | 95 => ⟨S512x128, .f32⟩
  | 96 => ⟨S512x128, .f32⟩
  | 97 => ⟨S_, .f32⟩
  | 98 => ⟨S512x128, .f32⟩
  | 99 => ⟨S512x128, .f32⟩
  | 100 => ⟨S512x128, .f32⟩
  | 101 => ⟨S128x384, .f32⟩
  | 102 => ⟨S512x384, .f32⟩
  | 103 => ⟨S1x384, .f32⟩
  | 104 => ⟨S512x384, .f32⟩
  | 105 => ⟨S512x384, .f32⟩
  | 106 => ⟨S512x1, .i32⟩
  | 107 => ⟨S32, .i32⟩
  | 108 => ⟨S1x32, .i32⟩
  | 109 => ⟨S512x32, .i32⟩
  | 110 => ⟨S512x32, .i32⟩
  | 111 => ⟨S512x32, .i1⟩
  | 112 => ⟨S512x32, .i32⟩
  | 113 => ⟨S_, .i32⟩
  | 114 => ⟨S32, .i32⟩
  | 115 => ⟨S512, .i32⟩
  | 116 => ⟨S_, .i32⟩
  | 117 => ⟨S512, .i32⟩
  | 118 => ⟨S512, .i1⟩
  | 119 => ⟨S_, .i32⟩
  | 120 => ⟨S512, .i32⟩
  | 121 => ⟨S512, .i32⟩
  | 122 => ⟨S512, .i32⟩
  | 123 => ⟨S512x1, .i32⟩
  | 124 => ⟨S512, .i32⟩
  | 125 => ⟨S512, .i32⟩
  | 126 => ⟨S_, .f32⟩
  | 127 => ⟨S32x64x384, .f32⟩
  | _ => ⟨S1x32768x11, .f32⟩

abbrev hbmTy0_1 (i : Nat) : BufTy := match i % 128 with
  | 0 => ⟨S_, .i32⟩
  | 1 => ⟨S512, .i32⟩
  | 2 => ⟨S512, .i1⟩
  | 3 => ⟨S_, .i32⟩
  | 4 => ⟨S512, .i32⟩
  | 5 => ⟨S512, .i32⟩
  | 6 => ⟨S512, .i32⟩
  | 7 => ⟨S_, .i32⟩
  | 8 => ⟨S512, .i32⟩
  | 9 => ⟨S512, .i1⟩
  | 10 => ⟨S_, .i32⟩
  | 11 => ⟨S512, .i32⟩
  | 12 => ⟨S512, .i32⟩
  | 13 => ⟨S512, .i32⟩
  | 14 => ⟨S512x1, .i32⟩
  | 15 => ⟨S512x1, .i32⟩
  | 16 => ⟨S512x2, .i32⟩
  | 17 => ⟨S32x64x384, .f32⟩
  | 18 => ⟨S_, .f32⟩
  | 19 => ⟨S32x64x384, .f32⟩
  | 20 => ⟨S_, .i32⟩
  | 21 => ⟨S512, .i32⟩
  | 22 => ⟨S512, .i1⟩
  | 23 => ⟨S_, .i32⟩
  | 24 => ⟨S512, .i32⟩
  | 25 => ⟨S512, .i32⟩
  | 26 => ⟨S512, .i32⟩
  | 27 => ⟨S_, .i32⟩
  | 28 => ⟨S512, .i32⟩
  | 29 => ⟨S512, .i1⟩
  | 30 => ⟨S_, .i32⟩
  | 31 => ⟨S512, .i32⟩
  | 32 => ⟨S512, .i32⟩
  | 33 => ⟨S512, .i32⟩
  | 34 => ⟨S512x1, .i32⟩
  | 35 => ⟨S512x1, .i32⟩
  | 36 => ⟨S512x2, .i32⟩
  | 37 => ⟨S32x64x384, .f32⟩
  | 38 => ⟨S2048x384, .f32⟩
  | 39 => ⟨S2048x384, .f32⟩
  | _ => ⟨S1x32768x11, .f32⟩

abbrev hbmTy (i : Nat) : BufTy := match i / 128 with
  | 0 => hbmTy0_0 i
  | 1 => hbmTy0_1 i
  | _ => ⟨S1x32768x11, .f32⟩

abbrev bufTy : (tb : Table) → Fin (tcTables nBuf tb) → BufTy
  | .hbm, ⟨i, _⟩ => hbmTy i
  | _, _ => ⟨S1x32768x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_v22 : Ref sig .tc := ⟨.hbm, 43, rfl⟩
abbrev main_cst_0 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_c_1 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_3 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_v52 : Ref sig .tc := ⟨.hbm, 82, rfl⟩
abbrev main_cst_4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_5 : Ref sig .tc := ⟨.hbm, 90, rfl⟩
abbrev main_v59 : Ref sig .tc := ⟨.hbm, 91, rfl⟩
abbrev main_v60 : Ref sig .tc := ⟨.hbm, 92, rfl⟩
abbrev main_cst_6 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_7 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_8 : Ref sig .tc := ⟨.hbm, 113, rfl⟩
abbrev main_v79 : Ref sig .tc := ⟨.hbm, 114, rfl⟩
abbrev main_v80 : Ref sig .tc := ⟨.hbm, 115, rfl⟩
abbrev main_c_9 : Ref sig .tc := ⟨.hbm, 116, rfl⟩
abbrev main_v81 : Ref sig .tc := ⟨.hbm, 117, rfl⟩
abbrev main_v82 : Ref sig .tc := ⟨.hbm, 118, rfl⟩
abbrev main_c_10 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_11 : Ref sig .tc := ⟨.hbm, 126, rfl⟩
abbrev main_v89 : Ref sig .tc := ⟨.hbm, 127, rfl⟩
abbrev main_c_12 : Ref sig .tc := ⟨.hbm, 128, rfl⟩
abbrev main_v90 : Ref sig .tc := ⟨.hbm, 129, rfl⟩
abbrev main_v91 : Ref sig .tc := ⟨.hbm, 130, rfl⟩
abbrev main_c_13 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_14 : Ref sig .tc := ⟨.hbm, 135, rfl⟩
abbrev main_v95 : Ref sig .tc := ⟨.hbm, 136, rfl⟩
abbrev main_v96 : Ref sig .tc := ⟨.hbm, 137, rfl⟩
abbrev main_c_15 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_16 : Ref sig .tc := ⟨.hbm, 146, rfl⟩
abbrev main_v104 : Ref sig .tc := ⟨.hbm, 147, rfl⟩
abbrev main_c_17 : Ref sig .tc := ⟨.hbm, 148, rfl⟩
abbrev main_v105 : Ref sig .tc := ⟨.hbm, 149, rfl⟩
abbrev main_v106 : Ref sig .tc := ⟨.hbm, 150, rfl⟩
abbrev main_c_18 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_c_19 : Ref sig .tc := ⟨.hbm, 155, rfl⟩
abbrev main_v110 : Ref sig .tc := ⟨.hbm, 156, rfl⟩
abbrev main_v111 : Ref sig .tc := ⟨.hbm, 157, rfl⟩
abbrev main_c_20 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩

abbrev nD : Nat := 1
abbrev τ : Topo := Topo.v7x

variable {F : FTy → Type} [FloatOps F]

def κ : String → Option EReal := fun
  | "mask" => some ⊥
  | _ => none
-- ==== Proof.KernelIdealBody.lean ====
/- The kernel body of `Cert.KernelIdeal` run once, from any scratch contents: what its frame needs. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first point of the first sweep over the rows. -/
abbrev atStart (i : grid0.Coords) : Prop := (Scalar.cmpi .ne (Scalar.extui (Scalar.cmpi .eq (BitVec.ofNat 32 (i 0).val) 0#32)) 0#32) = 1#1
/-- A point of the first sweep. -/
abbrev inFirst (i : grid0.Coords) : Prop := (Scalar.cmpi .ne (Scalar.extui (Scalar.cmpi .slt (BitVec.ofNat 32 (i 0).val) 32#32)) 0#32) = 1#1
/-- The first point of the second sweep. -/
abbrev atMiddle (i : grid0.Coords) : Prop := (Scalar.cmpi .ne (Scalar.extui (Scalar.cmpi .eq (BitVec.ofNat 32 (i 0).val) 32#32)) 0#32) = 1#1
/-- A point of the second sweep. -/
abbrev inSecond (i : grid0.Coords) : Prop := (Scalar.cmpi .ne (Scalar.extui (Scalar.cmpi .sge (BitVec.ofNat 32 (i 0).val) 32#32)) 0#32) = 1#1
/-- The last point. -/
abbrev atEnd (i : grid0.Coords) : Prop := k0_cond5 i = 1#1

/-- The five ways the branch conditions can come out. -/
def Branches (i : grid0.Coords) : Prop :=
  (atStart i ∧ inFirst i ∧ ¬ atMiddle i ∧ ¬ inSecond i ∧ ¬ atEnd i)
  ∨ (¬ atStart i ∧ inFirst i ∧ ¬ atMiddle i ∧ ¬ inSecond i ∧ ¬ atEnd i)
  ∨ (¬ atStart i ∧ ¬ inFirst i ∧ atMiddle i ∧ inSecond i ∧ ¬ atEnd i)
  ∨ (¬ atStart i ∧ ¬ inFirst i ∧ ¬ atMiddle i ∧ inSecond i ∧ ¬ atEnd i)
  ∨ (¬ atStart i ∧ ¬ inFirst i ∧ ¬ atMiddle i ∧ inSecond i ∧ atEnd i)

/-- Every grid point is one of the five. -/
theorem branches (t : Fin cfg0.N) : Branches (grid0.coords t) := by
  have h : ∀ t : Fin grid0.N, Branches (grid0.coords t) := by unfold Branches; decide +kernel
  exact h t

set_option maxHeartbeats 4000000 in
/-- From the inputs' staging buffers at their contents and everything else at anything, the body runs and hands
    the inputs' back as they were and everything else at something. -/
theorem body_any (c : Dev nD) (i : grid0.Coords) (arg1 : Memref sig .tc .vmem S1024x11 .f32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S11x256 .f32) (harg4 : arg4.IsWhole) (arg5 : Memref sig .tc .vmem S1x256 .f32) (harg5 : arg5.IsWhole) (arg6 : Memref sig .tc .vmem S11x512 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S512x384 .bf16) (harg9 : arg9.IsWhole) (arg10 : Memref sig .tc .vmem S1x384 .f32) (harg10 : arg10.IsWhole) (arg11 : Memref sig .tc .vmem S512x3 .f32) (harg11 : arg11.IsWhole) (arg12 : Memref sig .tc .vmem S3x128 .f32) (harg12 : arg12.IsWhole) (arg13 : Memref sig .tc .vmem S1x128 .f32) (harg13 : arg13.IsWhole) (arg14 : Memref sig .tc .vmem S128x384 .f32) (harg14 : arg14.IsWhole) (arg15 : Memref sig .tc .vmem S1x384 .f32) (harg15 : arg15.IsWhole) (arg16 : Memref sig .tc .vmem S512x1 .i32) (harg16 : arg16.IsWhole) (arg17 : Memref sig .tc .vmem S2048x384 .f32) (harg17 : arg17.IsWhole) (arg18 : Memref sig .tc .vmem S2048x384 .f32) (harg18 : arg18.IsWhole) (arg19 : Memref sig .tc .vmem S512x256 .bf16) (harg19 : arg19.IsWhole) (arg20 : Memref sig .tc .vmem S512x512 .bf16) (harg20 : arg20.IsWhole) (arg21 : Memref sig .tc .vmem S512x384 .bf16) (harg21 : arg21.IsWhole) (arg22 : Memref sig .tc .vmem S8x512 .bf16) (harg22 : arg22.IsWhole) (arg23 : Memref sig .tc .vmem S8x128 .i32) (harg23 : arg23.IsWhole) (hb : Branches i)
    (x0 : Vec F S1024x11 .f32) (x1 : Vec F S1024x1 .i32) (x2 : Vec F S1024x1 .i32) (x3 : Vec F S11x256 .f32) (x4 : Vec F S1x256 .f32) (x5 : Vec F S11x512 .f32) (x6 : Vec F S256x512 .bf16) (x7 : Vec F S1x512 .f32) (x8 : Vec F S512x384 .bf16) (x9 : Vec F S1x384 .f32) (x10 : Vec F S512x3 .f32) (x11 : Vec F S3x128 .f32) (x12 : Vec F S1x128 .f32) (x13 : Vec F S128x384 .f32) (x14 : Vec F S1x384 .f32) (x15 : Vec F S512x1 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
  rcases hb with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
  all_goals
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    iexists _, _; isplitr; swap; · iexact H22
    ipureintro; rfl

end Cert.KernelIdeal.Gen

end
-- ==== Proof.KernelIdealFrame.lean ====
/- The frame of `Cert.KernelIdeal`: the body's triple at every grid point, the launch, and the arguments unchanged. -/
module

public import proofs.«01_k».proof.Proof.KernelIdealBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev sc0 : Memref sig .tc .vmem S512x256 .bf16 := Memref.whole cc0_scratch0
abbrev sc1 : Memref sig .tc .vmem S512x512 .bf16 := Memref.whole cc0_scratch1
abbrev sc2 : Memref sig .tc .vmem S512x384 .bf16 := Memref.whole cc0_scratch2
abbrev sc3 : Memref sig .tc .vmem S8x512 .bf16 := Memref.whole cc0_scratch3
abbrev sc4 : Memref sig .tc .vmem S8x128 .i32 := Memref.whole cc0_scratch4

/-- The class invariant, the scratch buffers one by one. -/
theorem classInv_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

abbrev st0 (t : Fin cfg0.N) : Memref sig .tc .vmem S1024x11 .f32 := win0_0.stage (cfg0.slots t 0)
abbrev st1 (t : Fin cfg0.N) : Memref sig .tc .vmem S1024x1 .i32 := win0_1.stage (cfg0.slots t 1)
abbrev st2 (t : Fin cfg0.N) : Memref sig .tc .vmem S1024x1 .i32 := win0_2.stage (cfg0.slots t 2)
abbrev st3 (t : Fin cfg0.N) : Memref sig .tc .vmem S11x256 .f32 := win0_3.stage (cfg0.slots t 3)
abbrev st4 (t : Fin cfg0.N) : Memref sig .tc .vmem S1x256 .f32 := win0_4.stage (cfg0.slots t 4)
abbrev st5 (t : Fin cfg0.N) : Memref sig .tc .vmem S11x512 .f32 := win0_5.stage (cfg0.slots t 5)
abbrev st6 (t : Fin cfg0.N) : Memref sig .tc .vmem S256x512 .bf16 := win0_6.stage (cfg0.slots t 6)
abbrev st7 (t : Fin cfg0.N) : Memref sig .tc .vmem S1x512 .f32 := win0_7.stage (cfg0.slots t 7)
abbrev st8 (t : Fin cfg0.N) : Memref sig .tc .vmem S512x384 .bf16 := win0_8.stage (cfg0.slots t 8)
abbrev st9 (t : Fin cfg0.N) : Memref sig .tc .vmem S1x384 .f32 := win0_9.stage (cfg0.slots t 9)
abbrev st10 (t : Fin cfg0.N) : Memref sig .tc .vmem S512x3 .f32 := win0_10.stage (cfg0.slots t 10)
abbrev st11 (t : Fin cfg0.N) : Memref sig .tc .vmem S3x128 .f32 := win0_11.stage (cfg0.slots t 11)
abbrev st12 (t : Fin cfg0.N) : Memref sig .tc .vmem S1x128 .f32 := win0_12.stage (cfg0.slots t 12)
abbrev st13 (t : Fin cfg0.N) : Memref sig .tc .vmem S128x384 .f32 := win0_13.stage (cfg0.slots t 13)
abbrev st14 (t : Fin cfg0.N) : Memref sig .tc .vmem S1x384 .f32 := win0_14.stage (cfg0.slots t 14)
abbrev st15 (t : Fin cfg0.N) : Memref sig .tc .vmem S512x1 .i32 := win0_15.stage (cfg0.slots t 15)
abbrev st16 (t : Fin cfg0.N) : Memref sig .tc .vmem S2048x384 .f32 := win0_16.stage (cfg0.slots t 16)
abbrev st17 (t : Fin cfg0.N) : Memref sig .tc .vmem S2048x384 .f32 := win0_17.stage (cfg0.slots t 17)

/-- The outputs whose contents the frame does not name. -/
def outWins : Fin 18 → Bool := fun w => w.val == 16 || w.val == 17

/-- The proof data of the frame: the inputs at their blocks, the outputs unnamed, the scratch at anything. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter0 (c : Dev nD) (t : Fin cfg0.N) : (fdats m 0 c).after 0 t = iblk m c 0 t := by dsimp only [fdats]
theorem fafter1 (c : Dev nD) (t : Fin cfg0.N) : (fdats m 0 c).after 1 t = iblk m c 1 t := by dsimp only [fdats]
theorem fafter2 (c : Dev nD) (t : Fin cfg0.N) : (fdats m 0 c).after 2 t = iblk m c 2 t := by dsimp only [fdats]
theorem fafter3 (c : Dev nD) (t : Fin cfg0.N) : (fdats m 0 c).after 3 t = iblk m c 3 t := by dsimp only [fdats]
theorem fafter4 (c : Dev nD) (t : Fin cfg0.N) : (fdats m 0 c).after 4 t = iblk m c 4 t := by dsimp only [fdats]
theorem fafter5 (c : Dev nD) (t : Fin cfg0.N) : (fdats m 0 c).after 5 t = iblk m c 5 t := by dsimp only [fdats]
theorem fafter6 (c : Dev nD) (t : Fin cfg0.N) : (fdats m 0 c).after 6 t = iblk m c 6 t := by dsimp only [fdats]
theorem fafter7 (c : Dev nD) (t : Fin cfg0.N) : (fdats m 0 c).after 7 t = iblk m c 7 t := by dsimp only [fdats]
theorem fafter8 (c : Dev nD) (t : Fin cfg0.N) : (fdats m 0 c).after 8 t = iblk m c 8 t := by dsimp only [fdats]
theorem fafter9 (c : Dev nD) (t : Fin cfg0.N) : (fdats m 0 c).after 9 t = iblk m c 9 t := by dsimp only [fdats]
theorem fafter10 (c : Dev nD) (t : Fin cfg0.N) : (fdats m 0 c).after 10 t = iblk m c 10 t := by dsimp only [fdats]
theorem fafter11 (c : Dev nD) (t : Fin cfg0.N) : (fdats m 0 c).after 11 t = iblk m c 11 t := by dsimp only [fdats]
theorem fafter12 (c : Dev nD) (t : Fin cfg0.N) : (fdats m 0 c).after 12 t = iblk m c 12 t := by dsimp only [fdats]
theorem fafter13 (c : Dev nD) (t : Fin cfg0.N) : (fdats m 0 c).after 13 t = iblk m c 13 t := by dsimp only [fdats]
theorem fafter14 (c : Dev nD) (t : Fin cfg0.N) : (fdats m 0 c).after 14 t = iblk m c 14 t := by dsimp only [fdats]
theorem fafter15 (c : Dev nD) (t : Fin cfg0.N) : (fdats m 0 c).after 15 t = iblk m c 15 t := by dsimp only [fdats]
theorem fbefore0 (c : Dev nD) (t : Fin cfg0.N) (d) : (fdats m 0 c).before 0 t d = iblk m c 0 t := before0_0_of m (fdats m 0 c) (fA_eq m c 0) (fafter0 m c) t d
theorem fbefore1 (c : Dev nD) (t : Fin cfg0.N) (d) : (fdats m 0 c).before 1 t d = iblk m c 1 t := before0_1_of m (fdats m 0 c) (fA_eq m c 1) (fafter1 m c) t d
theorem fbefore2 (c : Dev nD) (t : Fin cfg0.N) (d) : (fdats m 0 c).before 2 t d = iblk m c 2 t := before0_2_of m (fdats m 0 c) (fA_eq m c 2) (fafter2 m c) t d
theorem fbefore3 (c : Dev nD) (t : Fin cfg0.N) (d) : (fdats m 0 c).before 3 t d = iblk m c 3 t := before0_3_of m (fdats m 0 c) (fA_eq m c 3) (fafter3 m c) t d
theorem fbefore4 (c : Dev nD) (t : Fin cfg0.N) (d) : (fdats m 0 c).before 4 t d = iblk m c 4 t := before0_4_of m (fdats m 0 c) (fA_eq m c 4) (fafter4 m c) t d
theorem fbefore5 (c : Dev nD) (t : Fin cfg0.N) (d) : (fdats m 0 c).before 5 t d = iblk m c 5 t := before0_5_of m (fdats m 0 c) (fA_eq m c 5) (fafter5 m c) t d
theorem fbefore6 (c : Dev nD) (t : Fin cfg0.N) (d) : (fdats m 0 c).before 6 t d = iblk m c 6 t := before0_6_of m (fdats m 0 c) (fA_eq m c 6) (fafter6 m c) t d
theorem fbefore7 (c : Dev nD) (t : Fin cfg0.N) (d) : (fdats m 0 c).before 7 t d = iblk m c 7 t := before0_7_of m (fdats m 0 c) (fA_eq m c 7) (fafter7 m c) t d
theorem fbefore8 (c : Dev nD) (t : Fin cfg0.N) (d) : (fdats m 0 c).before 8 t d = iblk m c 8 t := before0_8_of m (fdats m 0 c) (fA_eq m c 8) (fafter8 m c) t d
theorem fbefore9 (c : Dev nD) (t : Fin cfg0.N) (d) : (fdats m 0 c).before 9 t d = iblk m c 9 t := before0_9_of m (fdats m 0 c) (fA_eq m c 9) (fafter9 m c) t d
theorem fbefore10 (c : Dev nD) (t : Fin cfg0.N) (d) : (fdats m 0 c).before 10 t d = iblk m c 10 t := before0_10_of m (fdats m 0 c) (fA_eq m c 10) (fafter10 m c) t d
theorem fbefore11 (c : Dev nD) (t : Fin cfg0.N) (d) : (fdats m 0 c).before 11 t d = iblk m c 11 t := before0_11_of m (fdats m 0 c) (fA_eq m c 11) (fafter11 m c) t d
theorem fbefore12 (c : Dev nD) (t : Fin cfg0.N) (d) : (fdats m 0 c).before 12 t d = iblk m c 12 t := before0_12_of m (fdats m 0 c) (fA_eq m c 12) (fafter12 m c) t d
theorem fbefore13 (c : Dev nD) (t : Fin cfg0.N) (d) : (fdats m 0 c).before 13 t d = iblk m c 13 t := before0_13_of m (fdats m 0 c) (fA_eq m c 13) (fafter13 m c) t d
theorem fbefore14 (c : Dev nD) (t : Fin cfg0.N) (d) : (fdats m 0 c).before 14 t d = iblk m c 14 t := before0_14_of m (fdats m 0 c) (fA_eq m c 14) (fafter14 m c) t d
theorem fbefore15 (c : Dev nD) (t : Fin cfg0.N) (d) : (fdats m 0 c).before 15 t d = iblk m c 15 t := before0_15_of m (fdats m 0 c) (fA_eq m c 15) (fafter15 m c) t d
theorem fleaves0 (c : Dev nD) (t : Fin cfg0.N) :
    (fdats m 0 c).leavesExact 0 t = owns (c : Thread nD τ) (st0 t) fullShare (iblk m c 0 t) := by
  unfold Dat.leavesExact; rw [show cfg0.idle 0 (grid0.coords t) = false from rfl, fafter0]
theorem fleaves1 (c : Dev nD) (t : Fin cfg0.N) :
    (fdats m 0 c).leavesExact 1 t = owns (c : Thread nD τ) (st1 t) fullShare (iblk m c 1 t) := by
  unfold Dat.leavesExact; rw [show cfg0.idle 1 (grid0.coords t) = false from rfl, fafter1]
theorem fleaves2 (c : Dev nD) (t : Fin cfg0.N) :
    (fdats m 0 c).leavesExact 2 t = owns (c : Thread nD τ) (st2 t) fullShare (iblk m c 2 t) := by
  unfold Dat.leavesExact; rw [show cfg0.idle 2 (grid0.coords t) = false from rfl, fafter2]
theorem fleaves3 (c : Dev nD) (t : Fin cfg0.N) :
    (fdats m 0 c).leavesExact 3 t = owns (c : Thread nD τ) (st3 t) fullShare (iblk m c 3 t) := by
  unfold Dat.leavesExact; rw [show cfg0.idle 3 (grid0.coords t) = false from rfl, fafter3]
theorem fleaves4 (c : Dev nD) (t : Fin cfg0.N) :
    (fdats m 0 c).leavesExact 4 t = owns (c : Thread nD τ) (st4 t) fullShare (iblk m c 4 t) := by
  unfold Dat.leavesExact; rw [show cfg0.idle 4 (grid0.coords t) = false from rfl, fafter4]
theorem fleaves5 (c : Dev nD) (t : Fin cfg0.N) :
    (fdats m 0 c).leavesExact 5 t = owns (c : Thread nD τ) (st5 t) fullShare (iblk m c 5 t) := by
  unfold Dat.leavesExact; rw [show cfg0.idle 5 (grid0.coords t) = false from rfl, fafter5]
theorem fleaves6 (c : Dev nD) (t : Fin cfg0.N) :
    (fdats m 0 c).leavesExact 6 t = owns (c : Thread nD τ) (st6 t) fullShare (iblk m c 6 t) := by
  unfold Dat.leavesExact; rw [show cfg0.idle 6 (grid0.coords t) = false from rfl, fafter6]
theorem fleaves7 (c : Dev nD) (t : Fin cfg0.N) :
    (fdats m 0 c).leavesExact 7 t = owns (c : Thread nD τ) (st7 t) fullShare (iblk m c 7 t) := by
  unfold Dat.leavesExact; rw [show cfg0.idle 7 (grid0.coords t) = false from rfl, fafter7]
theorem fleaves8 (c : Dev nD) (t : Fin cfg0.N) :
    (fdats m 0 c).leavesExact 8 t = owns (c : Thread nD τ) (st8 t) fullShare (iblk m c 8 t) := by
  unfold Dat.leavesExact; rw [show cfg0.idle 8 (grid0.coords t) = false from rfl, fafter8]
theorem fleaves9 (c : Dev nD) (t : Fin cfg0.N) :
    (fdats m 0 c).leavesExact 9 t = owns (c : Thread nD τ) (st9 t) fullShare (iblk m c 9 t) := by
  unfold Dat.leavesExact; rw [show cfg0.idle 9 (grid0.coords t) = false from rfl, fafter9]
theorem fleaves10 (c : Dev nD) (t : Fin cfg0.N) :
    (fdats m 0 c).leavesExact 10 t = owns (c : Thread nD τ) (st10 t) fullShare (iblk m c 10 t) := by
  unfold Dat.leavesExact; rw [show cfg0.idle 10 (grid0.coords t) = false from rfl, fafter10]
theorem fleaves11 (c : Dev nD) (t : Fin cfg0.N) :
    (fdats m 0 c).leavesExact 11 t = owns (c : Thread nD τ) (st11 t) fullShare (iblk m c 11 t) := by
  unfold Dat.leavesExact; rw [show cfg0.idle 11 (grid0.coords t) = false from rfl, fafter11]
theorem fleaves12 (c : Dev nD) (t : Fin cfg0.N) :
    (fdats m 0 c).leavesExact 12 t = owns (c : Thread nD τ) (st12 t) fullShare (iblk m c 12 t) := by
  unfold Dat.leavesExact; rw [show cfg0.idle 12 (grid0.coords t) = false from rfl, fafter12]
theorem fleaves13 (c : Dev nD) (t : Fin cfg0.N) :
    (fdats m 0 c).leavesExact 13 t = owns (c : Thread nD τ) (st13 t) fullShare (iblk m c 13 t) := by
  unfold Dat.leavesExact; rw [show cfg0.idle 13 (grid0.coords t) = false from rfl, fafter13]
theorem fleaves14 (c : Dev nD) (t : Fin cfg0.N) :
    (fdats m 0 c).leavesExact 14 t = owns (c : Thread nD τ) (st14 t) fullShare (iblk m c 14 t) := by
  unfold Dat.leavesExact; rw [show cfg0.idle 14 (grid0.coords t) = false from rfl, fafter14]
theorem fleaves15 (c : Dev nD) (t : Fin cfg0.N) :
    (fdats m 0 c).leavesExact 15 t = owns (c : Thread nD τ) (st15 t) fullShare (iblk m c 15 t) := by
  unfold Dat.leavesExact; rw [show cfg0.idle 15 (grid0.coords t) = false from rfl, fafter15]

/-- What the body is called with at point `t`, window by window. -/
def framePre (c : Dev nD) (t : Fin cfg0.N) : sProp 𝕄 :=
  iprop((fdats m 0 c).Φ t.castSucc ∗ (fdats m 0 c).owesAt () t.castSucc
    ∗ (∃ d, owns (c : Thread nD τ) (st0 t) fullShare ((fdats m 0 c).before 0 t d))
    ∗ (∃ d, owns (c : Thread nD τ) (st1 t) fullShare ((fdats m 0 c).before 1 t d))
    ∗ (∃ d, owns (c : Thread nD τ) (st2 t) fullShare ((fdats m 0 c).before 2 t d))
    ∗ (∃ d, owns (c : Thread nD τ) (st3 t) fullShare ((fdats m 0 c).before 3 t d))
    ∗ (∃ d, owns (c : Thread nD τ) (st4 t) fullShare ((fdats m 0 c).before 4 t d))
    ∗ (∃ d, owns (c : Thread nD τ) (st5 t) fullShare ((fdats m 0 c).before 5 t d))
    ∗ (∃ d, owns (c : Thread nD τ) (st6 t) fullShare ((fdats m 0 c).before 6 t d))
    ∗ (∃ d, owns (c : Thread nD τ) (st7 t) fullShare ((fdats m 0 c).before 7 t d))
    ∗ (∃ d, owns (c : Thread nD τ) (st8 t) fullShare ((fdats m 0 c).before 8 t d))
    ∗ (∃ d, owns (c : Thread nD τ) (st9 t) fullShare ((fdats m 0 c).before 9 t d))
    ∗ (∃ d, owns (c : Thread nD τ) (st10 t) fullShare ((fdats m 0 c).before 10 t d))
    ∗ (∃ d, owns (c : Thread nD τ) (st11 t) fullShare ((fdats m 0 c).before 11 t d))
    ∗ (∃ d, owns (c : Thread nD τ) (st12 t) fullShare ((fdats m 0 c).before 12 t d))
    ∗ (∃ d, owns (c : Thread nD τ) (st13 t) fullShare ((fdats m 0 c).before 13 t d))
    ∗ (∃ d, owns (c : Thread nD τ) (st14 t) fullShare ((fdats m 0 c).before 14 t d))
    ∗ (∃ d, owns (c : Thread nD τ) (st15 t) fullShare ((fdats m 0 c).before 15 t d))
    ∗ (∃ d, owns (c : Thread nD τ) (st16 t) fullShare d)
    ∗ (∃ d, owns (c : Thread nD τ) (st17 t) fullShare d))

/-- What it returns. -/
def framePost (c : Dev nD) (t : Fin cfg0.N) : sProp 𝕄 :=
  iprop((fdats m 0 c).Φ t.succ ∗ (fdats m 0 c).owesAt () t.succ
    ∗ (fdats m 0 c).leavesExact 0 t
    ∗ (fdats m 0 c).leavesExact 1 t
    ∗ (fdats m 0 c).leavesExact 2 t
    ∗ (fdats m 0 c).leavesExact 3 t
    ∗ (fdats m 0 c).leavesExact 4 t
    ∗ (fdats m 0 c).leavesExact 5 t
    ∗ (fdats m 0 c).leavesExact 6 t
    ∗ (fdats m 0 c).leavesExact 7 t
    ∗ (fdats m 0 c).leavesExact 8 t
    ∗ (fdats m 0 c).leavesExact 9 t
    ∗ (fdats m 0 c).leavesExact 10 t
    ∗ (fdats m 0 c).leavesExact 11 t
    ∗ (fdats m 0 c).leavesExact 12 t
    ∗ (fdats m 0 c).leavesExact 13 t
    ∗ (fdats m 0 c).leavesExact 14 t
    ∗ (fdats m 0 c).leavesExact 15 t
    ∗ (∃ d, owns (c : Thread nD τ) (st16 t) fullShare d)
    ∗ (∃ d, owns (c : Thread nD τ) (st17 t) fullShare d))

set_option maxHeartbeats 4000000 in
/-- The body at any point. -/
theorem frame_body (c : Dev nD) (t : Fin cfg0.N) :
    framePre m c t ⊢ wp frame (wpE (defs₀ (F := F)) Variants.none c none) Set.univ (bodyAt0 t) (fun _ => framePost m c t) := by
  unfold framePre framePost bodyAt0
  simp only [fbefore0, fleaves0, fbefore1, fleaves1, fbefore2, fleaves2, fbefore3, fleaves3, fbefore4, fleaves4, fbefore5, fleaves5, fbefore6, fleaves6, fbefore7, fleaves7, fbefore8, fleaves8, fbefore9, fleaves9, fbefore10, fleaves10, fbefore11, fleaves11, fbefore12, fleaves12, fbefore13, fleaves13, fbefore14, fleaves14, fbefore15, fleaves15]
  rw [show (fdats m 0 c).owesAt () t.succ = (fdats m 0 c).owesAt () t.castSucc from rfl,
    show (fdats m 0 c).Φ t.succ = Pipeline.ΦA spec0 c from rfl, show (fdats m 0 c).Φ t.castSucc = Pipeline.ΦA spec0 c from rfl, classInv_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, H17⟩
  iapply (body_any c (grid0.coords t) _ _ _ _ _ _ _ _ _ _ _ _ _ _ _ _ _ _ _ _ _ _ _ _ _ _ _ _ _ _ _ _ _ _ _ _ _ _ _ _ _ _ _ _ _ _ (branches t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body at that point. -/
theorem body_row (t : Fin cfg0.N) :
    defs₀ (F := F) .tc cfg0.body (cfg0.bodyArgs t (cfg0.slots t)) = bodyAt0 t := by
  unfold defs₀; rw [Defs.onTc_tc]

/-- The library's body obligation, at every point. -/
theorem frame_obligation (c : Dev nD) : BodyObligation (fdats (F := F) m 0 c) (defs₀ (F := F)) Variants.none () Set.univ outWins := fun t => by
  rw [bigSep_W0, bigSep_W0, body_row]
  exact triple_restated (frame_body m c t) rfl .rfl fun _ => .rfl

set_option backward.isDefEq.respectTransparency.types false in
/-- The launch: every execution ends, with the arrays as the frame says and every counter at zero. -/
theorem frame_run : θ_run defs (onTc (τ := τ) (main (F := F))) (s₀ m ρ)
    (fun r => (Pipeline.RDat.FramePost (cfgs 0) (fun c => (fdats m 0 c).toRForget outWins) (V m)) r ∧ r.2.sem = fun _ => 0) :=
  Pipeline.θ_run_frame_track_forget (Q' := _) cfgs (fdats m) (0 : Fin 1) launch0 defs₀ Variants.none outWins m ρ main
    (hbody := fun c => (frame_obligation m c).loose) (hshare := fun c => (fdats m 0 c).share_full fun _ => rfl)
    (howed := fun _ _ => rfl) (V := V m) (hmain := hmain m Variants.none) (hA := fA_eq m)
    (hin := fun c => by dsimp only [fdats]; exact Idealize.SL.BI.Entails.refl _)
    (hout := fun c => by dsimp only [fdats]; exact Idealize.SL.BI.Entails.refl _)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c)⟩, h.2⟩) (frame_run m ρ)

end Cert.KernelIdeal.Gen

end
-- ==== Proof.Steps.lean ====
/- What one grid point of the kernel does to the five scratch buffers and the outputs, as functions of what it loads. -/
module

public import proofs.«01_k».proof.Proof.Gen.KernelIdeal.Skeleton
public import Idealize.ShloMosaic.Lib.VecWindow

@[expose] public section

set_option maxRecDepth 16384

noncomputable section

namespace Cert.KernelIdeal.Gen

open Idealize.ShloMosaic

/-- A load at a rectangle reads a window of what the view reads. -/
theorem readAt_win {sig : RefSig} {κ : Kind} {sp : Space} {s : Shape} {e : EltTy} {Val : EltTy → Type} (v : View sig κ sp s e)
    (f : v.ty.Contents Val) {off size : Fin s.rank → ℕ} (inb : ∀ a, off a + size a ≤ s.size a) :
    v.readAt Val (Rect.unit off size inb).toLoadRect f = VecWindow.window (v.read Val f) off size inb :=
  View.readAt_unit v f inb rfl inb

/-- A store at a rectangle over earlier stores leaves what those left with the payload put there. -/
theorem read_writes_put {sig : RefSig} {κ : Kind} {sp : Space} {s : Shape} {e : EltTy} {Val : EltTy → Type} (v : View sig κ sp s e)
    (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- The window of a whole two-axis array is the array. -/
theorem window_whole {a b : ℕ} {α : Type} (x : (⟨2, ![a, b]⟩ : Shape).Idx → α)
    (inb : ∀ k, (![0, 0] : Fin 2 → ℕ) k + (![a, b] : Fin 2 → ℕ) k ≤ (![a, b] : Fin 2 → ℕ) k) :
    VecWindow.window (s := ⟨2, ![a, b]⟩) x ![0, 0] ![a, b] inb = x := by
  funext y
  exact congrArg x (funext fun k => Fin.ext (by
    match k with
    | ⟨0, _⟩ => show 0 + 1 * (y 0).val = (y 0).val; omega
    | ⟨1, _⟩ => show 0 + 1 * (y 1).val = (y 1).val; omega))

/-- Putting a whole two-axis array leaves it. -/
theorem put_whole {a b : ℕ} {α : Type} (x w : (⟨2, ![a, b]⟩ : Shape).Idx → α) :
    VecWindow.put (s := ⟨2, ![a, b]⟩) x ![0, 0] ![a, b] w = w := by
  have inb : ∀ k, (![0, 0] : Fin 2 → ℕ) k + (![a, b] : Fin 2 → ℕ) k ≤ (![a, b] : Fin 2 → ℕ) k := by
    intro k; match k with
    | ⟨0, _⟩ => show 0 + a ≤ a; omega
    | ⟨1, _⟩ => show 0 + b ≤ b; omega
  rw [VecWindow.put_eq_updateSlice (s := ⟨2, ![a, b]⟩) x _ _ inb]
  funext y
  have h : ∀ k : Fin 2, (![0, 0] : Fin 2 → ℕ) k ≤ (y k).val ∧ (y k).val < (![0, 0] : Fin 2 → ℕ) k + (![a, b] : Fin 2 → ℕ) k := by
    intro k; match k with
    | ⟨0, _⟩ => exact ⟨Nat.zero_le _, by show (y 0).val < 0 + a; have : (y 0).val < a := (y 0).isLt; omega⟩
    | ⟨1, _⟩ => exact ⟨Nat.zero_le _, by show (y 1).val < 0 + b; have : (y 1).val < b := (y 1).isLt; omega⟩
  refine (dif_pos h).trans (congrArg w (funext fun k => Fin.ext ?_))
  match k with
  | ⟨0, _⟩ => exact Nat.sub_zero _
  | ⟨1, _⟩ => exact Nat.sub_zero _

variable {F : FTy → Type} [FloatOps F] [Named F]

/-- The identifier carried from the block before. -/
def cidOf (y4 : Vec F S8x128 .i32) : Vec F S1x1 .i32 := VecWindow.window y4 ![0, 0] S1x1.size inb_S8x128_S1x1_0_0
/-- The first 256 entries of the carried row. -/
def crow256 (y3 : Vec F S8x512 .bf16) : Vec F S1x256 .bf16 := VecWindow.window y3 ![0, 0] S1x256.size inb_S8x512_S1x256_0_0
/-- The first 384 entries of the carried row. -/
def crow384 (y3 : Vec F S8x512 .bf16) : Vec F S1x384 .bf16 := VecWindow.window y3 ![0, 0] S1x384.size inb_S8x512_S1x384_0_0
/-- The carried identifier replaced. -/
def putId (y4 : Vec F S8x128 .i32) (v : IVec S1x1 32) : Vec F S8x128 .i32 := VecWindow.put y4 ![0, 0] S1x1.size v
/-- The carried row's first 256 entries replaced. -/
def putRow256 (y3 : Vec F S8x512 .bf16) (v : FVec F S1x256 .bf16) : Vec F S8x512 .bf16 :=
  VecWindow.put y3 ![0, 0] S2x256.size
    (updateSlice (s := S2x256) (VecWindow.window y3 ![0, 0] S2x256.size inb_S8x512_S2x256_0_0) v ![0, 0] slices_S2x256_S1x256_0_0)
/-- The carried row's first 384 entries replaced. -/
def putRow384 (y3 : Vec F S8x512 .bf16) (v : FVec F S1x384 .bf16) : Vec F S8x512 .bf16 :=
  VecWindow.put y3 ![0, 0] S2x384.size
    (updateSlice (s := S2x384) (VecWindow.window y3 ![0, 0] S2x384.size inb_S8x512_S2x384_0_0) v ![0, 0] slices_S2x384_S1x384_0_0)

/-- The row numbers of a block. -/
def rowsOf : IVec S1024x1 32 := iota .tc S1024x1 32 [0] iota_S1024x1_d0_w32

section First

variable (x0 : Vec F S1024x11 .f32) (x1 x2 : Vec F S1024x1 .i32) (x3 : Vec F S11x256 .f32) (x4 : Vec F S1x256 .f32)

/-- The first sweep's running maxima within a block, up to the step of 128 rows. -/
def mid1 : FVec F S1024x256 .bf16 :=
  k0_pay25 (k0_pay14 x1) rowsOf
    (k0_pay20 (k0_pay14 x1) rowsOf (k0_pay16 x1 x0 x3 x4) (k0_pay17 x1 x0 x3 x4) (k0_pay18 x1) (k0_pay19))
    (k0_pay21 (k0_pay14 x1) rowsOf (k0_pay16 x1 x0 x3 x4) (k0_pay17 x1 x0 x3 x4) (k0_pay18 x1) (k0_pay19))
    (k0_pay22 (k0_pay14 x1) rowsOf) (k0_pay23 (F := F)) (k0_pay24 (F := F))
/-- The first sweep's running maxima, the carried row included. -/
def fix1 (y3 : Vec F S8x512 .bf16) (y4 : Vec F S8x128 .i32) : FVec F S1024x256 .bf16 :=
  k0_pay26 (k0_pay14 x1) rowsOf (mid1 x0 x1 x3 x4) 256#32 (cidOf y4) (crow256 y3)
/-- The last row of them. -/
def last1 (y3 : Vec F S8x512 .bf16) (y4 : Vec F S8x128 .i32) : FVec F S1x256 .bf16 :=
  k0_pay3 (k0_pay27 (k0_pay14 x1) rowsOf (mid1 x0 x1 x3 x4) 256#32 (cidOf y4) (crow256 y3))
/-- The accumulator after the block. -/
def acc1 (y0 : Vec F S512x256 .bf16) (y3 : Vec F S8x512 .bf16) (y4 : Vec F S8x128 .i32) : FVec F S512x256 .bf16 :=
  k0_pay5 (k0_pay15 x1 x2) (fix1 x0 x1 x3 x4 y3 y4) y0

end First

section Second

variable (x0 : Vec F S1024x11 .f32) (x1 x2 : Vec F S1024x1 .i32) (x5 : Vec F S11x512 .f32) (x8 : Vec F S512x384 .bf16)
  (x9 : Vec F S1x384 .f32) (y1 : Vec F S512x512 .bf16)

/-- The second sweep's running maxima within a block. -/
def mid2 : FVec F S1024x384 .bf16 :=
  k0_pay40 (k0_pay28 x1) rowsOf (k0_pay39 (k0_pay28 x1) rowsOf
    (k0_pay35 (k0_pay28 x1) (k0_pay31 x1 y1 x0 x5 x8 x9) rowsOf (k0_pay32 x1 y1 x0 x5 x8 x9) (k0_pay33 x1) (k0_pay34))
    (k0_pay36 (k0_pay28 x1) (k0_pay31 x1 y1 x0 x5 x8 x9) rowsOf (k0_pay32 x1 y1 x0 x5 x8 x9) (k0_pay33 x1) (k0_pay34))
    (k0_pay37 (k0_pay28 x1) rowsOf) (Named.named κ "mask" 0xF149F2CA#32 : F .f32) (k0_pay38 (F := F)))
/-- The last row of the second sweep's running maxima. -/
def last2 (y3 : Vec F S8x512 .bf16) (y4 : Vec F S8x128 .i32) : FVec F S1x384 .bf16 :=
  k0_pay10 (k0_pay28 x1) (mid2 x0 x1 x5 x8 x9 y1) (cidOf y4) (crow384 y3)
/-- The accumulator after the block. -/
def acc2 (y2 : Vec F S512x384 .bf16) (y3 : Vec F S8x512 .bf16) (y4 : Vec F S8x128 .i32) : FVec F S512x384 .bf16 :=
  k0_pay12 (k0_pay28 x1) (k0_pay30 x1 x2) (mid2 x0 x1 x5 x8 x9 y1) (cidOf y4) (crow384 y3) y2

end Second

section Tail

variable (x15 : Vec F S512x1 .i32)

/-- The row numbers of a chunk of 256 output rows. -/
def rows256 : IVec S256x1 32 := iota .tc S256x1 32 [0] iota_S256x1_d0_w32
/-- For each output row of chunk 0, one at the source row it copies. -/
def oh0 : FVec F S256x512 .bf16 := k0_pay48 (k0_pay43 x15) (k0_pay44 x15) (k0_pay46 rows256) (k0_pay47 rows256) 0#32
/-- The same of chunk 1. -/
def oh1 : FVec F S256x512 .bf16 :=
  k0_pay58 (k0_pay56 (k0_pay43 x15) k0_pay51 64#32 k0_pay52 k0_pay53 (Scalar.extui (Scalar.cmpi .sgt 64#32 0#32)) (Scalar.extui (Scalar.cmpi .slt 64#32 0#32)))
    (k0_pay57 (k0_pay43 x15) (k0_pay44 x15) k0_pay51 64#32 k0_pay52 k0_pay53 (Scalar.extui (Scalar.cmpi .sgt 64#32 0#32)) (Scalar.extui (Scalar.cmpi .slt 64#32 0#32)))
/-- The same of chunk 2. -/
def oh2 : FVec F S256x512 .bf16 :=
  k0_pay64 (k0_pay43 x15) (k0_pay44 x15) k0_pay62 (Scalar.select (Scalar.cmpi .eq 64#32 0#32) 1#32 64#32) k0_pay63 0#32
/-- The same of chunk 3. -/
def oh3 : FVec F S256x512 .bf16 := k0_pay72 (k0_pay44 x15) (k0_pay68 k0_pay67) (k0_pay69 k0_pay67) (k0_pay70 (k0_pay43 x15)) k0_pay71
/-- The same of chunk 4. -/
def oh4 : FVec F S256x512 .bf16 := k0_pay79 (k0_pay78 (F := F) (k0_pay43 x15) (k0_pay44 x15) k0_pay75 64#32 k0_pay76 k0_pay77)
/-- The same of chunk 5. -/
def oh5 : FVec F S256x512 .bf16 :=
  k0_pay86 (k0_pay43 x15) (k0_pay44 x15) k0_pay83 (Scalar.select (Scalar.cmpi .eq 64#32 0#32) 1#32 64#32) k0_pay84 k0_pay85 0#32
/-- The same of chunk 6. -/
def oh6 : FVec F S256x512 .bf16 :=
  k0_pay94 (k0_pay44 x15) (k0_pay91 k0_pay89) (k0_pay92 k0_pay89 64#32 k0_pay90) (k0_pay93 (k0_pay43 x15) k0_pay89 64#32 k0_pay90)
/-- The same of chunk 7. -/
def oh7 : FVec F S256x512 .bf16 := k0_pay101 (F := F) (k0_pay43 x15) (k0_pay44 x15) k0_pay97 k0_pay98 k0_pay99 k0_pay100 0#32

/-- A chunk of output rows: the source rows its one-hot matrix picks. -/
def chunk (o : FVec F S256x512 .bf16) (v : FVec F S512x384 .bf16) : FVec F S256x384 .f32 :=
  matmul dot_S256x512_S512x384_S256x384_1_0_0_1_n_n none o v (constant S256x384 .f32 0x00000000#32)

/-- An output with its eight chunks put in place. -/
def putChunks (d : Vec F S2048x384 .f32) (v : FVec F S512x384 .bf16) : Vec F S2048x384 .f32 :=
  VecWindow.put (s := S2048x384) (VecWindow.put (s := S2048x384) (VecWindow.put (s := S2048x384) (VecWindow.put (s := S2048x384)
    (VecWindow.put (s := S2048x384) (VecWindow.put (s := S2048x384) (VecWindow.put (s := S2048x384) (VecWindow.put (s := S2048x384) d
      ![0, 0] ![256, 384] (chunk (oh0 x15) v)) ![256, 0] ![256, 384] (chunk (oh1 x15) v)) ![512, 0] ![256, 384] (chunk (oh2 x15) v))
      ![768, 0] ![256, 384] (chunk (oh3 x15) v)) ![1024, 0] ![256, 384] (chunk (oh4 x15) v)) ![1280, 0] ![256, 384] (chunk (oh5 x15) v))
      ![1536, 0] ![256, 384] (chunk (oh6 x15) v)) ![1792, 0] ![256, 384] (chunk (oh7 x15) v)

end Tail

end Cert.KernelIdeal.Gen

end
-- ==== Proof.BodyA.lean ====
/- The kernel body run at the first point, from known scratch contents to known scratch contents. -/
module

public import proofs.«01_k».proof.Proof.KernelIdealBody
public import proofs.«01_k».proof.Proof.Steps
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at the first point. -/
theorem body_A (c : Dev nD) (i : grid0.Coords) (arg1 : Memref sig .tc .vmem S1024x11 .f32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S11x256 .f32) (harg4 : arg4.IsWhole) (arg5 : Memref sig .tc .vmem S1x256 .f32) (harg5 : arg5.IsWhole) (arg6 : Memref sig .tc .vmem S11x512 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S512x384 .bf16) (harg9 : arg9.IsWhole) (arg10 : Memref sig .tc .vmem S1x384 .f32) (harg10 : arg10.IsWhole) (arg11 : Memref sig .tc .vmem S512x3 .f32) (harg11 : arg11.IsWhole) (arg12 : Memref sig .tc .vmem S3x128 .f32) (harg12 : arg12.IsWhole) (arg13 : Memref sig .tc .vmem S1x128 .f32) (harg13 : arg13.IsWhole) (arg14 : Memref sig .tc .vmem S128x384 .f32) (harg14 : arg14.IsWhole) (arg15 : Memref sig .tc .vmem S1x384 .f32) (harg15 : arg15.IsWhole) (arg16 : Memref sig .tc .vmem S512x1 .i32) (harg16 : arg16.IsWhole) (arg17 : Memref sig .tc .vmem S2048x384 .f32) (harg17 : arg17.IsWhole) (arg18 : Memref sig .tc .vmem S2048x384 .f32) (harg18 : arg18.IsWhole) (arg19 : Memref sig .tc .vmem S512x256 .bf16) (harg19 : arg19.IsWhole) (arg20 : Memref sig .tc .vmem S512x512 .bf16) (harg20 : arg20.IsWhole) (arg21 : Memref sig .tc .vmem S512x384 .bf16) (harg21 : arg21.IsWhole) (arg22 : Memref sig .tc .vmem S8x512 .bf16) (harg22 : arg22.IsWhole) (arg23 : Memref sig .tc .vmem S8x128 .i32) (harg23 : arg23.IsWhole) (hc0 : atStart i) (hc1 : inFirst i) (hc2 : ¬ atMiddle i) (hc3 : ¬ inSecond i) (hc4 : ¬ atEnd i)
    (x0 : Vec F S1024x11 .f32) (x1 : Vec F S1024x1 .i32) (x2 : Vec F S1024x1 .i32) (x3 : Vec F S11x256 .f32) (x4 : Vec F S1x256 .f32) (x5 : Vec F S11x512 .f32) (x6 : Vec F S256x512 .bf16) (x7 : Vec F S1x512 .f32) (x8 : Vec F S512x384 .bf16) (x9 : Vec F S1x384 .f32) (x10 : Vec F S512x3 .f32) (x11 : Vec F S3x128 .f32) (x12 : Vec F S1x128 .f32) (x13 : Vec F S128x384 .f32) (x14 : Vec F S1x384 .f32) (x15 : Vec F S512x1 .i32) (y0 : Vec F S512x256 .bf16) (y1 : Vec F S512x512 .bf16) (y2 : Vec F S512x384 .bf16) (y3 : Vec F S8x512 .bf16) (y4 : Vec F S8x128 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ owns (c : Thread nD τ) arg19 fullShare y0 ∗ owns (c : Thread nD τ) arg20 fullShare y1 ∗ owns (c : Thread nD τ) arg21 fullShare y2 ∗ owns (c : Thread nD τ) arg22 fullShare y3 ∗ owns (c : Thread nD τ) arg23 fullShare y4
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ owns (c : Thread nD τ) arg19 fullShare (acc1 x0 x1 x2 x3 x4 k0_pay1 y3 k0_pay2) ∗ owns (c : Thread nD τ) arg20 fullShare y1 ∗ owns (c : Thread nD τ) arg21 fullShare y2 ∗ owns (c : Thread nD τ) arg22 fullShare (putRow256 y3 (last1 x0 x1 x3 x4 y3 k0_pay2)) ∗ owns (c : Thread nD τ) arg23 fullShare (putId k0_pay2 (k0_pay4 (k0_pay14 x1)))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%f18, %hf18, H18⟩, ⟨%f19, %hf19, H19⟩, ⟨%f20, %hf20, H20⟩, ⟨%f21, %hf21, H21⟩, ⟨%f22, %hf22, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg19.eq_unread hf18; obtain rfl := harg20.eq_unread hf19; obtain rfl := harg21.eq_unread hf20; obtain rfl := harg22.eq_unread hf21; obtain rfl := harg23.eq_unread hf22
  sl_exec (disch := first | sl_exact hc0 | sl_exact hc1 | sl_exact hc2 | sl_exact hc3 | sl_exact hc4)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    · ipureintro; exact harg8.read_unread _
    iexact H7
  isplitl [H8]
  · iexists _; isplitr
    · ipureintro; exact harg9.read_unread _
    iexact H8
  isplitl [H9]
  · iexists _; isplitr
    · ipureintro; exact harg10.read_unread _
    iexact H9
  isplitl [H10]
  · iexists _; isplitr
    · ipureintro; exact harg11.read_unread _
    iexact H10
  isplitl [H11]
  · iexists _; isplitr
    · ipureintro; exact harg12.read_unread _
    iexact H11
  isplitl [H12]
  · iexists _; isplitr
    · ipureintro; exact harg13.read_unread _
    iexact H12
  isplitl [H13]
  · iexists _; isplitr
    · ipureintro; exact harg14.read_unread _
    iexact H13
  isplitl [H14]
  · iexists _; isplitr
    · ipureintro; exact harg15.read_unread _
    iexact H14
  isplitl [H15]
  · iexists _; isplitr
    · ipureintro; exact harg16.read_unread _
    iexact H15
  isplitl [H16]
  · iexists _; iexists _; isplitr
    swap; · iexact H16
    · ipureintro; rfl
  isplitl [H17]
  · iexists _; iexists _; isplitr
    swap; · iexact H17
    · ipureintro; rfl
  isplitl [H18]
  · iexists _; isplitr
    swap; · iexact H18
    · ipureintro; (sl_unfold_words; simp only [View.readCov, readAt_win, read_writes_put, View.writes_nil, Memref.IsWhole.read_unread, window_whole, put_whole]; try rfl)
  isplitl [H19]
  · iexists _; isplitr
    · ipureintro; exact harg20.read_unread _
    iexact H19
  isplitl [H20]
  · iexists _; isplitr
    · ipureintro; exact harg21.read_unread _
    iexact H20
  isplitl [H21]
  · iexists _; isplitr
    swap; · iexact H21
    · ipureintro; (sl_unfold_words; simp only [View.readCov, readAt_win, read_writes_put, View.writes_nil, Memref.IsWhole.read_unread, window_whole, put_whole]; try rfl)
  iexists _; isplitr
  swap; · iexact H22
  · ipureintro; (sl_unfold_words; simp only [View.readCov, readAt_win, read_writes_put, View.writes_nil, Memref.IsWhole.read_unread, window_whole, put_whole]; try rfl)

end Cert.KernelIdeal.Gen

end
-- ==== Proof.BodyB.lean ====
/- The kernel body run at a later point of the first sweep, from known scratch contents to known scratch contents. -/
module

public import proofs.«01_k».proof.Proof.KernelIdealBody
public import proofs.«01_k».proof.Proof.Steps
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at a later point of the first sweep. -/
theorem body_B (c : Dev nD) (i : grid0.Coords) (arg1 : Memref sig .tc .vmem S1024x11 .f32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S11x256 .f32) (harg4 : arg4.IsWhole) (arg5 : Memref sig .tc .vmem S1x256 .f32) (harg5 : arg5.IsWhole) (arg6 : Memref sig .tc .vmem S11x512 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S512x384 .bf16) (harg9 : arg9.IsWhole) (arg10 : Memref sig .tc .vmem S1x384 .f32) (harg10 : arg10.IsWhole) (arg11 : Memref sig .tc .vmem S512x3 .f32) (harg11 : arg11.IsWhole) (arg12 : Memref sig .tc .vmem S3x128 .f32) (harg12 : arg12.IsWhole) (arg13 : Memref sig .tc .vmem S1x128 .f32) (harg13 : arg13.IsWhole) (arg14 : Memref sig .tc .vmem S128x384 .f32) (harg14 : arg14.IsWhole) (arg15 : Memref sig .tc .vmem S1x384 .f32) (harg15 : arg15.IsWhole) (arg16 : Memref sig .tc .vmem S512x1 .i32) (harg16 : arg16.IsWhole) (arg17 : Memref sig .tc .vmem S2048x384 .f32) (harg17 : arg17.IsWhole) (arg18 : Memref sig .tc .vmem S2048x384 .f32) (harg18 : arg18.IsWhole) (arg19 : Memref sig .tc .vmem S512x256 .bf16) (harg19 : arg19.IsWhole) (arg20 : Memref sig .tc .vmem S512x512 .bf16) (harg20 : arg20.IsWhole) (arg21 : Memref sig .tc .vmem S512x384 .bf16) (harg21 : arg21.IsWhole) (arg22 : Memref sig .tc .vmem S8x512 .bf16) (harg22 : arg22.IsWhole) (arg23 : Memref sig .tc .vmem S8x128 .i32) (harg23 : arg23.IsWhole) (hc0 : ¬ atStart i) (hc1 : inFirst i) (hc2 : ¬ atMiddle i) (hc3 : ¬ inSecond i) (hc4 : ¬ atEnd i)
    (x0 : Vec F S1024x11 .f32) (x1 : Vec F S1024x1 .i32) (x2 : Vec F S1024x1 .i32) (x3 : Vec F S11x256 .f32) (x4 : Vec F S1x256 .f32) (x5 : Vec F S11x512 .f32) (x6 : Vec F S256x512 .bf16) (x7 : Vec F S1x512 .f32) (x8 : Vec F S512x384 .bf16) (x9 : Vec F S1x384 .f32) (x10 : Vec F S512x3 .f32) (x11 : Vec F S3x128 .f32) (x12 : Vec F S1x128 .f32) (x13 : Vec F S128x384 .f32) (x14 : Vec F S1x384 .f32) (x15 : Vec F S512x1 .i32) (y0 : Vec F S512x256 .bf16) (y1 : Vec F S512x512 .bf16) (y2 : Vec F S512x384 .bf16) (y3 : Vec F S8x512 .bf16) (y4 : Vec F S8x128 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ owns (c : Thread nD τ) arg19 fullShare y0 ∗ owns (c : Thread nD τ) arg20 fullShare y1 ∗ owns (c : Thread nD τ) arg21 fullShare y2 ∗ owns (c : Thread nD τ) arg22 fullShare y3 ∗ owns (c : Thread nD τ) arg23 fullShare y4
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ owns (c : Thread nD τ) arg19 fullShare (acc1 x0 x1 x2 x3 x4 y0 y3 y4) ∗ owns (c : Thread nD τ) arg20 fullShare y1 ∗ owns (c : Thread nD τ) arg21 fullShare y2 ∗ owns (c : Thread nD τ) arg22 fullShare (putRow256 y3 (last1 x0 x1 x3 x4 y3 y4)) ∗ owns (c : Thread nD τ) arg23 fullShare (putId y4 (k0_pay4 (k0_pay14 x1)))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%f18, %hf18, H18⟩, ⟨%f19, %hf19, H19⟩, ⟨%f20, %hf20, H20⟩, ⟨%f21, %hf21, H21⟩, ⟨%f22, %hf22, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg19.eq_unread hf18; obtain rfl := harg20.eq_unread hf19; obtain rfl := harg21.eq_unread hf20; obtain rfl := harg22.eq_unread hf21; obtain rfl := harg23.eq_unread hf22
  sl_exec (disch := first | sl_exact hc0 | sl_exact hc1 | sl_exact hc2 | sl_exact hc3 | sl_exact hc4)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    · ipureintro; exact harg8.read_unread _
    iexact H7
  isplitl [H8]
  · iexists _; isplitr
    · ipureintro; exact harg9.read_unread _
    iexact H8
  isplitl [H9]
  · iexists _; isplitr
    · ipureintro; exact harg10.read_unread _
    iexact H9
  isplitl [H10]
  · iexists _; isplitr
    · ipureintro; exact harg11.read_unread _
    iexact H10
  isplitl [H11]
  · iexists _; isplitr
    · ipureintro; exact harg12.read_unread _
    iexact H11
  isplitl [H12]
  · iexists _; isplitr
    · ipureintro; exact harg13.read_unread _
    iexact H12
  isplitl [H13]
  · iexists _; isplitr
    · ipureintro; exact harg14.read_unread _
    iexact H13
  isplitl [H14]
  · iexists _; isplitr
    · ipureintro; exact harg15.read_unread _
    iexact H14
  isplitl [H15]
  · iexists _; isplitr
    · ipureintro; exact harg16.read_unread _
    iexact H15
  isplitl [H16]
  · iexists _; iexists _; isplitr
    swap; · iexact H16
    · ipureintro; rfl
  isplitl [H17]
  · iexists _; iexists _; isplitr
    swap; · iexact H17
    · ipureintro; rfl
  isplitl [H18]
  · iexists _; isplitr
    swap; · iexact H18
    · ipureintro; (sl_unfold_words; simp only [View.readCov, readAt_win, read_writes_put, View.writes_nil, Memref.IsWhole.read_unread, window_whole, put_whole]; try rfl)
  isplitl [H19]
  · iexists _; isplitr
    · ipureintro; exact harg20.read_unread _
    iexact H19
  isplitl [H20]
  · iexists _; isplitr
    · ipureintro; exact harg21.read_unread _
    iexact H20
  isplitl [H21]
  · iexists _; isplitr
    swap; · iexact H21
    · ipureintro; (sl_unfold_words; simp only [View.readCov, readAt_win, read_writes_put, View.writes_nil, Memref.IsWhole.read_unread, window_whole, put_whole]; try rfl)
  iexists _; isplitr
  swap; · iexact H22
  · ipureintro; (sl_unfold_words; simp only [View.readCov, readAt_win, read_writes_put, View.writes_nil, Memref.IsWhole.read_unread, window_whole, put_whole]; try rfl)

end Cert.KernelIdeal.Gen

end
-- ==== Proof.BodyC.lean ====
/- The kernel body run at the first point of the second sweep, from known scratch contents to known scratch contents. -/
module

public import proofs.«01_k».proof.Proof.KernelIdealBody
public import proofs.«01_k».proof.Proof.Steps
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at the first point of the second sweep. -/
theorem body_C (c : Dev nD) (i : grid0.Coords) (arg1 : Memref sig .tc .vmem S1024x11 .f32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S11x256 .f32) (harg4 : arg4.IsWhole) (arg5 : Memref sig .tc .vmem S1x256 .f32) (harg5 : arg5.IsWhole) (arg6 : Memref sig .tc .vmem S11x512 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S512x384 .bf16) (harg9 : arg9.IsWhole) (arg10 : Memref sig .tc .vmem S1x384 .f32) (harg10 : arg10.IsWhole) (arg11 : Memref sig .tc .vmem S512x3 .f32) (harg11 : arg11.IsWhole) (arg12 : Memref sig .tc .vmem S3x128 .f32) (harg12 : arg12.IsWhole) (arg13 : Memref sig .tc .vmem S1x128 .f32) (harg13 : arg13.IsWhole) (arg14 : Memref sig .tc .vmem S128x384 .f32) (harg14 : arg14.IsWhole) (arg15 : Memref sig .tc .vmem S1x384 .f32) (harg15 : arg15.IsWhole) (arg16 : Memref sig .tc .vmem S512x1 .i32) (harg16 : arg16.IsWhole) (arg17 : Memref sig .tc .vmem S2048x384 .f32) (harg17 : arg17.IsWhole) (arg18 : Memref sig .tc .vmem S2048x384 .f32) (harg18 : arg18.IsWhole) (arg19 : Memref sig .tc .vmem S512x256 .bf16) (harg19 : arg19.IsWhole) (arg20 : Memref sig .tc .vmem S512x512 .bf16) (harg20 : arg20.IsWhole) (arg21 : Memref sig .tc .vmem S512x384 .bf16) (harg21 : arg21.IsWhole) (arg22 : Memref sig .tc .vmem S8x512 .bf16) (harg22 : arg22.IsWhole) (arg23 : Memref sig .tc .vmem S8x128 .i32) (harg23 : arg23.IsWhole) (hc0 : ¬ atStart i) (hc1 : ¬ inFirst i) (hc2 : atMiddle i) (hc3 : inSecond i) (hc4 : ¬ atEnd i)
    (x0 : Vec F S1024x11 .f32) (x1 : Vec F S1024x1 .i32) (x2 : Vec F S1024x1 .i32) (x3 : Vec F S11x256 .f32) (x4 : Vec F S1x256 .f32) (x5 : Vec F S11x512 .f32) (x6 : Vec F S256x512 .bf16) (x7 : Vec F S1x512 .f32) (x8 : Vec F S512x384 .bf16) (x9 : Vec F S1x384 .f32) (x10 : Vec F S512x3 .f32) (x11 : Vec F S3x128 .f32) (x12 : Vec F S1x128 .f32) (x13 : Vec F S128x384 .f32) (x14 : Vec F S1x384 .f32) (x15 : Vec F S512x1 .i32) (y0 : Vec F S512x256 .bf16) (y1 : Vec F S512x512 .bf16) (y2 : Vec F S512x384 .bf16) (y3 : Vec F S8x512 .bf16) (y4 : Vec F S8x128 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ owns (c : Thread nD τ) arg19 fullShare y0 ∗ owns (c : Thread nD τ) arg20 fullShare y1 ∗ owns (c : Thread nD τ) arg21 fullShare y2 ∗ owns (c : Thread nD τ) arg22 fullShare y3 ∗ owns (c : Thread nD τ) arg23 fullShare y4
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ owns (c : Thread nD τ) arg19 fullShare y0 ∗ owns (c : Thread nD τ) arg20 fullShare (k0_pay6 y0 x6 x7) ∗ owns (c : Thread nD τ) arg21 fullShare (acc2 x0 x1 x2 x5 x8 x9 (k0_pay6 y0 x6 x7) k0_pay7 y3 k0_pay8) ∗ owns (c : Thread nD τ) arg22 fullShare (putRow384 y3 (last2 x0 x1 x5 x8 x9 (k0_pay6 y0 x6 x7) y3 k0_pay8)) ∗ owns (c : Thread nD τ) arg23 fullShare (putId k0_pay8 (k0_pay11 (k0_pay28 x1)))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%f18, %hf18, H18⟩, ⟨%f19, %hf19, H19⟩, ⟨%f20, %hf20, H20⟩, ⟨%f21, %hf21, H21⟩, ⟨%f22, %hf22, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg19.eq_unread hf18; obtain rfl := harg20.eq_unread hf19; obtain rfl := harg21.eq_unread hf20; obtain rfl := harg22.eq_unread hf21; obtain rfl := harg23.eq_unread hf22
  sl_exec (disch := first | sl_exact hc0 | sl_exact hc1 | sl_exact hc2 | sl_exact hc3 | sl_exact hc4)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    · ipureintro; exact harg8.read_unread _
    iexact H7
  isplitl [H8]
  · iexists _; isplitr
    · ipureintro; exact harg9.read_unread _
    iexact H8
  isplitl [H9]
  · iexists _; isplitr
    · ipureintro; exact harg10.read_unread _
    iexact H9
  isplitl [H10]
  · iexists _; isplitr
    · ipureintro; exact harg11.read_unread _
    iexact H10
  isplitl [H11]
  · iexists _; isplitr
    · ipureintro; exact harg12.read_unread _
    iexact H11
  isplitl [H12]
  · iexists _; isplitr
    · ipureintro; exact harg13.read_unread _
    iexact H12
  isplitl [H13]
  · iexists _; isplitr
    · ipureintro; exact harg14.read_unread _
    iexact H13
  isplitl [H14]
  · iexists _; isplitr
    · ipureintro; exact harg15.read_unread _
    iexact H14
  isplitl [H15]
  · iexists _; isplitr
    · ipureintro; exact harg16.read_unread _
    iexact H15
  isplitl [H16]
  · iexists _; iexists _; isplitr
    swap; · iexact H16
    · ipureintro; rfl
  isplitl [H17]
  · iexists _; iexists _; isplitr
    swap; · iexact H17
    · ipureintro; rfl
  isplitl [H18]
  · iexists _; isplitr
    · ipureintro; exact harg19.read_unread _
    iexact H18
  isplitl [H19]
  · iexists _; isplitr
    swap; · iexact H19
    · ipureintro; (sl_unfold_words; simp only [View.readCov, readAt_win, read_writes_put, View.writes_nil, Memref.IsWhole.read_unread, window_whole, put_whole]; try rfl)
  isplitl [H20]
  · iexists _; isplitr
    swap; · iexact H20
    · ipureintro; (sl_unfold_words; simp only [View.readCov, readAt_win, read_writes_put, View.writes_nil, Memref.IsWhole.read_unread, window_whole, put_whole]; try rfl)
  isplitl [H21]
  · iexists _; isplitr
    swap; · iexact H21
    · ipureintro; (sl_unfold_words; simp only [View.readCov, readAt_win, read_writes_put, View.writes_nil, Memref.IsWhole.read_unread, window_whole, put_whole]; try rfl)
  iexists _; isplitr
  swap; · iexact H22
  · ipureintro; (sl_unfold_words; simp only [View.readCov, readAt_win, read_writes_put, View.writes_nil, Memref.IsWhole.read_unread, window_whole, put_whole]; try rfl)

end Cert.KernelIdeal.Gen

end
-- ==== Proof.BodyD.lean ====
/- The kernel body run at a later point of the second sweep, from known scratch contents to known scratch contents. -/
module

public import proofs.«01_k».proof.Proof.KernelIdealBody
public import proofs.«01_k».proof.Proof.Steps
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at a later point of the second sweep. -/
theorem body_D (c : Dev nD) (i : grid0.Coords) (arg1 : Memref sig .tc .vmem S1024x11 .f32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S11x256 .f32) (harg4 : arg4.IsWhole) (arg5 : Memref sig .tc .vmem S1x256 .f32) (harg5 : arg5.IsWhole) (arg6 : Memref sig .tc .vmem S11x512 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S512x384 .bf16) (harg9 : arg9.IsWhole) (arg10 : Memref sig .tc .vmem S1x384 .f32) (harg10 : arg10.IsWhole) (arg11 : Memref sig .tc .vmem S512x3 .f32) (harg11 : arg11.IsWhole) (arg12 : Memref sig .tc .vmem S3x128 .f32) (harg12 : arg12.IsWhole) (arg13 : Memref sig .tc .vmem S1x128 .f32) (harg13 : arg13.IsWhole) (arg14 : Memref sig .tc .vmem S128x384 .f32) (harg14 : arg14.IsWhole) (arg15 : Memref sig .tc .vmem S1x384 .f32) (harg15 : arg15.IsWhole) (arg16 : Memref sig .tc .vmem S512x1 .i32) (harg16 : arg16.IsWhole) (arg17 : Memref sig .tc .vmem S2048x384 .f32) (harg17 : arg17.IsWhole) (arg18 : Memref sig .tc .vmem S2048x384 .f32) (harg18 : arg18.IsWhole) (arg19 : Memref sig .tc .vmem S512x256 .bf16) (harg19 : arg19.IsWhole) (arg20 : Memref sig .tc .vmem S512x512 .bf16) (harg20 : arg20.IsWhole) (arg21 : Memref sig .tc .vmem S512x384 .bf16) (harg21 : arg21.IsWhole) (arg22 : Memref sig .tc .vmem S8x512 .bf16) (harg22 : arg22.IsWhole) (arg23 : Memref sig .tc .vmem S8x128 .i32) (harg23 : arg23.IsWhole) (hc0 : ¬ atStart i) (hc1 : ¬ inFirst i) (hc2 : ¬ atMiddle i) (hc3 : inSecond i) (hc4 : ¬ atEnd i)
    (x0 : Vec F S1024x11 .f32) (x1 : Vec F S1024x1 .i32) (x2 : Vec F S1024x1 .i32) (x3 : Vec F S11x256 .f32) (x4 : Vec F S1x256 .f32) (x5 : Vec F S11x512 .f32) (x6 : Vec F S256x512 .bf16) (x7 : Vec F S1x512 .f32) (x8 : Vec F S512x384 .bf16) (x9 : Vec F S1x384 .f32) (x10 : Vec F S512x3 .f32) (x11 : Vec F S3x128 .f32) (x12 : Vec F S1x128 .f32) (x13 : Vec F S128x384 .f32) (x14 : Vec F S1x384 .f32) (x15 : Vec F S512x1 .i32) (y0 : Vec F S512x256 .bf16) (y1 : Vec F S512x512 .bf16) (y2 : Vec F S512x384 .bf16) (y3 : Vec F S8x512 .bf16) (y4 : Vec F S8x128 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ owns (c : Thread nD τ) arg19 fullShare y0 ∗ owns (c : Thread nD τ) arg20 fullShare y1 ∗ owns (c : Thread nD τ) arg21 fullShare y2 ∗ owns (c : Thread nD τ) arg22 fullShare y3 ∗ owns (c : Thread nD τ) arg23 fullShare y4
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ owns (c : Thread nD τ) arg19 fullShare y0 ∗ owns (c : Thread nD τ) arg20 fullShare y1 ∗ owns (c : Thread nD τ) arg21 fullShare (acc2 x0 x1 x2 x5 x8 x9 y1 y2 y3 y4) ∗ owns (c : Thread nD τ) arg22 fullShare (putRow384 y3 (last2 x0 x1 x5 x8 x9 y1 y3 y4)) ∗ owns (c : Thread nD τ) arg23 fullShare (putId y4 (k0_pay11 (k0_pay28 x1)))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%f18, %hf18, H18⟩, ⟨%f19, %hf19, H19⟩, ⟨%f20, %hf20, H20⟩, ⟨%f21, %hf21, H21⟩, ⟨%f22, %hf22, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg19.eq_unread hf18; obtain rfl := harg20.eq_unread hf19; obtain rfl := harg21.eq_unread hf20; obtain rfl := harg22.eq_unread hf21; obtain rfl := harg23.eq_unread hf22
  sl_exec (disch := first | sl_exact hc0 | sl_exact hc1 | sl_exact hc2 | sl_exact hc3 | sl_exact hc4)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    · ipureintro; exact harg8.read_unread _
    iexact H7
  isplitl [H8]
  · iexists _; isplitr
    · ipureintro; exact harg9.read_unread _
    iexact H8
  isplitl [H9]
  · iexists _; isplitr
    · ipureintro; exact harg10.read_unread _
    iexact H9
  isplitl [H10]
  · iexists _; isplitr
    · ipureintro; exact harg11.read_unread _
    iexact H10
  isplitl [H11]
  · iexists _; isplitr
    · ipureintro; exact harg12.read_unread _
    iexact H11
  isplitl [H12]
  · iexists _; isplitr
    · ipureintro; exact harg13.read_unread _
    iexact H12
  isplitl [H13]
  · iexists _; isplitr
    · ipureintro; exact harg14.read_unread _
    iexact H13
  isplitl [H14]
  · iexists _; isplitr
    · ipureintro; exact harg15.read_unread _
    iexact H14
  isplitl [H15]
  · iexists _; isplitr
    · ipureintro; exact harg16.read_unread _
    iexact H15
  isplitl [H16]
  · iexists _; iexists _; isplitr
    swap; · iexact H16
    · ipureintro; rfl
  isplitl [H17]
  · iexists _; iexists _; isplitr
    swap; · iexact H17
    · ipureintro; rfl
  isplitl [H18]
  · iexists _; isplitr
    · ipureintro; exact harg19.read_unread _
    iexact H18
  isplitl [H19]
  · iexists _; isplitr
    · ipureintro; exact harg20.read_unread _
    iexact H19
  isplitl [H20]
  · iexists _; isplitr
    swap; · iexact H20
    · ipureintro; (sl_unfold_words; simp only [View.readCov, readAt_win, read_writes_put, View.writes_nil, Memref.IsWhole.read_unread, window_whole, put_whole]; try rfl)
  isplitl [H21]
  · iexists _; isplitr
    swap; · iexact H21
    · ipureintro; (sl_unfold_words; simp only [View.readCov, readAt_win, read_writes_put, View.writes_nil, Memref.IsWhole.read_unread, window_whole, put_whole]; try rfl)
  iexists _; isplitr
  swap; · iexact H22
  · ipureintro; (sl_unfold_words; simp only [View.readCov, readAt_win, read_writes_put, View.writes_nil, Memref.IsWhole.read_unread, window_whole, put_whole]; try rfl)

end Cert.KernelIdeal.Gen

end
-- ==== Proof.BodyE.lean ====
/- The kernel body run at the last point, from known scratch contents to known scratch contents. -/
module

public import proofs.«01_k».proof.Proof.KernelIdealBody
public import proofs.«01_k».proof.Proof.Steps
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at the last point. -/
theorem body_E (c : Dev nD) (i : grid0.Coords) (arg1 : Memref sig .tc .vmem S1024x11 .f32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S11x256 .f32) (harg4 : arg4.IsWhole) (arg5 : Memref sig .tc .vmem S1x256 .f32) (harg5 : arg5.IsWhole) (arg6 : Memref sig .tc .vmem S11x512 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S512x384 .bf16) (harg9 : arg9.IsWhole) (arg10 : Memref sig .tc .vmem S1x384 .f32) (harg10 : arg10.IsWhole) (arg11 : Memref sig .tc .vmem S512x3 .f32) (harg11 : arg11.IsWhole) (arg12 : Memref sig .tc .vmem S3x128 .f32) (harg12 : arg12.IsWhole) (arg13 : Memref sig .tc .vmem S1x128 .f32) (harg13 : arg13.IsWhole) (arg14 : Memref sig .tc .vmem S128x384 .f32) (harg14 : arg14.IsWhole) (arg15 : Memref sig .tc .vmem S1x384 .f32) (harg15 : arg15.IsWhole) (arg16 : Memref sig .tc .vmem S512x1 .i32) (harg16 : arg16.IsWhole) (arg17 : Memref sig .tc .vmem S2048x384 .f32) (harg17 : arg17.IsWhole) (arg18 : Memref sig .tc .vmem S2048x384 .f32) (harg18 : arg18.IsWhole) (arg19 : Memref sig .tc .vmem S512x256 .bf16) (harg19 : arg19.IsWhole) (arg20 : Memref sig .tc .vmem S512x512 .bf16) (harg20 : arg20.IsWhole) (arg21 : Memref sig .tc .vmem S512x384 .bf16) (harg21 : arg21.IsWhole) (arg22 : Memref sig .tc .vmem S8x512 .bf16) (harg22 : arg22.IsWhole) (arg23 : Memref sig .tc .vmem S8x128 .i32) (harg23 : arg23.IsWhole) (hc0 : ¬ atStart i) (hc1 : ¬ inFirst i) (hc2 : ¬ atMiddle i) (hc3 : inSecond i) (hc4 : atEnd i)
    (x0 : Vec F S1024x11 .f32) (x1 : Vec F S1024x1 .i32) (x2 : Vec F S1024x1 .i32) (x3 : Vec F S11x256 .f32) (x4 : Vec F S1x256 .f32) (x5 : Vec F S11x512 .f32) (x6 : Vec F S256x512 .bf16) (x7 : Vec F S1x512 .f32) (x8 : Vec F S512x384 .bf16) (x9 : Vec F S1x384 .f32) (x10 : Vec F S512x3 .f32) (x11 : Vec F S3x128 .f32) (x12 : Vec F S1x128 .f32) (x13 : Vec F S128x384 .f32) (x14 : Vec F S1x384 .f32) (x15 : Vec F S512x1 .i32) (y0 : Vec F S512x256 .bf16) (y1 : Vec F S512x512 .bf16) (y2 : Vec F S512x384 .bf16) (y3 : Vec F S8x512 .bf16) (y4 : Vec F S8x128 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ owns (c : Thread nD τ) arg19 fullShare y0 ∗ owns (c : Thread nD τ) arg20 fullShare y1 ∗ owns (c : Thread nD τ) arg21 fullShare y2 ∗ owns (c : Thread nD τ) arg22 fullShare y3 ∗ owns (c : Thread nD τ) arg23 fullShare y4
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare (putChunks x15 d (acc2 x0 x1 x2 x5 x8 x9 y1 y2 y3 y4))) ∗ (∃ d, owns (c : Thread nD τ) arg18 fullShare (putChunks x15 d (truncf .bf16 (k0_pay41 x10 x11 x12 x13 x14) bitsLt_bf16_f32))) ∗ owns (c : Thread nD τ) arg19 fullShare y0 ∗ owns (c : Thread nD τ) arg20 fullShare y1 ∗ owns (c : Thread nD τ) arg21 fullShare (acc2 x0 x1 x2 x5 x8 x9 y1 y2 y3 y4) ∗ owns (c : Thread nD τ) arg22 fullShare (putRow384 y3 (last2 x0 x1 x5 x8 x9 y1 y3 y4)) ∗ owns (c : Thread nD τ) arg23 fullShare (putId y4 (k0_pay11 (k0_pay28 x1)))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%f18, %hf18, H18⟩, ⟨%f19, %hf19, H19⟩, ⟨%f20, %hf20, H20⟩, ⟨%f21, %hf21, H21⟩, ⟨%f22, %hf22, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg19.eq_unread hf18; obtain rfl := harg20.eq_unread hf19; obtain rfl := harg21.eq_unread hf20; obtain rfl := harg22.eq_unread hf21; obtain rfl := harg23.eq_unread hf22
  sl_exec (disch := first | sl_exact hc0 | sl_exact hc1 | sl_exact hc2 | sl_exact hc3 | sl_exact hc4)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    · ipureintro; exact harg8.read_unread _
    iexact H7
  isplitl [H8]
  · iexists _; isplitr
    · ipureintro; exact harg9.read_unread _
    iexact H8
  isplitl [H9]
  · iexists _; isplitr
    · ipureintro; exact harg10.read_unread _
    iexact H9
  isplitl [H10]
  · iexists _; isplitr
    · ipureintro; exact harg11.read_unread _
    iexact H10
  isplitl [H11]
  · iexists _; isplitr
    · ipureintro; exact harg12.read_unread _
    iexact H11
  isplitl [H12]
  · iexists _; isplitr
    · ipureintro; exact harg13.read_unread _
    iexact H12
  isplitl [H13]
  · iexists _; isplitr
    · ipureintro; exact harg14.read_unread _
    iexact H13
  isplitl [H14]
  · iexists _; isplitr
    · ipureintro; exact harg15.read_unread _
    iexact H14
  isplitl [H15]
  · iexists _; isplitr
    · ipureintro; exact harg16.read_unread _
    iexact H15
  isplitl [H16]
  · iexists (View.read (Elt F) arg17.view f16); iexists _; isplitr
    swap; · iexact H16
    · ipureintro; (sl_unfold_words; simp only [View.readCov, readAt_win, read_writes_put, View.writes_nil, Memref.IsWhole.read_unread, window_whole, put_whole]; try rfl)
  isplitl [H17]
  · iexists (View.read (Elt F) arg18.view f17); iexists _; isplitr
    swap; · iexact H17
    · ipureintro; (sl_unfold_words; simp only [View.readCov, readAt_win, read_writes_put, View.writes_nil, Memref.IsWhole.read_unread, window_whole, put_whole]; try rfl)
  isplitl [H18]
  · iexists _; isplitr
    · ipureintro; exact harg19.read_unread _
    iexact H18
  isplitl [H19]
  · iexists _; isplitr
    · ipureintro; exact harg20.read_unread _
    iexact H19
  isplitl [H20]
  · iexists _; isplitr
    swap; · iexact H20
    · ipureintro; (sl_unfold_words; simp only [View.readCov, readAt_win, read_writes_put, View.writes_nil, Memref.IsWhole.read_unread, window_whole, put_whole]; try rfl)
  isplitl [H21]
  · iexists _; isplitr
    swap; · iexact H21
    · ipureintro; (sl_unfold_words; simp only [View.readCov, readAt_win, read_writes_put, View.writes_nil, Memref.IsWhole.read_unread, window_whole, put_whole]; try rfl)
  iexists _; isplitr
  swap; · iexact H22
  · ipureintro; (sl_unfold_words; simp only [View.readCov, readAt_win, read_writes_put, View.writes_nil, Memref.IsWhole.read_unread, window_whole, put_whole]; try rfl)

end Cert.KernelIdeal.Gen

end
-- ==== Proof.KernelIdealValue.lean ====
/- The run of the idealized kernel: what the scratch buffers carry from point to point, and the two outputs at the end. -/
module

public import proofs.«01_k».proof.Proof.KernelIdealFrame
public import proofs.«01_k».proof.Proof.BodyA
public import Idealize.ShloMosaic.Lib.Pipeline.Value
public import proofs.«01_k».proof.Proof.BodyB
public import proofs.«01_k».proof.Proof.BodyC
public import proofs.«01_k».proof.Proof.BodyD
public import proofs.«01_k».proof.Proof.BodyE

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents of the five scratch buffers. -/
structure St (F : FTy → Type) where
  /-- The first accumulator. -/
  s0 : Vec F S512x256 .bf16
  /-- The segments' projected maxima. -/
  s1 : Vec F S512x512 .bf16
  /-- The second accumulator. -/
  s2 : Vec F S512x384 .bf16
  /-- The carried row. -/
  s3 : Vec F S8x512 .bf16
  /-- The carried identifier. -/
  s4 : Vec F S8x128 .i32

/-- A point of the first sweep. -/
def sweep1 (c : Dev nD) (t : Fin cfg0.N) (y : St F) : St F where
  s0 := acc1 (iblk m c 0 t) (iblk m c 1 t) (iblk m c 2 t) (iblk m c 3 t) (iblk m c 4 t) y.s0 y.s3 y.s4
  s1 := y.s1
  s2 := y.s2
  s3 := putRow256 y.s3 (last1 (iblk m c 0 t) (iblk m c 1 t) (iblk m c 3 t) (iblk m c 4 t) y.s3 y.s4)
  s4 := putId y.s4 (k0_pay4 (k0_pay14 (iblk m c 1 t)))
/-- A point of the second sweep. -/
def sweep2 (c : Dev nD) (t : Fin cfg0.N) (y : St F) : St F where
  s0 := y.s0
  s1 := y.s1
  s2 := acc2 (iblk m c 0 t) (iblk m c 1 t) (iblk m c 2 t) (iblk m c 5 t) (iblk m c 8 t) (iblk m c 9 t) y.s1 y.s2 y.s3 y.s4
  s3 := putRow384 y.s3 (last2 (iblk m c 0 t) (iblk m c 1 t) (iblk m c 5 t) (iblk m c 8 t) (iblk m c 9 t) y.s1 y.s3 y.s4)
  s4 := putId y.s4 (k0_pay11 (k0_pay28 (iblk m c 1 t)))
/-- What the first point of the first sweep starts from. -/
def begin1 (y : St F) : St F where
  s0 := k0_pay1
  s1 := y.s1
  s2 := y.s2
  s3 := y.s3
  s4 := k0_pay2
/-- What the first point of the second sweep starts from. -/
def begin2 (c : Dev nD) (t : Fin cfg0.N) (y : St F) : St F where
  s0 := y.s0
  s1 := k0_pay6 y.s0 (iblk m c 6 t) (iblk m c 7 t)
  s2 := k0_pay7
  s3 := y.s3
  s4 := k0_pay8
/-- The first output, as the last point leaves it. -/
def outTok (c : Dev nD) (t : Fin cfg0.N) (y : St F) (d : Vec F S2048x384 .f32) : Vec F S2048x384 .f32 :=
  putChunks (iblk m c 15 t) d (acc2 (iblk m c 0 t) (iblk m c 1 t) (iblk m c 2 t) (iblk m c 5 t) (iblk m c 8 t) (iblk m c 9 t) y.s1 y.s2 y.s3 y.s4)
/-- The second output, as the last point leaves it. -/
def outPos (c : Dev nD) (t : Fin cfg0.N) (d : Vec F S2048x384 .f32) : Vec F S2048x384 .f32 :=
  putChunks (iblk m c 15 t) d (truncf .bf16 (k0_pay41 (iblk m c 10 t) (iblk m c 11 t) (iblk m c 12 t) (iblk m c 13 t) (iblk m c 14 t)) bitsLt_bf16_f32)

/-- What is shown of the scratch buffers: it holds at the start, every point keeps it, and the last point makes the outputs. -/
structure Carries (Inv : Dev nD → ℕ → St F → Prop) (G16 G17 : Dev nD → Vec F S2048x384 .f32) : Prop where
  start : ∀ c y, Inv c 0 y
  first : ∀ c (t : Fin cfg0.N) y, t.val = 0 → Inv c t.val y → Inv c (t.val + 1) (sweep1 m c t (begin1 y))
  one : ∀ c (t : Fin cfg0.N) y, 0 < t.val → t.val < 32 → Inv c t.val y → Inv c (t.val + 1) (sweep1 m c t y)
  turn : ∀ c (t : Fin cfg0.N) y, t.val = 32 → Inv c t.val y → Inv c (t.val + 1) (sweep2 m c t (begin2 m c t y))
  two : ∀ c (t : Fin cfg0.N) y, 32 < t.val → Inv c t.val y → Inv c (t.val + 1) (sweep2 m c t y)
  tok : ∀ c (t : Fin cfg0.N) y d, t.val = 63 → Inv c t.val y → outTok m c t y d = G16 c
  pos : ∀ c (t : Fin cfg0.N) d, t.val = 63 → outPos m c t d = G17 c

/-- The point numbers of the five cases. -/
theorem cases_all : ∀ t : Fin grid0.N,
    (t.val = 0 ∧ atStart (grid0.coords t) ∧ inFirst (grid0.coords t) ∧ ¬ atMiddle (grid0.coords t) ∧ ¬ inSecond (grid0.coords t) ∧ ¬ atEnd (grid0.coords t))
    ∨ (0 < t.val ∧ t.val < 32 ∧ ¬ atStart (grid0.coords t) ∧ inFirst (grid0.coords t) ∧ ¬ atMiddle (grid0.coords t) ∧ ¬ inSecond (grid0.coords t) ∧ ¬ atEnd (grid0.coords t))
    ∨ (t.val = 32 ∧ ¬ atStart (grid0.coords t) ∧ ¬ inFirst (grid0.coords t) ∧ atMiddle (grid0.coords t) ∧ inSecond (grid0.coords t) ∧ ¬ atEnd (grid0.coords t))
    ∨ (32 < t.val ∧ t.val < 63 ∧ ¬ atStart (grid0.coords t) ∧ ¬ inFirst (grid0.coords t) ∧ ¬ atMiddle (grid0.coords t) ∧ inSecond (grid0.coords t) ∧ ¬ atEnd (grid0.coords t))
    ∨ (t.val = 63 ∧ ¬ atStart (grid0.coords t) ∧ ¬ inFirst (grid0.coords t) ∧ ¬ atMiddle (grid0.coords t) ∧ inSecond (grid0.coords t) ∧ atEnd (grid0.coords t)) := by
  decide +kernel

theorem idle16 : ∀ t : Fin cfg0.N, t.val < 63 → cfg0.idle 16 (grid0.coords t) = true :=
  (by decide +kernel : ∀ t : Fin grid0.N, t.val < 63 → cfg0.idle 16 (grid0.coords t) = true)
theorem idle17 : ∀ t : Fin cfg0.N, t.val < 63 → cfg0.idle 17 (grid0.coords t) = true :=
  (by decide +kernel : ∀ t : Fin grid0.N, t.val < 63 → cfg0.idle 17 (grid0.coords t) = true)
theorem live16 : ∀ t : Fin cfg0.N, t.val = 63 → cfg0.idle 16 (grid0.coords t) = false :=
  (by decide +kernel : ∀ t : Fin grid0.N, t.val = 63 → cfg0.idle 16 (grid0.coords t) = false)
theorem live17 : ∀ t : Fin cfg0.N, t.val = 63 → cfg0.idle 17 (grid0.coords t) = false :=
  (by decide +kernel : ∀ t : Fin grid0.N, t.val = 63 → cfg0.idle 17 (grid0.coords t) = false)
theorem noflush16 : ∀ t : Fin cfg0.N, t.val < 63 → (cfg0.win 16).flush t = false :=
  (by decide +kernel : ∀ t : Fin grid0.N, t.val < 63 → win0_16.flush t = false)
theorem noflush17 : ∀ t : Fin cfg0.N, t.val < 63 → (cfg0.win 17).flush t = false :=
  (by decide +kernel : ∀ t : Fin grid0.N, t.val < 63 → win0_17.flush t = false)
theorem flush16 : ∀ t : Fin cfg0.N, t.val = 63 → (cfg0.win 16).flush t = true :=
  (by decide +kernel : ∀ t : Fin grid0.N, t.val = 63 → win0_16.flush t = true)
theorem flush17 : ∀ t : Fin cfg0.N, t.val = 63 → (cfg0.win 17).flush t = true :=
  (by decide +kernel : ∀ t : Fin grid0.N, t.val = 63 → win0_17.flush t = true)
theorem nofetch16 : ∀ t : Fin cfg0.N, ¬ (cfg0.win 16).fetch t = true :=
  (by decide +kernel : ∀ t : Fin grid0.N, ¬ win0_16.fetch t = true)
theorem nofetch17 : ∀ t : Fin cfg0.N, ¬ (cfg0.win 17).fetch t = true :=
  (by decide +kernel : ∀ t : Fin grid0.N, ¬ win0_17.fetch t = true)
theorem index16 : ∀ t : Fin cfg0.N, win0_16.index t (0 : Fin 2) = 0 ∧ win0_16.index t (1 : Fin 2) = 0 :=
  (by decide +kernel : ∀ t : Fin grid0.N, _)
theorem index17 : ∀ t : Fin cfg0.N, win0_17.index t (0 : Fin 2) = 0 ∧ win0_17.index t (1 : Fin 2) = 0 :=
  (by decide +kernel : ∀ t : Fin grid0.N, _)

variable (Inv : Dev nD → ℕ → St F → Prop) (G16 G17 : Dev nD → Vec F S2048x384 .f32)

/-- What is carried between the points: the scratch buffers at contents the invariant admits. -/
def carried (c : Dev nD) (n : ℕ) : sProp 𝕄 :=
  iprop(∃ y : St F, ⌜Inv c n y⌝ ∗ (owns (c : Thread nD τ) sc0 fullShare y.s0 ∗ owns (c : Thread nD τ) sc1 fullShare y.s1 ∗ owns (c : Thread nD τ) sc2 fullShare y.s2 ∗ owns (c : Thread nD τ) sc3 fullShare y.s3 ∗ owns (c : Thread nD τ) sc4 fullShare y.s4) ∗ (∃ r, prngReg c r))

/-- The proof data of the run. -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => G16 c
    | ⟨17, _⟩ => G17 c
    | ⟨_ + 18, h⟩ => absurd h (Nat.not_lt.2 (Nat.le_add_left _ _))
  Φ t := carried Inv c t.val
  q _ := fullShare
  owed _ := 0

theorem vA_eq (c : Dev nD) (w : Fin cfg0.W) : (vdats m Inv G16 G17 0 c).A w = V m c (Pipeline.arrRef spec0 w) := by
  dsimp only [vdats]

theorem vafter0 (c : Dev nD) (t : Fin cfg0.N) : (vdats m Inv G16 G17 0 c).after 0 t = iblk m c 0 t := by dsimp only [vdats]
theorem vafter1 (c : Dev nD) (t : Fin cfg0.N) : (vdats m Inv G16 G17 0 c).after 1 t = iblk m c 1 t := by dsimp only [vdats]
theorem vafter2 (c : Dev nD) (t : Fin cfg0.N) : (vdats m Inv G16 G17 0 c).after 2 t = iblk m c 2 t := by dsimp only [vdats]
theorem vafter3 (c : Dev nD) (t : Fin cfg0.N) : (vdats m Inv G16 G17 0 c).after 3 t = iblk m c 3 t := by dsimp only [vdats]
theorem vafter4 (c : Dev nD) (t : Fin cfg0.N) : (vdats m Inv G16 G17 0 c).after 4 t = iblk m c 4 t := by dsimp only [vdats]
theorem vafter5 (c : Dev nD) (t : Fin cfg0.N) : (vdats m Inv G16 G17 0 c).after 5 t = iblk m c 5 t := by dsimp only [vdats]
theorem vafter6 (c : Dev nD) (t : Fin cfg0.N) : (vdats m Inv G16 G17 0 c).after 6 t = iblk m c 6 t := by dsimp only [vdats]
theorem vafter7 (c : Dev nD) (t : Fin cfg0.N) : (vdats m Inv G16 G17 0 c).after 7 t = iblk m c 7 t := by dsimp only [vdats]
theorem vafter8 (c : Dev nD) (t : Fin cfg0.N) : (vdats m Inv G16 G17 0 c).after 8 t = iblk m c 8 t := by dsimp only [vdats]
theorem vafter9 (c : Dev nD) (t : Fin cfg0.N) : (vdats m Inv G16 G17 0 c).after 9 t = iblk m c 9 t := by dsimp only [vdats]
theorem vafter10 (c : Dev nD) (t : Fin cfg0.N) : (vdats m Inv G16 G17 0 c).after 10 t = iblk m c 10 t := by dsimp only [vdats]
theorem vafter11 (c : Dev nD) (t : Fin cfg0.N) : (vdats m Inv G16 G17 0 c).after 11 t = iblk m c 11 t := by dsimp only [vdats]
theorem vafter12 (c : Dev nD) (t : Fin cfg0.N) : (vdats m Inv G16 G17 0 c).after 12 t = iblk m c 12 t := by dsimp only [vdats]
theorem vafter13 (c : Dev nD) (t : Fin cfg0.N) : (vdats m Inv G16 G17 0 c).after 13 t = iblk m c 13 t := by dsimp only [vdats]
theorem vafter14 (c : Dev nD) (t : Fin cfg0.N) : (vdats m Inv G16 G17 0 c).after 14 t = iblk m c 14 t := by dsimp only [vdats]
theorem vafter15 (c : Dev nD) (t : Fin cfg0.N) : (vdats m Inv G16 G17 0 c).after 15 t = iblk m c 15 t := by dsimp only [vdats]
theorem vafter16 (c : Dev nD) (t : Fin cfg0.N) : (vdats m Inv G16 G17 0 c).after 16 t = G16 c := by dsimp only [vdats]
theorem vafter17 (c : Dev nD) (t : Fin cfg0.N) : (vdats m Inv G16 G17 0 c).after 17 t = G17 c := by dsimp only [vdats]
theorem vbefore0 (c : Dev nD) (t : Fin cfg0.N) (d) : (vdats m Inv G16 G17 0 c).before 0 t d = iblk m c 0 t := before0_0_of m (vdats m Inv G16 G17 0 c) (vA_eq m Inv G16 G17 c 0) (vafter0 m Inv G16 G17 c) t d
theorem vbefore1 (c : Dev nD) (t : Fin cfg0.N) (d) : (vdats m Inv G16 G17 0 c).before 1 t d = iblk m c 1 t := before0_1_of m (vdats m Inv G16 G17 0 c) (vA_eq m Inv G16 G17 c 1) (vafter1 m Inv G16 G17 c) t d
theorem vbefore2 (c : Dev nD) (t : Fin cfg0.N) (d) : (vdats m Inv G16 G17 0 c).before 2 t d = iblk m c 2 t := before0_2_of m (vdats m Inv G16 G17 0 c) (vA_eq m Inv G16 G17 c 2) (vafter2 m Inv G16 G17 c) t d
theorem vbefore3 (c : Dev nD) (t : Fin cfg0.N) (d) : (vdats m Inv G16 G17 0 c).before 3 t d = iblk m c 3 t := before0_3_of m (vdats m Inv G16 G17 0 c) (vA_eq m Inv G16 G17 c 3) (vafter3 m Inv G16 G17 c) t d
theorem vbefore4 (c : Dev nD) (t : Fin cfg0.N) (d) : (vdats m Inv G16 G17 0 c).before 4 t d = iblk m c 4 t := before0_4_of m (vdats m Inv G16 G17 0 c) (vA_eq m Inv G16 G17 c 4) (vafter4 m Inv G16 G17 c) t d
theorem vbefore5 (c : Dev nD) (t : Fin cfg0.N) (d) : (vdats m Inv G16 G17 0 c).before 5 t d = iblk m c 5 t := before0_5_of m (vdats m Inv G16 G17 0 c) (vA_eq m Inv G16 G17 c 5) (vafter5 m Inv G16 G17 c) t d
theorem vbefore6 (c : Dev nD) (t : Fin cfg0.N) (d) : (vdats m Inv G16 G17 0 c).before 6 t d = iblk m c 6 t := before0_6_of m (vdats m Inv G16 G17 0 c) (vA_eq m Inv G16 G17 c 6) (vafter6 m Inv G16 G17 c) t d
theorem vbefore7 (c : Dev nD) (t : Fin cfg0.N) (d) : (vdats m Inv G16 G17 0 c).before 7 t d = iblk m c 7 t := before0_7_of m (vdats m Inv G16 G17 0 c) (vA_eq m Inv G16 G17 c 7) (vafter7 m Inv G16 G17 c) t d
theorem vbefore8 (c : Dev nD) (t : Fin cfg0.N) (d) : (vdats m Inv G16 G17 0 c).before 8 t d = iblk m c 8 t := before0_8_of m (vdats m Inv G16 G17 0 c) (vA_eq m Inv G16 G17 c 8) (vafter8 m Inv G16 G17 c) t d
theorem vbefore9 (c : Dev nD) (t : Fin cfg0.N) (d) : (vdats m Inv G16 G17 0 c).before 9 t d = iblk m c 9 t := before0_9_of m (vdats m Inv G16 G17 0 c) (vA_eq m Inv G16 G17 c 9) (vafter9 m Inv G16 G17 c) t d
theorem vbefore10 (c : Dev nD) (t : Fin cfg0.N) (d) : (vdats m Inv G16 G17 0 c).before 10 t d = iblk m c 10 t := before0_10_of m (vdats m Inv G16 G17 0 c) (vA_eq m Inv G16 G17 c 10) (vafter10 m Inv G16 G17 c) t d
theorem vbefore11 (c : Dev nD) (t : Fin cfg0.N) (d) : (vdats m Inv G16 G17 0 c).before 11 t d = iblk m c 11 t := before0_11_of m (vdats m Inv G16 G17 0 c) (vA_eq m Inv G16 G17 c 11) (vafter11 m Inv G16 G17 c) t d
theorem vbefore12 (c : Dev nD) (t : Fin cfg0.N) (d) : (vdats m Inv G16 G17 0 c).before 12 t d = iblk m c 12 t := before0_12_of m (vdats m Inv G16 G17 0 c) (vA_eq m Inv G16 G17 c 12) (vafter12 m Inv G16 G17 c) t d
theorem vbefore13 (c : Dev nD) (t : Fin cfg0.N) (d) : (vdats m Inv G16 G17 0 c).before 13 t d = iblk m c 13 t := before0_13_of m (vdats m Inv G16 G17 0 c) (vA_eq m Inv G16 G17 c 13) (vafter13 m Inv G16 G17 c) t d
theorem vbefore14 (c : Dev nD) (t : Fin cfg0.N) (d) : (vdats m Inv G16 G17 0 c).before 14 t d = iblk m c 14 t := before0_14_of m (vdats m Inv G16 G17 0 c) (vA_eq m Inv G16 G17 c 14) (vafter14 m Inv G16 G17 c) t d
theorem vbefore15 (c : Dev nD) (t : Fin cfg0.N) (d) : (vdats m Inv G16 G17 0 c).before 15 t d = iblk m c 15 t := before0_15_of m (vdats m Inv G16 G17 0 c) (vA_eq m Inv G16 G17 c 15) (vafter15 m Inv G16 G17 c) t d

/-- An output window's buffer is untouched up to the last point. -/
theorem vbefore16 (c : Dev nD) (d) : ∀ (n : ℕ) (h : n < cfg0.N), (vdats m Inv G16 G17 0 c).before 16 ⟨n, h⟩ d = d := by
  intro n
  induction n with
  | zero => intro h; unfold Dat.before; rw [if_neg (nofetch16 _), if_pos rfl]
  | succ n ih =>
    intro h
    have hn : n < 63 := by have : cfg0.N = 64 := N_0; omega
    rw [Dat.before_of_pos _ _ _ (by show ¬ n + 1 = 0; omega) (Bool.eq_false_iff.mpr (nofetch16 _)), if_neg (by rw [noflush16 _ (by show n + 1 - 1 < 63; omega)]; decide)]
    unfold Dat.left
    rw [idle16 _ (by show n + 1 - 1 < 63; omega)]
    exact ih (by omega)

/-- An output window's buffer is untouched up to the last point. -/
theorem vbefore17 (c : Dev nD) (d) : ∀ (n : ℕ) (h : n < cfg0.N), (vdats m Inv G16 G17 0 c).before 17 ⟨n, h⟩ d = d := by
  intro n
  induction n with
  | zero => intro h; unfold Dat.before; rw [if_neg (nofetch17 _), if_pos rfl]
  | succ n ih =>
    intro h
    have hn : n < 63 := by have : cfg0.N = 64 := N_0; omega
    rw [Dat.before_of_pos _ _ _ (by show ¬ n + 1 = 0; omega) (Bool.eq_false_iff.mpr (nofetch17 _)), if_neg (by rw [noflush17 _ (by show n + 1 - 1 < 63; omega)]; decide)]
    unfold Dat.left
    rw [idle17 _ (by show n + 1 - 1 < 63; omega)]
    exact ih (by omega)
theorem vleaves0 (c : Dev nD) (t : Fin cfg0.N) :
    (vdats m Inv G16 G17 0 c).leavesExact 0 t = owns (c : Thread nD τ) (st0 t) fullShare (iblk m c 0 t) := by
  unfold Dat.leavesExact; rw [show cfg0.idle 0 (grid0.coords t) = false from rfl, vafter0]
theorem vleaves1 (c : Dev nD) (t : Fin cfg0.N) :
    (vdats m Inv G16 G17 0 c).leavesExact 1 t = owns (c : Thread nD τ) (st1 t) fullShare (iblk m c 1 t) := by
  unfold Dat.leavesExact; rw [show cfg0.idle 1 (grid0.coords t) = false from rfl, vafter1]
theorem vleaves2 (c : Dev nD) (t : Fin cfg0.N) :
    (vdats m Inv G16 G17 0 c).leavesExact 2 t = owns (c : Thread nD τ) (st2 t) fullShare (iblk m c 2 t) := by
  unfold Dat.leavesExact; rw [show cfg0.idle 2 (grid0.coords t) = false from rfl, vafter2]
theorem vleaves3 (c : Dev nD) (t : Fin cfg0.N) :
    (vdats m Inv G16 G17 0 c).leavesExact 3 t = owns (c : Thread nD τ) (st3 t) fullShare (iblk m c 3 t) := by
  unfold Dat.leavesExact; rw [show cfg0.idle 3 (grid0.coords t) = false from rfl, vafter3]
theorem vleaves4 (c : Dev nD) (t : Fin cfg0.N) :
    (vdats m Inv G16 G17 0 c).leavesExact 4 t = owns (c : Thread nD τ) (st4 t) fullShare (iblk m c 4 t) := by
  unfold Dat.leavesExact; rw [show cfg0.idle 4 (grid0.coords t) = false from rfl, vafter4]
theorem vleaves5 (c : Dev nD) (t : Fin cfg0.N) :
    (vdats m Inv G16 G17 0 c).leavesExact 5 t = owns (c : Thread nD τ) (st5 t) fullShare (iblk m c 5 t) := by
  unfold Dat.leavesExact; rw [show cfg0.idle 5 (grid0.coords t) = false from rfl, vafter5]
theorem vleaves6 (c : Dev nD) (t : Fin cfg0.N) :
    (vdats m Inv G16 G17 0 c).leavesExact 6 t = owns (c : Thread nD τ) (st6 t) fullShare (iblk m c 6 t) := by
  unfold Dat.leavesExact; rw [show cfg0.idle 6 (grid0.coords t) = false from rfl, vafter6]
theorem vleaves7 (c : Dev nD) (t : Fin cfg0.N) :
    (vdats m Inv G16 G17 0 c).leavesExact 7 t = owns (c : Thread nD τ) (st7 t) fullShare (iblk m c 7 t) := by
  unfold Dat.leavesExact; rw [show cfg0.idle 7 (grid0.coords t) = false from rfl, vafter7]
theorem vleaves8 (c : Dev nD) (t : Fin cfg0.N) :
    (vdats m Inv G16 G17 0 c).leavesExact 8 t = owns (c : Thread nD τ) (st8 t) fullShare (iblk m c 8 t) := by
  unfold Dat.leavesExact; rw [show cfg0.idle 8 (grid0.coords t) = false from rfl, vafter8]
theorem vleaves9 (c : Dev nD) (t : Fin cfg0.N) :
    (vdats m Inv G16 G17 0 c).leavesExact 9 t = owns (c : Thread nD τ) (st9 t) fullShare (iblk m c 9 t) := by
  unfold Dat.leavesExact; rw [show cfg0.idle 9 (grid0.coords t) = false from rfl, vafter9]
theorem vleaves10 (c : Dev nD) (t : Fin cfg0.N) :
    (vdats m Inv G16 G17 0 c).leavesExact 10 t = owns (c : Thread nD τ) (st10 t) fullShare (iblk m c 10 t) := by
  unfold Dat.leavesExact; rw [show cfg0.idle 10 (grid0.coords t) = false from rfl, vafter10]
theorem vleaves11 (c : Dev nD) (t : Fin cfg0.N) :
    (vdats m Inv G16 G17 0 c).leavesExact 11 t = owns (c : Thread nD τ) (st11 t) fullShare (iblk m c 11 t) := by
  unfold Dat.leavesExact; rw [show cfg0.idle 11 (grid0.coords t) = false from rfl, vafter11]
theorem vleaves12 (c : Dev nD) (t : Fin cfg0.N) :
    (vdats m Inv G16 G17 0 c).leavesExact 12 t = owns (c : Thread nD τ) (st12 t) fullShare (iblk m c 12 t) := by
  unfold Dat.leavesExact; rw [show cfg0.idle 12 (grid0.coords t) = false from rfl, vafter12]
theorem vleaves13 (c : Dev nD) (t : Fin cfg0.N) :
    (vdats m Inv G16 G17 0 c).leavesExact 13 t = owns (c : Thread nD τ) (st13 t) fullShare (iblk m c 13 t) := by
  unfold Dat.leavesExact; rw [show cfg0.idle 13 (grid0.coords t) = false from rfl, vafter13]
theorem vleaves14 (c : Dev nD) (t : Fin cfg0.N) :
    (vdats m Inv G16 G17 0 c).leavesExact 14 t = owns (c : Thread nD τ) (st14 t) fullShare (iblk m c 14 t) := by
  unfold Dat.leavesExact; rw [show cfg0.idle 14 (grid0.coords t) = false from rfl, vafter14]
theorem vleaves15 (c : Dev nD) (t : Fin cfg0.N) :
    (vdats m Inv G16 G17 0 c).leavesExact 15 t = owns (c : Thread nD τ) (st15 t) fullShare (iblk m c 15 t) := by
  unfold Dat.leavesExact; rw [show cfg0.idle 15 (grid0.coords t) = false from rfl, vafter15]
theorem vleaves16 (c : Dev nD) (t : Fin cfg0.N) (ht : t.val = 63) :
    (vdats m Inv G16 G17 0 c).leavesExact 16 t = owns (c : Thread nD τ) (st16 t) fullShare (G16 c) := by
  unfold Dat.leavesExact; rw [live16 t ht, vafter16]
theorem vkeeps16 (c : Dev nD) (t : Fin cfg0.N) (ht : t.val < 63) :
    (vdats m Inv G16 G17 0 c).leavesExact 16 t = iprop(∃ d, owns (c : Thread nD τ) (st16 t) fullShare d) := by
  rw [Dat.leavesExact_idle (vdats m Inv G16 G17 0 c) 16 t (idle16 t ht) (noflush16 t ht)]
  simp only [vbefore16 m Inv G16 G17 c _ t.val t.isLt]; try rfl

theorem vleaves17 (c : Dev nD) (t : Fin cfg0.N) (ht : t.val = 63) :
    (vdats m Inv G16 G17 0 c).leavesExact 17 t = owns (c : Thread nD τ) (st17 t) fullShare (G17 c) := by
  unfold Dat.leavesExact; rw [live17 t ht, vafter17]
theorem vkeeps17 (c : Dev nD) (t : Fin cfg0.N) (ht : t.val < 63) :
    (vdats m Inv G16 G17 0 c).leavesExact 17 t = iprop(∃ d, owns (c : Thread nD τ) (st17 t) fullShare d) := by
  rw [Dat.leavesExact_idle (vdats m Inv G16 G17 0 c) 17 t (idle17 t ht) (noflush17 t ht)]
  simp only [vbefore17 m Inv G16 G17 c _ t.val t.isLt]; try rfl

/-- What the body is called with at point `t`, window by window. -/
def valuePre (c : Dev nD) (t : Fin cfg0.N) : sProp 𝕄 :=
  iprop((vdats m Inv G16 G17 0 c).Φ t.castSucc ∗ (vdats m Inv G16 G17 0 c).owesAt () t.castSucc
    ∗ (∃ d, owns (c : Thread nD τ) (st0 t) fullShare ((vdats m Inv G16 G17 0 c).before 0 t d))
    ∗ (∃ d, owns (c : Thread nD τ) (st1 t) fullShare ((vdats m Inv G16 G17 0 c).before 1 t d))
    ∗ (∃ d, owns (c : Thread nD τ) (st2 t) fullShare ((vdats m Inv G16 G17 0 c).before 2 t d))
    ∗ (∃ d, owns (c : Thread nD τ) (st3 t) fullShare ((vdats m Inv G16 G17 0 c).before 3 t d))
    ∗ (∃ d, owns (c : Thread nD τ) (st4 t) fullShare ((vdats m Inv G16 G17 0 c).before 4 t d))
    ∗ (∃ d, owns (c : Thread nD τ) (st5 t) fullShare ((vdats m Inv G16 G17 0 c).before 5 t d))
    ∗ (∃ d, owns (c : Thread nD τ) (st6 t) fullShare ((vdats m Inv G16 G17 0 c).before 6 t d))
    ∗ (∃ d, owns (c : Thread nD τ) (st7 t) fullShare ((vdats m Inv G16 G17 0 c).before 7 t d))
    ∗ (∃ d, owns (c : Thread nD τ) (st8 t) fullShare ((vdats m Inv G16 G17 0 c).before 8 t d))
    ∗ (∃ d, owns (c : Thread nD τ) (st9 t) fullShare ((vdats m Inv G16 G17 0 c).before 9 t d))
    ∗ (∃ d, owns (c : Thread nD τ) (st10 t) fullShare ((vdats m Inv G16 G17 0 c).before 10 t d))
    ∗ (∃ d, owns (c : Thread nD τ) (st11 t) fullShare ((vdats m Inv G16 G17 0 c).before 11 t d))
    ∗ (∃ d, owns (c : Thread nD τ) (st12 t) fullShare ((vdats m Inv G16 G17 0 c).before 12 t d))
    ∗ (∃ d, owns (c : Thread nD τ) (st13 t) fullShare ((vdats m Inv G16 G17 0 c).before 13 t d))
    ∗ (∃ d, owns (c : Thread nD τ) (st14 t) fullShare ((vdats m Inv G16 G17 0 c).before 14 t d))
    ∗ (∃ d, owns (c : Thread nD τ) (st15 t) fullShare ((vdats m Inv G16 G17 0 c).before 15 t d))
    ∗ (∃ d, owns (c : Thread nD τ) (st16 t) fullShare ((vdats m Inv G16 G17 0 c).before 16 t d))
    ∗ (∃ d, owns (c : Thread nD τ) (st17 t) fullShare ((vdats m Inv G16 G17 0 c).before 17 t d)))

/-- What it returns. -/
def valuePost (c : Dev nD) (t : Fin cfg0.N) : sProp 𝕄 :=
  iprop((vdats m Inv G16 G17 0 c).Φ t.succ ∗ (vdats m Inv G16 G17 0 c).owesAt () t.succ
    ∗ (vdats m Inv G16 G17 0 c).leavesExact 0 t
    ∗ (vdats m Inv G16 G17 0 c).leavesExact 1 t
    ∗ (vdats m Inv G16 G17 0 c).leavesExact 2 t
    ∗ (vdats m Inv G16 G17 0 c).leavesExact 3 t
    ∗ (vdats m Inv G16 G17 0 c).leavesExact 4 t
    ∗ (vdats m Inv G16 G17 0 c).leavesExact 5 t
    ∗ (vdats m Inv G16 G17 0 c).leavesExact 6 t
    ∗ (vdats m Inv G16 G17 0 c).leavesExact 7 t
    ∗ (vdats m Inv G16 G17 0 c).leavesExact 8 t
    ∗ (vdats m Inv G16 G17 0 c).leavesExact 9 t
    ∗ (vdats m Inv G16 G17 0 c).leavesExact 10 t
    ∗ (vdats m Inv G16 G17 0 c).leavesExact 11 t
    ∗ (vdats m Inv G16 G17 0 c).leavesExact 12 t
    ∗ (vdats m Inv G16 G17 0 c).leavesExact 13 t
    ∗ (vdats m Inv G16 G17 0 c).leavesExact 14 t
    ∗ (vdats m Inv G16 G17 0 c).leavesExact 15 t
    ∗ (vdats m Inv G16 G17 0 c).leavesExact 16 t
    ∗ (vdats m Inv G16 G17 0 c).leavesExact 17 t)

set_option maxHeartbeats 8000000 in
/-- The body at any point. -/
theorem value_body (hC : Carries m Inv G16 G17) (c : Dev nD) (t : Fin cfg0.N) :
    valuePre m Inv G16 G17 c t ⊢ wp Idealize.ShloMosaic.frame (wpE (defs₀ (F := F)) Variants.none c none) Set.univ (bodyAt0 t) (fun _ => valuePost m Inv G16 G17 c t) := by
  unfold valuePre valuePost bodyAt0
  simp only [vbefore0, vleaves0, vbefore1, vleaves1, vbefore2, vleaves2, vbefore3, vleaves3, vbefore4, vleaves4, vbefore5, vleaves5, vbefore6, vleaves6, vbefore7, vleaves7, vbefore8, vleaves8, vbefore9, vleaves9, vbefore10, vleaves10, vbefore11, vleaves11, vbefore12, vleaves12, vbefore13, vleaves13, vbefore14, vleaves14, vbefore15, vleaves15]
  rw [show (vdats m Inv G16 G17 0 c).owesAt () t.succ = (vdats m Inv G16 G17 0 c).owesAt () t.castSucc from rfl,
    show (vdats m Inv G16 G17 0 c).Φ t.succ = carried Inv c (t.val + 1) from rfl, show (vdats m Inv G16 G17 0 c).Φ t.castSucc = carried Inv c t.val from rfl]
  unfold carried
  have hcases := cases_all t
  rcases hcases with ⟨ht, h0, h1, h2, h3, h4⟩ | ⟨ht, ht', h0, h1, h2, h3, h4⟩ | ⟨ht, h0, h1, h2, h3, h4⟩ | ⟨ht, ht', h0, h1, h2, h3, h4⟩ | ⟨ht, h0, h1, h2, h3, h4⟩
  · rw [vkeeps16 m Inv G16 G17 c t (by omega), vkeeps17 m Inv G16 G17 c t (by omega)]
    iintro ⟨⟨%y, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (body_A c (grid0.coords t) _ _ _ _ _ _ _ _ _ _ _ _ _ _ _ _ _ _ _ _ _ _ _ _ _ _ _ _ _ _ _ _ _ _ _ _ _ _ _ _ _ _ _ _ _ _ h0 h1 h2 h3 h4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y.s0 y.s1 y.s2 y.s3 y.s4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, H15, H16, H17, HS0, HS1, HS2, HS3, HS4⟩
    isplitl [HS0 HS1 HS2 HS3 HS4 Hg]
    · iexists (sweep1 m c t (begin1 y)); isplitr
      · ipureintro; exact hC.first c t y ht hI
      isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · rw [vkeeps16 m Inv G16 G17 c t (by omega), vkeeps17 m Inv G16 G17 c t (by omega)]
    iintro ⟨⟨%y, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (body_B c (grid0.coords t) _ _ _ _ _ _ _ _ _ _ _ _ _ _ _ _ _ _ _ _ _ _ _ _ _ _ _ _ _ _ _ _ _ _ _ _ _ _ _ _ _ _ _ _ _ _ h0 h1 h2 h3 h4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y.s0 y.s1 y.s2 y.s3 y.s4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, H15, H16, H17, HS0, HS1, HS2, HS3, HS4⟩
    isplitl [HS0 HS1 HS2 HS3 HS4 Hg]
    · iexists (sweep1 m c t y); isplitr
      · ipureintro; exact hC.one c t y ht ht' hI
      isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · rw [vkeeps16 m Inv G16 G17 c t (by omega), vkeeps17 m Inv G16 G17 c t (by omega)]
    iintro ⟨⟨%y, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (body_C c (grid0.coords t) _ _ _ _ _ _ _ _ _ _ _ _ _ _ _ _ _ _ _ _ _ _ _ _ _ _ _ _ _ _ _ _ _ _ _ _ _ _ _ _ _ _ _ _ _ _ h0 h1 h2 h3 h4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y.s0 y.s1 y.s2 y.s3 y.s4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, H15, H16, H17, HS0, HS1, HS2, HS3, HS4⟩
    isplitl [HS0 HS1 HS2 HS3 HS4 Hg]
    · iexists (sweep2 m c t (begin2 m c t y)); isplitr
      · ipureintro; exact hC.turn c t y ht hI
      isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · rw [vkeeps16 m Inv G16 G17 c t (by omega), vkeeps17 m Inv G16 G17 c t (by omega)]
    iintro ⟨⟨%y, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (body_D c (grid0.coords t) _ _ _ _ _ _ _ _ _ _ _ _ _ _ _ _ _ _ _ _ _ _ _ _ _ _ _ _ _ _ _ _ _ _ _ _ _ _ _ _ _ _ _ _ _ _ h0 h1 h2 h3 h4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y.s0 y.s1 y.s2 y.s3 y.s4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, H15, H16, H17, HS0, HS1, HS2, HS3, HS4⟩
    isplitl [HS0 HS1 HS2 HS3 HS4 Hg]
    · iexists (sweep2 m c t y); isplitr
      · ipureintro; exact hC.two c t y ht hI
      isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · rw [vleaves16 m Inv G16 G17 c t ht, vleaves17 m Inv G16 G17 c t ht]
    iintro ⟨⟨%y, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (body_E c (grid0.coords t) _ _ _ _ _ _ _ _ _ _ _ _ _ _ _ _ _ _ _ _ _ _ _ _ _ _ _ _ _ _ _ _ _ _ _ _ _ _ _ _ _ _ _ _ _ _ h0 h1 h2 h3 h4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y.s0 y.s1 y.s2 y.s3 y.s4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, H15, ⟨%e16, H16⟩, ⟨%e17, H17⟩, HS0, HS1, HS2, HS3, HS4⟩
    isplitl [HS0 HS1 HS2 HS3 HS4 Hg]
    · iexists (sweep2 m c t y); isplitr
      · ipureintro; exact hC.two c t y (by omega) hI
      isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · rw [← hC.tok c t y e16 ht hI]; iexact H16
    rw [← hC.pos c t e17 ht]; iexact H17

/-- The library's body obligation, at every point. -/
theorem value_obligation (hC : Carries m Inv G16 G17) (c : Dev nD) : BodyObligation (vdats (F := F) m Inv G16 G17 0 c) (defs₀ (F := F)) Variants.none () Set.univ := fun t => by
  rw [bigSep_W0, bigSep_W0, body_row]
  exact triple_restated (value_body m Inv G16 G17 hC c t) rfl .rfl fun _ => .rfl

theorem value_in (hC : Carries m Inv G16 G17) (c : Dev nD) : Pipeline.ΦA spec0 c ⊢ (vdats m Inv G16 G17 0 c).Φ 0 := by
  rw [show (vdats m Inv G16 G17 0 c).Φ 0 = carried Inv c 0 from rfl, classInv_eq]
  unfold carried
  iintro ⟨⟨⟨%s0, HS0⟩, ⟨%s1, HS1⟩, ⟨%s2, HS2⟩, ⟨%s3, HS3⟩, ⟨%s4, HS4⟩⟩, Hg⟩
  iexists (⟨s0, s1, s2, s3, s4⟩ : St F); isplitr
  · ipureintro; exact hC.start c _
  isplitl [HS0 HS1 HS2 HS3 HS4]
  · isplitl [HS0]; · iexact HS0
    isplitl [HS1]; · iexact HS1
    isplitl [HS2]; · iexact HS2
    isplitl [HS3]; · iexact HS3
    iexact HS4
  iexact Hg

theorem value_out (c : Dev nD) : (vdats m Inv G16 G17 0 c).Φ (Fin.last cfg0.N) ⊢ Pipeline.ΦA spec0 c := by
  rw [show (vdats m Inv G16 G17 0 c).Φ (Fin.last cfg0.N) = carried Inv c cfg0.N from rfl, classInv_eq]
  unfold carried
  iintro ⟨%y, %hI, ⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
/-- The launch. -/
theorem value_run (hC : Carries m Inv G16 G17) : θ_run defs (onTc (τ := τ) (main (F := F))) (s₀ m ρ)
    (fun r => (Pipeline.FramePost cfgs (vdats m Inv G16 G17) 0 (V m)) r ∧ r.2.sem = fun _ => 0) :=
  Pipeline.θ_run_frame_track (Q' := _) cfgs (vdats m Inv G16 G17) (0 : Fin 1) launch0 defs₀ Variants.none m ρ main
    (hbody := fun c => (value_obligation m Inv G16 G17 hC c).loose) (hshare := fun c => (vdats m Inv G16 G17 0 c).share_full fun _ => rfl)
    (howed := fun _ _ => rfl) (V := V m) (hmain := hmain m Variants.none) (hA := vA_eq m Inv G16 G17) (hin := value_in m Inv G16 G17 hC) (hout := value_out m Inv G16 G17)

/-- The one write back of an output is the whole array. -/
theorem flushed16 (c : Dev nD) (t : Fin cfg0.N) :
    (vdats m Inv G16 G17 0 c).flushed 16 t = ((cfg0.win 16).blk t).view.read (Elt F) (G16 c) := by
  show (cfg0.win 16).cut (grid0.coords t) ((vdats m Inv G16 G17 0 c).after 16 t) = _
  rw [vafter16]
  obtain ⟨e0, e1⟩ := index16 t
  funext y
  have hb0 : (((cfg0.win 16).blk t).view.emb y 0).val = win0_16.index t (0 : Fin 2) * 2048 + 1 * (y 0).val := rfl
  have hb1 : (((cfg0.win 16).blk t).view.emb y 1).val = win0_16.index t (1 : Fin 2) * 384 + 1 * (y 1).val := rfl
  show G16 c ((cfg0.win 16).xinj (grid0.coords t) y) = G16 c (((cfg0.win 16).blk t).view.emb y)
  refine congrArg (G16 c) (funext fun a => Fin.ext ?_)
  match a with
  | ⟨0, _⟩ => show (y 0).val = (((cfg0.win 16).blk t).view.emb y 0).val; rw [hb0, e0]; omega
  | ⟨1, _⟩ => show (y 1).val = (((cfg0.win 16).blk t).view.emb y 1).val; rw [hb1, e1]; omega

theorem mem_blk16 (t : Fin cfg0.N) (i : S2048x384.Idx) :
    i ∈ ((cfg0.win 16).blk t).view.set ↔ ∀ a : Fin 2, win0_16.index t a * S2048x384.size a ≤ (i a).val ∧ (i a).val < win0_16.index t a * S2048x384.size a + S2048x384.size a := by
  show i ∈ ((View.whole main_v31_0).slice (win0_16.rect t)).set ↔ _
  rw [View.set_slice_whole, Rect.mem_set_unit]
  exact Iff.rfl

/-- The output's array after the run. -/
theorem final16 (c : Dev nD) : (vdats m Inv G16 G17 0 c).arrAt 16 cfg0.N = G16 c :=
  (vdats m Inv G16 G17 0 c).arrAt_eq_of_cover 16 _ (fun t _ => flushed16 m Inv G16 G17 c t) (fun i => by
    have hi0 : (i 0).val < 2048 := (i 0).isLt
    have hi1 : (i 1).val < 384 := (i 1).isLt
    have hN : 63 < cfg0.N := lt_of_lt_of_eq (by decide) N_0.symm
    obtain ⟨e0, e1⟩ := index16 ⟨63, hN⟩
    refine ⟨⟨63, hN⟩, flush16 _ rfl, ?_⟩
    rw [mem_blk16]
    intro a
    match a with
    | ⟨0, _⟩ => show win0_16.index ⟨63, hN⟩ (0 : Fin 2) * 2048 ≤ (i 0).val ∧ (i 0).val < win0_16.index ⟨63, hN⟩ (0 : Fin 2) * 2048 + 2048; rw [e0]; omega
    | ⟨1, _⟩ => show win0_16.index ⟨63, hN⟩ (1 : Fin 2) * 384 ≤ (i 1).val ∧ (i 1).val < win0_16.index ⟨63, hN⟩ (1 : Fin 2) * 384 + 384; rw [e1]; omega)

/-- The one write back of an output is the whole array. -/
theorem flushed17 (c : Dev nD) (t : Fin cfg0.N) :
    (vdats m Inv G16 G17 0 c).flushed 17 t = ((cfg0.win 17).blk t).view.read (Elt F) (G17 c) := by
  show (cfg0.win 17).cut (grid0.coords t) ((vdats m Inv G16 G17 0 c).after 17 t) = _
  rw [vafter17]
  obtain ⟨e0, e1⟩ := index17 t
  funext y
  have hb0 : (((cfg0.win 17).blk t).view.emb y 0).val = win0_17.index t (0 : Fin 2) * 2048 + 1 * (y 0).val := rfl
  have hb1 : (((cfg0.win 17).blk t).view.emb y 1).val = win0_17.index t (1 : Fin 2) * 384 + 1 * (y 1).val := rfl
  show G17 c ((cfg0.win 17).xinj (grid0.coords t) y) = G17 c (((cfg0.win 17).blk t).view.emb y)
  refine congrArg (G17 c) (funext fun a => Fin.ext ?_)
  match a with
  | ⟨0, _⟩ => show (y 0).val = (((cfg0.win 17).blk t).view.emb y 0).val; rw [hb0, e0]; omega
  | ⟨1, _⟩ => show (y 1).val = (((cfg0.win 17).blk t).view.emb y 1).val; rw [hb1, e1]; omega

theorem mem_blk17 (t : Fin cfg0.N) (i : S2048x384.Idx) :
    i ∈ ((cfg0.win 17).blk t).view.set ↔ ∀ a : Fin 2, win0_17.index t a * S2048x384.size a ≤ (i a).val ∧ (i a).val < win0_17.index t a * S2048x384.size a + S2048x384.size a := by
  show i ∈ ((View.whole main_v31_1).slice (win0_17.rect t)).set ↔ _
  rw [View.set_slice_whole, Rect.mem_set_unit]
  exact Iff.rfl

/-- The output's array after the run. -/
theorem final17 (c : Dev nD) : (vdats m Inv G16 G17 0 c).arrAt 17 cfg0.N = G17 c :=
  (vdats m Inv G16 G17 0 c).arrAt_eq_of_cover 17 _ (fun t _ => flushed17 m Inv G16 G17 c t) (fun i => by
    have hi0 : (i 0).val < 2048 := (i 0).isLt
    have hi1 : (i 1).val < 384 := (i 1).isLt
    have hN : 63 < cfg0.N := lt_of_lt_of_eq (by decide) N_0.symm
    obtain ⟨e0, e1⟩ := index17 ⟨63, hN⟩
    refine ⟨⟨63, hN⟩, flush17 _ rfl, ?_⟩
    rw [mem_blk17]
    intro a
    match a with
    | ⟨0, _⟩ => show win0_17.index ⟨63, hN⟩ (0 : Fin 2) * 2048 ≤ (i 0).val ∧ (i 0).val < win0_17.index ⟨63, hN⟩ (0 : Fin 2) * 2048 + 2048; rw [e0]; omega
    | ⟨1, _⟩ => show win0_17.index ⟨63, hN⟩ (1 : Fin 2) * 384 ≤ (i 1).val ∧ (i 1).val < win0_17.index ⟨63, hN⟩ (1 : Fin 2) * 384 + 384; rw [e1]; omega)

/-- The run: the two outputs at what the last point makes, the arguments unchanged. -/
theorem run_carries (hC : Carries m Inv G16 G17) : θ_run defs (onTc (τ := τ) (main (F := F))) ⟨m, fun _ => 0, ρ⟩ (fun r => ∀ c : Dev nD,
      r.2.mem ((c.tc : Thread nD τ).loc main_v31_0) = G16 c
      ∧ r.2.mem ((c.tc : Thread nD τ).loc main_v31_1) = G17 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h.1 c).1 16).trans (final16 m Inv G16 G17 c), ((h.1 c).1 17).trans (final17 m Inv G16 G17 c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c)⟩) (value_run m ρ Inv G16 G17 hC)

end Cert.KernelIdeal.Gen

end
-- ==== Proof.Scan.lean ====
/- The two sweeps' running maxima, written as ten doubling steps and a carried row. -/
module

public import proofs.«01_k».proof.Proof.Steps

@[expose] public section

set_option maxRecDepth 16384

noncomputable section

namespace Cert.KernelIdeal.Gen

open Idealize.ShloMosaic

variable {F : FTy → Type} [FloatOps F] [Named F]

/-- What a step adds to the shifted row: nothing where it continues the segment, the mask elsewhere. -/
def pen (k : BitVec 32) (ids : IVec S1024x1 32) : FVec F S1024x1 .f32 :=
  select (andi (cmpi .sge rowsOf (broadcast S1024x1 k)) (cmpi .eq ids (dynamicRotate 0 k none ids rotates_S1024x1_d0)))
    (broadcast S1024x1 (Scalar.ofBits .f32 0x00000000#32)) (broadcast S1024x1 (Named.named κ "mask" 0xF149F2CA#32 : F .f32))

section W256

variable (ids : IVec S1024x1 32) (v : FVec F S1024x256 .bf16)

/-- One doubling step of the running maximum. -/
def step256 (k : BitVec 32) : FVec F S1024x256 .bf16 :=
  maximumf v (addf (dynamicRotate 0 k none v rotates_S1024x256_d0)
    (broadcastTo S1024x256 (truncf .bf16 (pen (F := F) k ids) bitsLt_bf16_f32) broadcasts_S1024x1_S1024x256))

/-- The running maximum within a block. -/
def scan256 : FVec F S1024x256 .bf16 :=
  step256 ids (step256 ids (step256 ids (step256 ids (step256 ids (step256 ids (step256 ids (step256 ids (step256 ids (step256 ids v
    1#32) 2#32) 4#32) 8#32) 16#32) 32#32) 64#32) 128#32) 256#32) 512#32

/-- The carried row joined in. -/
def carry256 (cid : IVec S1x1 32) (row : FVec F S1x256 .bf16) : FVec F S1024x256 .bf16 :=
  select (broadcastTo S1024x256 (cmpi .eq ids (broadcastTo S1024x1 cid broadcasts_S1x1_S1024x1)) broadcasts_S1024x1_S1024x256)
    (maximumf v (broadcastTo S1024x256 row broadcasts_S1x256_S1024x256)) v

/-- The last row. -/
def lastRow256 : FVec F S1x256 .bf16 :=
  shapeCast S1x256 (multiReduction .maximumf [0] S256 (select (cmpi .eq (iota .tc S1024x256 32 [0] iota_S1024x256_d0_w32) (broadcast S1024x256 1023#32)) v
    (broadcast S1024x256 (Scalar.truncf .bf16 bitsLt_bf16_f32 (Scalar.ofBits .f32 0xFF800000#32 : F .f32)))) 0xFF80#16 reduces_S1024x256_S256 (.inr rfl) rfl) shapeCasts_S256_S1x256

end W256

section W384

variable (ids : IVec S1024x1 32) (v : FVec F S1024x384 .bf16)

/-- One doubling step of the running maximum. -/
def step384 (k : BitVec 32) : FVec F S1024x384 .bf16 :=
  maximumf v (addf (dynamicRotate 0 k none v rotates_S1024x384_d0)
    (broadcastTo S1024x384 (truncf .bf16 (pen (F := F) k ids) bitsLt_bf16_f32) broadcasts_S1024x1_S1024x384))

/-- The running maximum within a block. -/
def scan384 : FVec F S1024x384 .bf16 :=
  step384 ids (step384 ids (step384 ids (step384 ids (step384 ids (step384 ids (step384 ids (step384 ids (step384 ids (step384 ids v
    1#32) 2#32) 4#32) 8#32) 16#32) 32#32) 64#32) 128#32) 256#32) 512#32

/-- The carried row joined in. -/
def carry384 (cid : IVec S1x1 32) (row : FVec F S1x384 .bf16) : FVec F S1024x384 .bf16 :=
  select (broadcastTo S1024x384 (cmpi .eq ids (broadcastTo S1024x1 cid broadcasts_S1x1_S1024x1)) broadcasts_S1024x1_S1024x384)
    (maximumf v (broadcastTo S1024x384 row broadcasts_S1x384_S1024x384)) v

/-- The last row. -/
def lastRow384 : FVec F S1x384 .bf16 :=
  shapeCast S1x384 (multiReduction .maximumf [0] S384 (select (cmpi .eq (iota .tc S1024x384 32 [0] iota_S1024x384_d0_w32) (broadcast S1024x384 1023#32)) v
    (broadcast S1024x384 (Scalar.truncf .bf16 bitsLt_bf16_f32 (Scalar.ofBits .f32 0xFF800000#32 : F .f32)))) 0xFF80#16 reduces_S1024x384_S384 (.inr rfl) rfl) shapeCasts_S384_S1x384

end W384

/-- The last identifier of a block. -/
def lastId (ids : IVec S1024x1 32) : IVec S1x1 32 :=
  shapeCast S1x1 (multiReductionI .maxsi [0] S1 (select (cmpi .eq rowsOf (broadcast S1024x1 1023#32)) ids (broadcast S1024x1 4294967295#32)) 2147483648#32
    reduces_S1024x1_S1 rfl) shapeCasts_S1_S1x1

/-- The first sweep's rows before the maxima. -/
def lin1 (x0 : Vec F S1024x11 .f32) (x3 : Vec F S11x256 .f32) (x4 : Vec F S1x256 .f32) : FVec F S1024x256 .bf16 :=
  truncf .bf16 (addf (matmul dot_S1024x11_S11x256_S1024x256_1_0_0_1_n_n none x0 x3 (constant S1024x256 .f32 0x00000000#32))
    (broadcastTo S1024x256 x4 broadcasts_S1x256_S1024x256)) bitsLt_bf16_f32

theorem cast_id {s : Shape} {α : Type} (x : s.Idx → α) (h : s.ShapeCasts s) : shapeCast s x h = x := by
  first | exact shapeCast_self x h | exact shapeCast_self _ | (funext j; exact congrArg x (by simp))

theorem pay14_eq (x1 : Vec F S1024x1 .i32) : k0_pay14 x1 = x1 := cast_id x1 _
theorem pay28_eq (x1 : Vec F S1024x1 .i32) : k0_pay28 x1 = x1 := cast_id x1 _
theorem pay4_eq (x1 : IVec S1024x1 32) : k0_pay4 x1 = lastId x1 := cast_id _ _
theorem pay11_eq (x1 : IVec S1024x1 32) : k0_pay11 x1 = lastId x1 := cast_id _ _
theorem pay3_eq (v : FVec F S1x256 .bf16) : k0_pay3 v = v := cast_id v _

theorem pay16_eq (x0 : Vec F S1024x11 .f32) (x1 : Vec F S1024x1 .i32) (x3 : Vec F S11x256 .f32) (x4 : Vec F S1x256 .f32) :
    k0_pay16 x1 x0 x3 x4 = step256 (k0_pay14 x1) (lin1 x0 x3 x4) 1#32 := by
  unfold k0_pay16
  simp only [cast_id]
  rfl
theorem pay20_eq (ids : IVec S1024x1 32) (v : FVec F S1024x256 .bf16) :
    k0_pay20 ids rowsOf v (dynamicRotate 0 2#32 none v rotates_S1024x256_d0) (dynamicRotate 0 2#32 none ids rotates_S1024x1_d0) k0_pay19
      = step256 ids (step256 ids (step256 ids v 2#32) 4#32) 8#32 := rfl
theorem pay25_eq (ids : IVec S1024x1 32) (v : FVec F S1024x256 .bf16) :
    k0_pay25 ids rowsOf v (dynamicRotate 0 16#32 none v rotates_S1024x256_d0) (k0_pay22 ids rowsOf) (k0_pay23 (F := F)) (k0_pay24 (F := F))
      = step256 ids (step256 ids (step256 ids (step256 ids v 16#32) 32#32) 64#32) 128#32 := rfl
theorem pay26_eq (ids : IVec S1024x1 32) (v : FVec F S1024x256 .bf16) (cid : Vec F S1x1 .i32) (row : Vec F S1x256 .bf16) :
    k0_pay26 ids rowsOf v 256#32 cid row = carry256 ids (step256 ids (step256 ids v 256#32) 512#32) cid row := by
  unfold k0_pay26
  simp only [cast_id]
  rfl
theorem pay27_eq (ids : IVec S1024x1 32) (v : FVec F S1024x256 .bf16) (cid : Vec F S1x1 .i32) (row : Vec F S1x256 .bf16) :
    k0_pay27 ids rowsOf v 256#32 cid row = lastRow256 (k0_pay26 ids rowsOf v 256#32 cid row) := rfl

/-- The first sweep's rows after a block: the scan with the carried row. -/
theorem fix1_eq (x0 : Vec F S1024x11 .f32) (x1 : Vec F S1024x1 .i32) (x3 : Vec F S11x256 .f32) (x4 : Vec F S1x256 .f32) (y3 : Vec F S8x512 .bf16) (y4 : Vec F S8x128 .i32) :
    fix1 x0 x1 x3 x4 y3 y4 = carry256 x1 (scan256 x1 (lin1 x0 x3 x4)) (cidOf y4) (crow256 y3) := by
  unfold fix1 mid1
  rw [pay16_eq, show k0_pay17 x1 x0 x3 x4 = dynamicRotate 0 2#32 none (step256 (k0_pay14 x1) (lin1 x0 x3 x4) 1#32) rotates_S1024x256_d0 from by unfold k0_pay17; rw [pay16_eq],
    show k0_pay18 x1 = dynamicRotate 0 2#32 none (k0_pay14 x1) rotates_S1024x1_d0 from rfl, pay14_eq]
  unfold k0_pay21
  rw [pay20_eq, pay25_eq, pay26_eq]
  rfl
theorem last1_eq (x0 : Vec F S1024x11 .f32) (x1 : Vec F S1024x1 .i32) (x3 : Vec F S11x256 .f32) (x4 : Vec F S1x256 .f32) (y3 : Vec F S8x512 .bf16) (y4 : Vec F S8x128 .i32) :
    last1 x0 x1 x3 x4 y3 y4 = lastRow256 (fix1 x0 x1 x3 x4 y3 y4) := by
  unfold last1 fix1
  rw [pay3_eq, pay27_eq]

theorem pay35_eq (ids : IVec S1024x1 32) (v : FVec F S1024x384 .bf16) :
    k0_pay35 ids v rowsOf (dynamicRotate 0 1#32 none v rotates_S1024x384_d0) (dynamicRotate 0 1#32 none ids rotates_S1024x1_d0) k0_pay34
      = step384 ids (step384 ids (step384 ids v 1#32) 2#32) 4#32 := rfl
theorem pay3940_eq (ids : IVec S1024x1 32) (v : FVec F S1024x384 .bf16) :
    k0_pay40 ids rowsOf (k0_pay39 ids rowsOf v (dynamicRotate 0 8#32 none v rotates_S1024x384_d0) (k0_pay37 ids rowsOf) (Named.named κ "mask" 0xF149F2CA#32 : F .f32) (k0_pay38 (F := F)))
      = step384 ids (step384 ids (step384 ids (step384 ids (step384 ids (step384 ids (step384 ids v 8#32) 16#32) 32#32) 64#32) 128#32) 256#32) 512#32 := rfl
theorem pay9_eq (ids : IVec S1024x1 32) (v : FVec F S1024x384 .bf16) (cid : Vec F S1x1 .i32) (row : Vec F S1x384 .bf16) :
    k0_pay9 ids v cid row = carry384 ids v cid row := by
  unfold k0_pay9
  simp only [cast_id]
  rfl

section Second
variable (x0 : Vec F S1024x11 .f32) (x1 x2 : Vec F S1024x1 .i32) (x5 : Vec F S11x512 .f32) (x8 : Vec F S512x384 .bf16)
  (x9 : Vec F S1x384 .f32) (y1 : Vec F S512x512 .bf16)

/-- The second sweep's rows before the maxima. -/
def lin2 : FVec F S1024x384 .bf16 := k0_pay31 x1 y1 x0 x5 x8 x9

theorem mid2_eq : mid2 x0 x1 x5 x8 x9 y1 = scan384 x1 (lin2 x0 x1 x5 x8 x9 y1) := by
  unfold mid2
  rw [show k0_pay32 x1 y1 x0 x5 x8 x9 = dynamicRotate 0 1#32 none (k0_pay31 x1 y1 x0 x5 x8 x9) rotates_S1024x384_d0 from rfl,
    show k0_pay33 x1 = dynamicRotate 0 1#32 none (k0_pay28 x1) rotates_S1024x1_d0 from rfl, pay28_eq]
  unfold k0_pay36
  rw [pay35_eq, pay3940_eq]
  rfl

/-- The second sweep's rows after a block. -/
def fix2 (y3 : Vec F S8x512 .bf16) (y4 : Vec F S8x128 .i32) : FVec F S1024x384 .bf16 :=
  carry384 x1 (scan384 x1 (lin2 x0 x1 x5 x8 x9 y1)) (cidOf y4) (crow384 y3)

theorem last2_eq (y3 : Vec F S8x512 .bf16) (y4 : Vec F S8x128 .i32) :
    last2 x0 x1 x5 x8 x9 y1 y3 y4 = lastRow384 (fix2 x0 x1 x5 x8 x9 y1 y3 y4) := by
  unfold last2 k0_pay10
  simp only [cast_id]
  rw [pay9_eq, mid2_eq, pay28_eq]
  rfl
theorem acc2_eq (y2 : Vec F S512x384 .bf16) (y3 : Vec F S8x512 .bf16) (y4 : Vec F S8x128 .i32) :
    acc2 x0 x1 x2 x5 x8 x9 y1 y2 y3 y4 = addf y2 (truncf .bf16 (matmul dot_S1024x512_S1024x384_S512x384_0_0_1_1_n_n none (k0_pay30 x1 x2)
      (fix2 x0 x1 x5 x8 x9 y1 y3 y4) (constant S512x384 .f32 0x00000000#32)) bitsLt_bf16_f32) := by
  unfold acc2 k0_pay12
  simp only [cast_id]
  rw [pay9_eq, mid2_eq, pay28_eq]
  rfl
end Second

end Cert.KernelIdeal.Gen

end
-- ==== Proof.Segments.lean ====
/- Running maxima over the segments of a sorted key: doubling within a block, the carry between blocks, and the last place of each
   segment, which holds the segment's maximum. -/
module

public import Mathlib.Data.EReal.Basic
public import Mathlib.Data.EReal.Operations
public import Mathlib.Algebra.BigOperators.Intervals
public import Mathlib.Algebra.BigOperators.Fin

@[expose] public section

noncomputable section

namespace Cert.Seg

/-- The maximum over the `K` places of a block that end at `r` and carry `r`'s key. -/
def loc (key : ℕ → ℕ) (h : ℕ → EReal) (b K r : ℕ) : EReal :=
  ((Finset.range (r + 1)).filter (fun q => r < q + K ∧ key (b + q) = key (b + r))).sup (fun q => h (b + q))

/-- The maximum over all the places up to `p` that carry `p`'s key. -/
def upto (key : ℕ → ℕ) (h : ℕ → EReal) (p : ℕ) : EReal :=
  ((Finset.range (p + 1)).filter (fun q => key q = key p)).sup h

/-- The maximum over the places below `N` that carry the key `s`. -/
def all (N : ℕ) (key : ℕ → ℕ) (h : ℕ → EReal) (s : ℕ) : EReal :=
  ((Finset.range N).filter (fun q => key q = s)).sup h

/-- The last place of a segment. -/
def IsLast (N : ℕ) (key : ℕ → ℕ) (p : ℕ) : Prop := p + 1 = N ∨ key p ≠ key (p + 1)

instance (N : ℕ) (key : ℕ → ℕ) (p : ℕ) : Decidable (IsLast N key p) := inferInstanceAs (Decidable (_ ∨ _))

/-- The sum over the places below `n` of the running maxima at the last places of segment `s`. -/
def picked (N : ℕ) (key : ℕ → ℕ) (h : ℕ → EReal) (s n : ℕ) : EReal :=
  ∑ q ∈ Finset.range n, if key q = s ∧ IsLast N key q then upto key h q else 0

variable {key : ℕ → ℕ} {h : ℕ → EReal}

theorem loc_one (b r : ℕ) : loc key h b 1 r = h (b + r) := by
  unfold loc
  have : (Finset.range (r + 1)).filter (fun q => r < q + 1 ∧ key (b + q) = key (b + r)) = {r} := by
    ext q; simp only [Finset.mem_filter, Finset.mem_range, Finset.mem_singleton]
    constructor
    · rintro ⟨h1, h2, -⟩; omega
    · rintro rfl; exact ⟨by omega, by omega, rfl⟩
  rw [this, Finset.sup_singleton]

/-- One doubling step. -/
theorem loc_step (mono : Monotone key) (b K r : ℕ) :
    max (loc key h b K r) (if K ≤ r ∧ key (b + r) = key (b + (r - K)) then loc key h b K (r - K) else ⊥) = loc key h b (K + K) r := by
  apply eq_of_forall_ge_iff
  intro z
  by_cases hc : K ≤ r ∧ key (b + r) = key (b + (r - K))
  · rw [if_pos hc]
    obtain ⟨hK, he⟩ := hc
    unfold loc
    rw [max_le_iff]
    simp only [Finset.sup_le_iff, Finset.mem_filter, Finset.mem_range]
    constructor
    · rintro ⟨h1, h2⟩ q ⟨hq, hq', hk⟩
      by_cases hb : r < q + K
      · exact h1 q ⟨hq, hb, hk⟩
      · exact h2 q ⟨by omega, by omega, by rw [hk, he]⟩
    · intro H
      exact ⟨fun q ⟨a1, a2, a3⟩ => H q ⟨a1, by omega, a3⟩, fun q ⟨a1, a2, a3⟩ => H q ⟨by omega, by omega, by rw [a3, he]⟩⟩
  · rw [if_neg hc]
    unfold loc
    rw [max_le_iff]
    simp only [Finset.sup_le_iff, Finset.mem_filter, Finset.mem_range, bot_le, and_true]
    constructor
    · intro H q ⟨hq, hq', hk⟩
      refine H q ⟨hq, ?_, hk⟩
      by_contra hb
      apply hc
      have h1 : key (b + q) ≤ key (b + (r - K)) := mono (by omega)
      have h2 : key (b + (r - K)) ≤ key (b + r) := mono (by omega)
      exact ⟨by omega, by omega⟩
    · intro H q ⟨a1, a2, a3⟩
      exact H q ⟨a1, by omega, a3⟩

/-- The carry from the block before, when the block's place continues its last segment. -/
theorem carry_same (mono : Monotone key) (b r K : ℕ) (hK : r < K) (hb : 0 < b) (he : key (b + r) = key (b - 1)) :
    max (loc key h b K r) (upto key h (b - 1)) = upto key h (b + r) := by
  apply eq_of_forall_ge_iff
  intro z
  unfold loc upto
  rw [max_le_iff]
  simp only [Finset.sup_le_iff, Finset.mem_filter, Finset.mem_range]
  constructor
  · rintro ⟨h1, h2⟩ q ⟨hq, hk⟩
    by_cases hqb : q < b
    · exact h2 q ⟨by omega, by rw [hk, he]⟩
    · have := h1 (q - b) ⟨by omega, by omega, by rw [show b + (q - b) = q by omega]; exact hk⟩
      rwa [show b + (q - b) = q by omega] at this
  · intro H
    exact ⟨fun q ⟨a1, a2, a3⟩ => H (b + q) ⟨by omega, a3⟩, fun q ⟨a1, a2⟩ => H q ⟨by omega, by rw [a2, he]⟩⟩

/-- No carry is needed when it does not. -/
theorem carry_none (mono : Monotone key) (b r K : ℕ) (hK : r < K) (he : 0 < b → key (b + r) ≠ key (b - 1)) :
    loc key h b K r = upto key h (b + r) := by
  apply eq_of_forall_ge_iff
  intro z
  unfold loc upto
  simp only [Finset.sup_le_iff, Finset.mem_filter, Finset.mem_range]
  constructor
  · rintro h1 q ⟨hq, hk⟩
    by_cases hqb : q < b
    · exfalso
      have h1 : key q ≤ key (b - 1) := mono (by omega)
      have h2 : key (b - 1) ≤ key (b + r) := mono (by omega)
      exact he (by omega) (by omega)
    · have := h1 (q - b) ⟨by omega, by omega, by rw [show b + (q - b) = q by omega]; exact hk⟩
      rwa [show b + (q - b) = q by omega] at this
  · intro H q ⟨a1, a2, a3⟩
    exact H (b + q) ⟨by omega, a3⟩

theorem picked_zero (N s : ℕ) : picked N key h s 0 = 0 := by
  unfold picked; rw [Finset.range_zero, Finset.sum_empty]

theorem picked_add (N s b n : ℕ) :
    picked N key h s (b + n) = picked N key h s b + ∑ r : Fin n, if key (b + r.val) = s ∧ IsLast N key (b + r.val) then upto key h (b + r.val) else 0 := by
  unfold picked
  rw [Finset.sum_range_add, Finset.sum_range (fun x => if key (b + x) = s ∧ IsLast N key (b + x) then upto key h (b + x) else 0)]

/-- Every segment's one last place holds the segment's maximum. -/
theorem picked_all (mono : Monotone key) (N s p : ℕ) (hp : p < N) (hs : key p = s) : picked N key h s N = all N key h s := by
  classical
  have hne : ((Finset.range N).filter (fun q => key q = s)).Nonempty := ⟨p, by simp only [Finset.mem_filter, Finset.mem_range]; exact ⟨hp, hs⟩⟩
  set P := ((Finset.range N).filter (fun q => key q = s)).max' hne with hP
  have hmem : P ∈ (Finset.range N).filter (fun q => key q = s) := Finset.max'_mem _ _
  have hle : ∀ q, q < N → key q = s → q ≤ P := fun q h1 h2 => Finset.le_max' _ _ (by simp only [Finset.mem_filter, Finset.mem_range]; exact ⟨h1, h2⟩)
  simp only [Finset.mem_filter, Finset.mem_range] at hmem
  obtain ⟨hPN, hPs⟩ := hmem
  have hlast : IsLast N key P := by
    by_cases h1 : P + 1 = N
    · exact Or.inl h1
    · refine Or.inr fun hk => ?_
      have := hle (P + 1) (by omega) (by rw [← hk, hPs])
      omega
  unfold picked
  rw [Finset.sum_eq_single P]
  · rw [if_pos ⟨hPs, hlast⟩]
    unfold upto all
    congr 1
    ext q
    simp only [Finset.mem_filter, Finset.mem_range]
    constructor
    · rintro ⟨h1, h2⟩; exact ⟨by omega, by rw [h2, hPs]⟩
    · rintro ⟨h1, h2⟩; have := hle q h1 h2; exact ⟨by omega, by rw [h2, hPs]⟩
  · intro q hq hqP
    simp only [Finset.mem_range] at hq
    refine if_neg ?_
    rintro ⟨h1, h2⟩
    have h3 := hle q hq h1
    rcases h2 with h2 | h2
    · omega
    · have h4 : key q ≤ key (q + 1) := mono (by omega)
      have h5 : key (q + 1) ≤ key P := mono (by omega)
      omega
  · intro hq
    exact absurd (Finset.mem_range.2 hPN) hq

/-- A key that starts at 0, ends at `M` and goes up by at most one at each place takes every value up to `M`. -/
theorem onto (N M : ℕ) (h0 : key 0 = 0) (hM : key (N - 1) = M) (hN : 0 < N) (hstep : ∀ p, p + 1 < N → key (p + 1) ≤ key p + 1) :
    ∀ s, s ≤ M → ∃ p, p < N ∧ key p = s := by
  intro s hs
  by_contra hno
  push Not at hno
  have : ∀ p, p < N → key p < s := by
    intro p
    induction p with
    | zero => intro h; have := hno 0 h; omega
    | succ n ih => intro h; have h1 := ih (by omega); have h2 := hstep n h; have h3 := hno (n + 1) h; omega
  have := this (N - 1) (by omega)
  omega

end Cert.Seg

end
-- ==== Proof.Read.lean ====
/- The two sweeps' payloads read at an index: the scan, the carried row, the sums, over the extended reals. -/
module

public import proofs.«01_k».proof.Proof.Scan
public import proofs.«01_k».proof.Proof.Segments
public import Idealize.ShloMosaic.Lib.Pointwise
public import Idealize.ShloMosaic.Lib.KernelVsHost

@[expose] public section

set_option maxRecDepth 16384

noncomputable section

namespace Cert.KernelIdeal.Gen

open Idealize.ShloMosaic

theorem mask_val : (Named.named κ "mask" 0xF149F2CA#32 : Ideal .f32) = (⊥ : EReal) :=
  IdealRules.named_const.ideal_named_scalar _ _ _ _ rfl

/-! ## Words as bits -/

theorem eq_bit {w : ℕ} (a b : BitVec w) : IntOp.cmpi .eq a b = BitVec.ofBool (decide (a = b)) := by
  unfold IntOp.cmpi; exact congrArg BitVec.ofBool (by by_cases h : a = b <;> simp [h])
theorem ne_bit {w : ℕ} (a b : BitVec w) : IntOp.cmpi .ne a b = BitVec.ofBool (decide (a ≠ b)) := by
  unfold IntOp.cmpi; exact congrArg BitVec.ofBool (by by_cases h : a = b <;> simp [h])
theorem and_bit (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]
theorem sel_bit {α : Type} (p : Prop) [Decidable p] (a b : α) : Scalar.select (BitVec.ofBool (decide p)) a b = if p then a else b := by
  by_cases hp : p <;> simp [hp, Scalar.select]
theorem fl_bit (p : Prop) [Decidable p] : (FloatOps.sitofp .f32 (BitVec.setWidth 32 (BitVec.ofBool (decide p))) : Ideal .f32) = if p then (1 : EReal) else 0 := by
  by_cases hp : p
  · rw [if_pos hp, decide_eq_true hp]
    show (((BitVec.setWidth 32 (BitVec.ofBool true)).toInt : ℝ) : EReal) = 1
    rw [show (BitVec.setWidth 32 (BitVec.ofBool true)).toInt = 1 from by decide]; simp
  · rw [if_neg hp, decide_eq_false hp]
    show (((BitVec.setWidth 32 (BitVec.ofBool false)).toInt : ℝ) : EReal) = 0
    rw [show (BitVec.setWidth 32 (BitVec.ofBool false)).toInt = 0 from by decide]; simp
theorem sge_bit (a b : ℕ) (ha : a < 2147483648) (hb : b < 2147483648) : IntOp.cmpi .sge (BitVec.ofNat 32 a) (BitVec.ofNat 32 b) = BitVec.ofBool (decide (b ≤ a)) := by
  unfold IntOp.cmpi
  refine congrArg BitVec.ofBool ?_
  show (BitVec.ofNat 32 b).sle (BitVec.ofNat 32 a) = _
  rw [BitVec.sle_eq_decide, BitVec.toInt_eq_toNat_of_lt, BitVec.toInt_eq_toNat_of_lt]
  · simp only [BitVec.toNat_ofNat]
    refine decide_eq_decide.mpr ?_
    omega
  · simp only [BitVec.toNat_ofNat]; omega
  · simp only [BitVec.toNat_ofNat]; omega
theorem slt_bit (a b : ℕ) (ha : a < 2147483648) (hb : b < 2147483648) : IntOp.cmpi .slt (BitVec.ofNat 32 a) (BitVec.ofNat 32 b) = BitVec.ofBool (decide (a < b)) := by
  unfold IntOp.cmpi
  refine congrArg BitVec.ofBool ?_
  show (BitVec.ofNat 32 a).slt (BitVec.ofNat 32 b) = _
  rw [BitVec.slt_eq_decide, BitVec.toInt_eq_toNat_of_lt, BitVec.toInt_eq_toNat_of_lt]
  · simp only [BitVec.toNat_ofNat]
    refine decide_eq_decide.mpr ?_
    omega
  · simp only [BitVec.toNat_ofNat]; omega
  · simp only [BitVec.toNat_ofNat]; omega
theorem sle_bit (a b : ℕ) (ha : a < 2147483648) (hb : b < 2147483648) : IntOp.cmpi .sle (BitVec.ofNat 32 a) (BitVec.ofNat 32 b) = BitVec.ofBool (decide (a ≤ b)) := by
  rw [← sge_bit b a hb ha]; rfl
theorem word_inj {a b : ℕ} (ha : a < 4294967296) (hb : b < 4294967296) : BitVec.ofNat 32 a = BitVec.ofNat 32 b ↔ a = b := by
  constructor
  · intro h
    have := congrArg BitVec.toNat h
    simp only [BitVec.toNat_ofNat] at this
    omega
  · intro h; rw [h]
theorem toInt_maxsi (a b : BitVec 32) : (IntOp.maxsi a b).toInt = max a.toInt b.toInt := by
  unfold IntOp.maxsi
  rw [BitVec.slt_eq_decide]
  by_cases h : b.toInt < a.toInt
  · rw [if_pos (decide_eq_true h)]; omega
  · rw [if_neg (by simpa using h)]; omega
theorem rowNo_bit (r : Fin 1024) : IntOp.cmpi .eq (BitVec.ofNat 32 r.val) 1023#32 = BitVec.ofBool (decide (r = 1023)) := by
  rw [eq_bit]
  refine congrArg BitVec.ofBool (decide_eq_decide.mpr ?_)
  have : r.val < 1024 := r.isLt
  rw [show (1023#32 : BitVec 32) = BitVec.ofNat 32 1023 from rfl, word_inj (by omega) (by omega), Fin.ext_iff]
  rfl

theorem neg_inf_bf16 : (Ideal.ofBits .bf16 65408#16 : EReal) = ⊥ := by
  simp [Ideal.ofBits, Ideal.ieee]
theorem neg_inf_f32 : (Ideal.ofBits .f32 4286578688#32 : EReal) = ⊥ := by
  simp [Ideal.ofBits, Ideal.ieee]

/-- The maximum over the rows of what is kept at the last one only. -/
theorem fold_max_last (f : Fin 1024 → EReal) : Finset.fold max (⊥ : EReal) (fun r : Fin 1024 => if r = 1023 then f r else ⊥) Finset.univ = f 1023 := by
  refine le_antisymm (Finset.fold_max_le _ |>.mpr ⟨bot_le, fun r _ => ?_⟩) (Finset.le_fold_max _ |>.mpr (Or.inr ⟨1023, Finset.mem_univ _, ?_⟩))
  · by_cases h : r = 1023
    · rw [if_pos h, h]
    · rw [if_neg h]; exact bot_le
  · rw [if_pos rfl]

/-! ## The identifiers of a block -/

/-- The identifier column of the block that begins at place `b` holds the keys. -/
def IdsAt (key : ℕ → ℕ) (b : ℕ) (ids : IVec S1024x1 32) : Prop := ∀ r : Fin 1024, ids (ix2 r 0) = BitVec.ofNat 32 (key (b + r.val))
/-- The column of the next identifiers: −1 after the last place. -/
def NextAt (key : ℕ → ℕ) (b : ℕ) (idn : IVec S1024x1 32) : Prop :=
  ∀ r : Fin 1024, idn (ix2 r 0) = if b + r.val + 1 = 32768 then 4294967295#32 else BitVec.ofNat 32 (key (b + r.val + 1))
/-- The carried identifier: −1 before the first block. -/
def CarryAt (key : ℕ → ℕ) (b : ℕ) (x : BitVec 32) : Prop := x = if b = 0 then 4294967295#32 else BitVec.ofNat 32 (key (b - 1))

variable {key : ℕ → ℕ} (hk : ∀ p, key p < 512) {b : ℕ}

include hk

theorem key_inj {p q : ℕ} : BitVec.ofNat 32 (key p) = BitVec.ofNat 32 (key q) ↔ key p = key q :=
  word_inj (lt_trans (hk p) (by decide)) (lt_trans (hk q) (by decide))
theorem key_ne_neg (p : ℕ) : BitVec.ofNat 32 (key p) ≠ 4294967295#32 := by
  intro h
  have h' : BitVec.ofNat 32 (key p) = BitVec.ofNat 32 4294967295 := h
  have := (word_inj (lt_trans (hk p) (by decide)) (by decide)).mp h'
  have := hk p
  omega

theorem pen_at {ids : IVec S1024x1 32} (hid : IdsAt key b ids) (K : ℕ) (h0 : 0 < K) (h1 : K ≤ 512) (r : Fin 1024) :
    pen (F := Ideal) (BitVec.ofNat 32 K) ids (ix2 r 0) = if K ≤ r.val ∧ key (b + r.val) = key (b + (r.val - K)) then (0 : EReal) else ⊥ := by
  have hr : r.val < 1024 := r.isLt
  have hkn : (BitVec.ofNat 32 K).toNat = K := by simp only [BitVec.toNat_ofNat]; omega
  unfold pen rowsOf
  pointwise
  rw [mask_val, sge_bit _ _ (by omega) (by omega), eq_bit, and_bit, sel_bit]
  rw [hid r]
  have e : ids (ix2 ⟨(r.val + 1024 - (BitVec.ofNat 32 K).toNat % 1024) % 1024, Nat.mod_lt _ (by decide)⟩ 0)
      = BitVec.ofNat 32 (key (b + (r.val + 1024 - (BitVec.ofNat 32 K).toNat % 1024) % 1024)) := hid _
  refine if_congr ?_ rfl rfl
  refine and_congr_right fun hc => ?_
  rw [e, key_inj hk, hkn, show (r.val + 1024 - K % 1024) % 1024 = r.val - K from by omega]

section W256

theorem step256_at (ids : IVec S1024x1 32) (v : FVec Ideal S1024x256 .bf16) (hid : IdsAt key b ids) (K : ℕ) (h0 : 0 < K) (h1 : K ≤ 512) (r : Fin 1024) (l : Fin 256) :
    step256 ids v (BitVec.ofNat 32 K) (ix2 r l)
      = max (v (ix2 r l)) (if h : K ≤ r.val ∧ key (b + r.val) = key (b + (r.val - K)) then (v (ix2 ⟨r.val - K, by omega⟩ l) : EReal) else ⊥) := by
  have hkn : (BitVec.ofNat 32 K).toNat = K := by simp only [BitVec.toNat_ofNat]; omega
  unfold step256
  pointwise
  refine congrArg (max _) ?_
  rw [pen_at hk hid K h0 h1]
  by_cases hc : K ≤ r.val ∧ key (b + r.val) = key (b + (r.val - K))
  · rw [dif_pos hc, if_pos hc]
    refine (add_zero _).trans (congrArg v (congrArg (ix2 · l) (Fin.ext ?_)))
    show (r.val + 1024 - (BitVec.ofNat 32 K).toNat % 1024) % 1024 = r.val - K
    rw [hkn]; omega
  · rw [dif_neg hc, if_neg hc]
    exact EReal.add_bot _

/-- A doubling step doubles the reach. -/
theorem step256_loc (mono : Monotone key) (ids : IVec S1024x1 32) (v : FVec Ideal S1024x256 .bf16) (hid : IdsAt key b ids) (h : ℕ → EReal) (l : Fin 256) (K K' : ℕ) (h0 : 0 < K) (h1 : K ≤ 512)
    (hK : K + K = K') (hv : ∀ r : Fin 1024, v (ix2 r l) = Cert.Seg.loc key h b K r.val) (r : Fin 1024) :
    step256 ids v (BitVec.ofNat 32 K) (ix2 r l) = Cert.Seg.loc key h b K' r.val := by
  rw [step256_at hk ids v hid K h0 h1, hv, ← hK, ← Cert.Seg.loc_step mono]
  refine congrArg (max _) ?_
  by_cases hc : K ≤ r.val ∧ key (b + r.val) = key (b + (r.val - K))
  · rw [dif_pos hc, if_pos hc, hv]
  · rw [dif_neg hc, if_neg hc]

/-- The running maximum within a block. -/
theorem scan256_loc (mono : Monotone key) (ids : IVec S1024x1 32) (v : FVec Ideal S1024x256 .bf16) (hid : IdsAt key b ids) (h : ℕ → EReal) (l : Fin 256)
    (hv : ∀ r : Fin 1024, v (ix2 r l) = h (b + r.val)) (r : Fin 1024) : scan256 ids v (ix2 r l) = Cert.Seg.loc key h b 1024 r.val := by
  unfold scan256
  refine step256_loc hk mono ids _ hid h l 512 1024 (by decide) (by decide) rfl (fun r => ?_) r
  refine step256_loc hk mono ids _ hid h l 256 512 (by decide) (by decide) rfl (fun r => ?_) r
  refine step256_loc hk mono ids _ hid h l 128 256 (by decide) (by decide) rfl (fun r => ?_) r
  refine step256_loc hk mono ids _ hid h l 64 128 (by decide) (by decide) rfl (fun r => ?_) r
  refine step256_loc hk mono ids _ hid h l 32 64 (by decide) (by decide) rfl (fun r => ?_) r
  refine step256_loc hk mono ids _ hid h l 16 32 (by decide) (by decide) rfl (fun r => ?_) r
  refine step256_loc hk mono ids _ hid h l 8 16 (by decide) (by decide) rfl (fun r => ?_) r
  refine step256_loc hk mono ids _ hid h l 4 8 (by decide) (by decide) rfl (fun r => ?_) r
  refine step256_loc hk mono ids _ hid h l 2 4 (by decide) (by decide) rfl (fun r => ?_) r
  refine step256_loc hk mono ids _ hid h l 1 2 (by decide) (by decide) rfl (fun r => ?_) r
  rw [hv, Cert.Seg.loc_one]

/-- The carried row joined in: the running maximum from the start. -/
theorem carry256_upto (mono : Monotone key) (ids : IVec S1024x1 32) (v : FVec Ideal S1024x256 .bf16) (cid : IVec S1x1 32) (row : FVec Ideal S1x256 .bf16) (hid : IdsAt key b ids)
    (h : ℕ → EReal) (l : Fin 256) (hv : ∀ r : Fin 1024, v (ix2 r l) = Cert.Seg.loc key h b 1024 r.val) (hc : CarryAt key b (cid (ix2 0 0)))
    (hrow : 0 < b → row (ix2 0 l) = Cert.Seg.upto key h (b - 1)) (r : Fin 1024) : carry256 ids v cid row (ix2 r l) = Cert.Seg.upto key h (b + r.val) := by
  have hr : r.val < 1024 := r.isLt
  unfold carry256
  pointwise
  rw [hid r, eq_bit, sel_bit, hv]
  unfold CarryAt at hc
  by_cases hb : b = 0
  · rw [hc, if_pos hb, if_neg]
    · exact Cert.Seg.carry_none mono b r.val 1024 hr (fun h0 => absurd hb (by omega))
    · intro e; exact key_ne_neg hk _ e
  · rw [hc, if_neg hb]
    by_cases he : key (b + r.val) = key (b - 1)
    · rw [if_pos (congrArg _ he), hrow (by omega)]
      exact Cert.Seg.carry_same mono b r.val 1024 hr (by omega) he
    · rw [if_neg (fun e => he ((key_inj hk).mp e))]
      exact Cert.Seg.carry_none mono b r.val 1024 hr (fun _ => he)

theorem lastRow256_at (v : FVec Ideal S1024x256 .bf16) (l : Fin 256) : lastRow256 v (ix2 0 l) = v (ix2 1023 l) := by
  unfold lastRow256
  pointwise
  rw [neg_inf_bf16, neg_inf_f32]
  simp only [rowNo_bit, sel_bit]
  exact fold_max_last fun r => v (ix2 r l)

theorem crow256_put (y3 : Vec Ideal S8x512 .bf16) (w : FVec Ideal S1x256 .bf16) (l : Fin 256) : crow256 (putRow256 y3 w) (ix2 0 l) = w (ix2 0 l) := by
  unfold crow256 putRow256
  have hl : l.val < 256 := l.isLt
  unfold VecWindow.window VecWindow.put
  have hm : ∀ a, (![0, 0] : Fin 2 → ℕ) a ≤ ((Rect.unit (s := S8x512) ![0, 0] S1x256.size inb_S8x512_S1x256_0_0).emb (ix2 (0 : Fin 1) l) a).val ∧
      ((Rect.unit (s := S8x512) ![0, 0] S1x256.size inb_S8x512_S1x256_0_0).emb (ix2 (0 : Fin 1) l) a).val < (![0, 0] : Fin 2 → ℕ) a + S2x256.size a := by
    intro a
    match a with
    | ⟨0, _⟩ => exact ⟨Nat.zero_le _, by show 0 + 1 * 0 < 0 + 2; decide⟩
    | ⟨1, _⟩ => exact ⟨Nat.zero_le _, by show 0 + 1 * l.val < 0 + 256; omega⟩
  refine (dif_pos hm).trans ?_
  unfold updateSlice
  refine (dif_pos ?_).trans (congrArg w (funext fun a => Fin.ext ?_))
  · intro a
    match a with
    | ⟨0, _⟩ => exact ⟨Nat.zero_le _, by show (0 + 1 * 0) - 0 < 0 + 1; decide⟩
    | ⟨1, _⟩ => exact ⟨Nat.zero_le _, by show (0 + 1 * l.val) - 0 < 0 + 256; omega⟩
  · match a with
    | ⟨0, _⟩ => rfl
    | ⟨1, _⟩ => show 0 + 1 * l.val - 0 - 0 = l.val; omega

end W256

section W384

theorem step384_at (ids : IVec S1024x1 32) (v : FVec Ideal S1024x384 .bf16) (hid : IdsAt key b ids) (K : ℕ) (h0 : 0 < K) (h1 : K ≤ 512) (r : Fin 1024) (l : Fin 384) :
    step384 ids v (BitVec.ofNat 32 K) (ix2 r l)
      = max (v (ix2 r l)) (if h : K ≤ r.val ∧ key (b + r.val) = key (b + (r.val - K)) then (v (ix2 ⟨r.val - K, by omega⟩ l) : EReal) else ⊥) := by
  have hkn : (BitVec.ofNat 32 K).toNat = K := by simp only [BitVec.toNat_ofNat]; omega
  unfold step384
  pointwise
  refine congrArg (max _) ?_
  rw [pen_at hk hid K h0 h1]
  by_cases hc : K ≤ r.val ∧ key (b + r.val) = key (b + (r.val - K))
  · rw [dif_pos hc, if_pos hc]
    refine (add_zero _).trans (congrArg v (congrArg (ix2 · l) (Fin.ext ?_)))
    show (r.val + 1024 - (BitVec.ofNat 32 K).toNat % 1024) % 1024 = r.val - K
    rw [hkn]; omega
  · rw [dif_neg hc, if_neg hc]
    exact EReal.add_bot _

/-- A doubling step doubles the reach. -/
theorem step384_loc (mono : Monotone key) (ids : IVec S1024x1 32) (v : FVec Ideal S1024x384 .bf16) (hid : IdsAt key b ids) (h : ℕ → EReal) (l : Fin 384) (K K' : ℕ) (h0 : 0 < K) (h1 : K ≤ 512)
    (hK : K + K = K') (hv : ∀ r : Fin 1024, v (ix2 r l) = Cert.Seg.loc key h b K r.val) (r : Fin 1024) :
    step384 ids v (BitVec.ofNat 32 K) (ix2 r l) = Cert.Seg.loc key h b K' r.val := by
  rw [step384_at hk ids v hid K h0 h1, hv, ← hK, ← Cert.Seg.loc_step mono]
  refine congrArg (max _) ?_
  by_cases hc : K ≤ r.val ∧ key (b + r.val) = key (b + (r.val - K))
  · rw [dif_pos hc, if_pos hc, hv]
  · rw [dif_neg hc, if_neg hc]

/-- The running maximum within a block. -/
theorem scan384_loc (mono : Monotone key) (ids : IVec S1024x1 32) (v : FVec Ideal S1024x384 .bf16) (hid : IdsAt key b ids) (h : ℕ → EReal) (l : Fin 384)
    (hv : ∀ r : Fin 1024, v (ix2 r l) = h (b + r.val)) (r : Fin 1024) : scan384 ids v (ix2 r l) = Cert.Seg.loc key h b 1024 r.val := by
  unfold scan384
  refine step384_loc hk mono ids _ hid h l 512 1024 (by decide) (by decide) rfl (fun r => ?_) r
  refine step384_loc hk mono ids _ hid h l 256 512 (by decide) (by decide) rfl (fun r => ?_) r
  refine step384_loc hk mono ids _ hid h l 128 256 (by decide) (by decide) rfl (fun r => ?_) r
  refine step384_loc hk mono ids _ hid h l 64 128 (by decide) (by decide) rfl (fun r => ?_) r
  refine step384_loc hk mono ids _ hid h l 32 64 (by decide) (by decide) rfl (fun r => ?_) r
  refine step384_loc hk mono ids _ hid h l 16 32 (by decide) (by decide) rfl (fun r => ?_) r
  refine step384_loc hk mono ids _ hid h l 8 16 (by decide) (by decide) rfl (fun r => ?_) r
  refine step384_loc hk mono ids _ hid h l 4 8 (by decide) (by decide) rfl (fun r => ?_) r
  refine step384_loc hk mono ids _ hid h l 2 4 (by decide) (by decide) rfl (fun r => ?_) r
  refine step384_loc hk mono ids _ hid h l 1 2 (by decide) (by decide) rfl (fun r => ?_) r
  rw [hv, Cert.Seg.loc_one]

/-- The carried row joined in: the running maximum from the start. -/
theorem carry384_upto (mono : Monotone key) (ids : IVec S1024x1 32) (v : FVec Ideal S1024x384 .bf16) (cid : IVec S1x1 32) (row : FVec Ideal S1x384 .bf16) (hid : IdsAt key b ids)
    (h : ℕ → EReal) (l : Fin 384) (hv : ∀ r : Fin 1024, v (ix2 r l) = Cert.Seg.loc key h b 1024 r.val) (hc : CarryAt key b (cid (ix2 0 0)))
    (hrow : 0 < b → row (ix2 0 l) = Cert.Seg.upto key h (b - 1)) (r : Fin 1024) : carry384 ids v cid row (ix2 r l) = Cert.Seg.upto key h (b + r.val) := by
  have hr : r.val < 1024 := r.isLt
  unfold carry384
  pointwise
  rw [hid r, eq_bit, sel_bit, hv]
  unfold CarryAt at hc
  by_cases hb : b = 0
  · rw [hc, if_pos hb, if_neg]
    · exact Cert.Seg.carry_none mono b r.val 1024 hr (fun h0 => absurd hb (by omega))
    · intro e; exact key_ne_neg hk _ e
  · rw [hc, if_neg hb]
    by_cases he : key (b + r.val) = key (b - 1)
    · rw [if_pos (congrArg _ he), hrow (by omega)]
      exact Cert.Seg.carry_same mono b r.val 1024 hr (by omega) he
    · rw [if_neg (fun e => he ((key_inj hk).mp e))]
      exact Cert.Seg.carry_none mono b r.val 1024 hr (fun _ => he)

theorem lastRow384_at (v : FVec Ideal S1024x384 .bf16) (l : Fin 384) : lastRow384 v (ix2 0 l) = v (ix2 1023 l) := by
  unfold lastRow384
  pointwise
  rw [neg_inf_bf16, neg_inf_f32]
  simp only [rowNo_bit, sel_bit]
  exact fold_max_last fun r => v (ix2 r l)

theorem crow384_put (y3 : Vec Ideal S8x512 .bf16) (w : FVec Ideal S1x384 .bf16) (l : Fin 384) : crow384 (putRow384 y3 w) (ix2 0 l) = w (ix2 0 l) := by
  unfold crow384 putRow384
  have hl : l.val < 384 := l.isLt
  unfold VecWindow.window VecWindow.put
  have hm : ∀ a, (![0, 0] : Fin 2 → ℕ) a ≤ ((Rect.unit (s := S8x512) ![0, 0] S1x384.size inb_S8x512_S1x384_0_0).emb (ix2 (0 : Fin 1) l) a).val ∧
      ((Rect.unit (s := S8x512) ![0, 0] S1x384.size inb_S8x512_S1x384_0_0).emb (ix2 (0 : Fin 1) l) a).val < (![0, 0] : Fin 2 → ℕ) a + S2x384.size a := by
    intro a
    match a with
    | ⟨0, _⟩ => exact ⟨Nat.zero_le _, by show 0 + 1 * 0 < 0 + 2; decide⟩
    | ⟨1, _⟩ => exact ⟨Nat.zero_le _, by show 0 + 1 * l.val < 0 + 384; omega⟩
  refine (dif_pos hm).trans ?_
  unfold updateSlice
  refine (dif_pos ?_).trans (congrArg w (funext fun a => Fin.ext ?_))
  · intro a
    match a with
    | ⟨0, _⟩ => exact ⟨Nat.zero_le _, by show (0 + 1 * 0) - 0 < 0 + 1; decide⟩
    | ⟨1, _⟩ => exact ⟨Nat.zero_le _, by show (0 + 1 * l.val) - 0 < 0 + 384; omega⟩
  · match a with
    | ⟨0, _⟩ => rfl
    | ⟨1, _⟩ => show 0 + 1 * l.val - 0 - 0 = l.val; omega

end W384

theorem lastId_at (ids : IVec S1024x1 32) (hid : IdsAt key b ids) : lastId ids (ix2 0 0) = BitVec.ofNat 32 (key (b + 1023)) := by
  have h : ids (ix2 1023 0) = BitVec.ofNat 32 (key (b + 1023)) := hid 1023
  unfold lastId rowsOf
  pointwise
  simp only [rowNo_bit, sel_bit]
  rw [show (fun r : Fin 1024 => if r = 1023 then ids (ix2 r 0) else 4294967295#32) = fun r => if r = 1023 then ids (ix2 1023 0) else 4294967295#32 from
    funext fun r => by by_cases hr : r = 1023 <;> simp [hr], h]
  show Finset.fold IntOp.maxsi _ _ _ = BitVec.ofNat 32 (key (b + 1023))
  apply BitVec.eq_of_toInt_eq
  have hvn : (BitVec.ofNat 32 (key (b + 1023))).toInt = key (b + 1023) := by
    rw [BitVec.toInt_eq_toNat_of_lt] <;> simp only [BitVec.toNat_ofNat] <;> have := hk (b + 1023) <;> omega
  rw [← Finset.fold_hom (m := BitVec.toInt) (op' := max) toInt_maxsi, hvn]
  refine le_antisymm (Finset.fold_max_le _ |>.mpr ⟨by rw [show (2147483648#32).toInt = -2147483648 from by decide]; omega, fun r _ => ?_⟩)
    (Finset.le_fold_max _ |>.mpr (Or.inr ⟨1023, Finset.mem_univ _, ?_⟩))
  · by_cases hr : r = 1023
    · rw [if_pos hr, hvn]
    · rw [if_neg hr, show (4294967295#32).toInt = -1 from by decide]; omega
  · rw [if_pos rfl, hvn]

theorem cid_put (y4 : Vec Ideal S8x128 .i32) (w : IVec S1x1 32) : cidOf (F := Ideal) (putId y4 w) (ix2 0 0) = w (ix2 0 0) := by
  unfold cidOf putId
  exact congrFun (VecWindow.window_put_same _ _ _ _ _) _
theorem cid_neg : cidOf (F := Ideal) k0_pay2 (ix2 0 0) = 4294967295#32 := rfl
theorem cid_neg' : cidOf (F := Ideal) k0_pay8 (ix2 0 0) = 4294967295#32 := rfl

/-! ## The one-hot sums -/

theorem hot_at (ids idn : IVec S1024x1 32) (hid : IdsAt key b ids) (hn : NextAt key b idn) (r : Fin 1024) (s : Fin 512) :
    k0_pay15 (F := Ideal) ids idn (ix2 r s) = if key (b + r.val) = s.val ∧ Cert.Seg.IsLast 32768 key (b + r.val) then (1 : EReal) else 0 := by
  unfold k0_pay15 k0_pay14
  pointwise
  rw [eq_bit, ne_bit, and_bit, fl_bit]
  refine if_congr (and_congr ?_ ?_) rfl rfl
  · rw [hid r, word_inj (lt_trans (hk _) (by decide)) (lt_trans s.isLt (by decide))]
  · rw [hid r, hn r]
    unfold Cert.Seg.IsLast
    by_cases he : b + r.val + 1 = 32768
    · rw [if_pos he]; exact iff_of_true (key_ne_neg hk _) (Or.inl he)
    · rw [if_neg he, ne_eq, key_inj hk]
      exact ⟨fun h => Or.inr h, fun h => h.resolve_left he⟩
theorem here_at (ids : IVec S1024x1 32) (hid : IdsAt key b ids) (r : Fin 1024) (s : Fin 512) :
    k0_pay29 (F := Ideal) ids (ix2 r s) = if key (b + r.val) = s.val then (1 : EReal) else 0 := by
  unfold k0_pay29 k0_pay28
  pointwise
  rw [eq_bit, fl_bit, hid r]
  exact if_congr (word_inj (lt_trans (hk _) (by decide)) (lt_trans s.isLt (by decide))) rfl rfl
theorem hot2_at (ids idn : IVec S1024x1 32) (hid : IdsAt key b ids) (hn : NextAt key b idn) (r : Fin 1024) (s : Fin 512) :
    k0_pay30 (F := Ideal) ids idn (ix2 r s) = if key (b + r.val) = s.val ∧ Cert.Seg.IsLast 32768 key (b + r.val) then (1 : EReal) else 0 := by
  rw [← hot_at hk ids idn hid hn]
  unfold k0_pay30 k0_pay15 k0_pay28 k0_pay14
  pointwise
  rw [here_at hk ids hid, hid r, eq_bit, ne_bit, and_bit, fl_bit, fl_bit]
  by_cases h1 : key (b + r.val) = s.val
  · rw [if_pos h1, one_mul]
    exact if_congr ⟨fun h => ⟨congrArg _ h1, h⟩, fun h => h.2⟩ rfl rfl
  · rw [if_neg h1, zero_mul, if_neg]
    intro h
    exact h1 ((word_inj (lt_trans (hk _) (by decide)) (lt_trans s.isLt (by decide))).mp h.1)

omit hk in
/-- One block's part of the picked sum. -/
theorem picked_block (h : ℕ → EReal) (s : ℕ) (o : Fin 1024 → EReal) (v : Fin 1024 → EReal) (a : EReal) (n : ℕ) (hn : n = b + 1024)
    (ho : ∀ r : Fin 1024, o r = if key (b + r.val) = s ∧ Cert.Seg.IsLast 32768 key (b + r.val) then (1 : EReal) else 0)
    (hv : ∀ r : Fin 1024, v r = Cert.Seg.upto key h (b + r.val)) (ha : a = Cert.Seg.picked 32768 key h s b) :
    a + ∑ r : Fin 1024, o r * v r = Cert.Seg.picked 32768 key h s n := by
  rw [hn, Cert.Seg.picked_add, ha]
  refine congrArg (_ + ·) (Finset.sum_congr rfl fun r _ => ?_)
  rw [ho r, hv r]
  split <;> simp

/-- The first sweep's sum after a block. -/
theorem acc1_at (x0 : Vec Ideal S1024x11 .f32) (x1 x2 : Vec Ideal S1024x1 .i32) (x3 : Vec Ideal S11x256 .f32) (x4 : Vec Ideal S1x256 .f32) (y0 : Vec Ideal S512x256 .bf16) (y3 : Vec Ideal S8x512 .bf16) (y4 : Vec Ideal S8x128 .i32)
    (hid : IdsAt key b x1) (hn : NextAt key b x2) (h : ℕ → EReal) (n : ℕ) (hnb : n = b + 1024) (l : Fin 256)
    (hv : ∀ r : Fin 1024, fix1 x0 x1 x3 x4 y3 y4 (ix2 r l) = Cert.Seg.upto key h (b + r.val)) (s : Fin 512)
    (ha : y0 (ix2 s l) = Cert.Seg.picked 32768 key h s.val b) :
    acc1 x0 x1 x2 x3 x4 y0 y3 y4 (ix2 s l) = Cert.Seg.picked 32768 key h s.val n := by
  unfold acc1 k0_pay5
  pointwise
  exact picked_block h s.val _ _ _ n hnb (fun r => hot_at hk x1 x2 hid hn r s) hv ha

/-- The second sweep's sum after a block. -/
theorem acc2_at (x0 : Vec Ideal S1024x11 .f32) (x1 x2 : Vec Ideal S1024x1 .i32) (x5 : Vec Ideal S11x512 .f32) (x8 : Vec Ideal S512x384 .bf16)
    (x9 : Vec Ideal S1x384 .f32) (y1 : Vec Ideal S512x512 .bf16) (y2 : Vec Ideal S512x384 .bf16) (y3 : Vec Ideal S8x512 .bf16) (y4 : Vec Ideal S8x128 .i32)
    (hid : IdsAt key b x1) (hn : NextAt key b x2) (h : ℕ → EReal) (n : ℕ) (hnb : n = b + 1024) (l : Fin 384)
    (hv : ∀ r : Fin 1024, fix2 x0 x1 x5 x8 x9 y1 y3 y4 (ix2 r l) = Cert.Seg.upto key h (b + r.val)) (s : Fin 512)
    (ha : y2 (ix2 s l) = Cert.Seg.picked 32768 key h s.val b) :
    acc2 x0 x1 x2 x5 x8 x9 y1 y2 y3 y4 (ix2 s l) = Cert.Seg.picked 32768 key h s.val n := by
  rw [acc2_eq]
  pointwise
  exact picked_block h s.val _ _ _ n hnb (fun r => hot2_at hk x1 x2 hid hn r s) hv ha

/-- The second sweep's rows before the maxima. -/
theorem lin2_at (x0 : Vec Ideal S1024x11 .f32) (x1 : Vec Ideal S1024x1 .i32) (x5 : Vec Ideal S11x512 .f32) (x8 : Vec Ideal S512x384 .bf16)
    (x9 : Vec Ideal S1x384 .f32) (y1 : Vec Ideal S512x512 .bf16) (hid : IdsAt key b x1) (r : Fin 1024) (l : Fin 384) :
    lin2 x0 x1 x5 x8 x9 y1 (ix2 r l) = (∑ x : Fin 512, max ((∑ i : Fin 11, x0 (ix2 r i) * x5 (ix2 i x)) + y1 (ix2 ⟨key (b + r.val), hk _⟩ x)) 0 * x8 (ix2 x l)) + x9 (ix2 0 l) := by
  unfold lin2 k0_pay31
  pointwise
  refine congrArg (· + _) (Finset.sum_congr rfl fun x _ => congrArg (fun z => max (_ + z) 0 * _) ?_)
  simp only [here_at hk x1 hid]
  rw [Finset.sum_eq_single (⟨key (b + r.val), hk _⟩ : Fin 512)]
  · rw [if_pos rfl, one_mul]
  · intro s _ hs
    rw [if_neg (fun e => hs (Fin.ext e.symm)), zero_mul]
  · intro h; exact absurd (Finset.mem_univ _) h

omit hk in
theorem lin1_at (x0 : Vec Ideal S1024x11 .f32) (x3 : Vec Ideal S11x256 .f32) (x4 : Vec Ideal S1x256 .f32) (r : Fin 1024) (l : Fin 256) :
    lin1 x0 x3 x4 (ix2 r l) = (∑ i : Fin 11, x0 (ix2 r i) * x3 (ix2 i l)) + x4 (ix2 0 l) := by
  unfold lin1
  pointwise
omit hk in
theorem gseg_at (y0 : Vec Ideal S512x256 .bf16) (x6 : Vec Ideal S256x512 .bf16) (x7 : Vec Ideal S1x512 .f32) (s l : Fin 512) :
    k0_pay6 (F := Ideal) y0 x6 x7 (ix2 s l) = (∑ i : Fin 256, y0 (ix2 s i) * x6 (ix2 i l)) + x7 (ix2 0 l) := by
  unfold k0_pay6
  pointwise
omit hk in
theorem zero1_at (s : Fin 512) (l : Fin 256) : k0_pay1 (F := Ideal) (ix2 s l) = (0 : EReal) := by
  unfold k0_pay1
  pointwise
omit hk in
theorem zero7_at (s : Fin 512) (l : Fin 384) : k0_pay7 (F := Ideal) (ix2 s l) = (0 : EReal) := by
  unfold k0_pay7
  pointwise

end Cert.KernelIdeal.Gen

end
-- ==== Proof.HostArrays.lean ====
/- The arrays the kernel reads, as the host operations make them of the arguments, and each window's block of them. -/
module

public import proofs.«01_k».proof.Proof.Gen.KernelIdeal.Frame
public import proofs.«01_k».proof.Proof.Read
public import Idealize.ShloMosaic.Lib.Claim
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ) (c : Dev nD)

/-! ## The arguments by name -/

abbrev aX : FVec Ideal S1x32768x11 .f32 := m ((c.tc : Thread nD τ).loc main_arg0)
abbrev aCo : FVec Ideal S1x512x3 .f32 := m ((c.tc : Thread nD τ).loc main_arg1)
abbrev aS10 : IVec S1x32768 32 := m ((c.tc : Thread nD τ).loc main_arg2)
abbrev aS21 : IVec S1x512 32 := m ((c.tc : Thread nD τ).loc main_arg3)
abbrev aW1a : FVec Ideal S128x11 .f32 := m ((c.tc : Thread nD τ).loc main_arg4)
abbrev aB1a : FVec Ideal S128 .f32 := m ((c.tc : Thread nD τ).loc main_arg5)
abbrev aW1b : FVec Ideal S256x128 .f32 := m ((c.tc : Thread nD τ).loc main_arg6)
abbrev aB1b : FVec Ideal S256 .f32 := m ((c.tc : Thread nD τ).loc main_arg7)
abbrev aW2a : FVec Ideal S512x512 .f32 := m ((c.tc : Thread nD τ).loc main_arg8)
abbrev aB2a : FVec Ideal S512 .f32 := m ((c.tc : Thread nD τ).loc main_arg9)
abbrev aW2b : FVec Ideal S384x512 .f32 := m ((c.tc : Thread nD τ).loc main_arg10)
abbrev aB2b : FVec Ideal S384 .f32 := m ((c.tc : Thread nD τ).loc main_arg11)
abbrev aWp1 : FVec Ideal S128x3 .f32 := m ((c.tc : Thread nD τ).loc main_arg12)
abbrev aBp1 : FVec Ideal S128 .f32 := m ((c.tc : Thread nD τ).loc main_arg13)
abbrev aWp2 : FVec Ideal S384x128 .f32 := m ((c.tc : Thread nD τ).loc main_arg14)
abbrev aBp2 : FVec Ideal S384 .f32 := m ((c.tc : Thread nD τ).loc main_arg15)

/-! ## The blocks -/

theorem index0_0 : ∀ t : Fin cfg0.N, win0_0.index t (0 : Fin 2) = t.val % 32 := (by decide +kernel : ∀ t : Fin grid0.N, win0_0.index t (0 : Fin 2) = t.val % 32)
theorem index0_1 : ∀ t : Fin cfg0.N, win0_0.index t (1 : Fin 2) = 0 := (by decide +kernel : ∀ t : Fin grid0.N, win0_0.index t (1 : Fin 2) = 0)
theorem iblk0_at (t : Fin cfg0.N) (r : Fin 1024) (l : Fin 11) (p : Fin 32768) (hp : p.val = t.val % 32 * 1024 + r.val) :
    iblk m c 0 t (ix2 r l) = V m c main_v0 (ix2 p l) := by
  show V m c main_v0 (((cfg0.win 0).blk t).view.emb (ix2 r l)) = _
  refine congrArg (V m c main_v0) (funext fun a => Fin.ext ?_)
  match a with
  | ⟨0, _⟩ => show win0_0.index t (0 : Fin 2) * 1024 + 1 * r.val = p.val; rw [index0_0, hp]; omega
  | ⟨1, _⟩ => show win0_0.index t (1 : Fin 2) * 11 + 1 * l.val = l.val; rw [index0_1]; omega
theorem index1_0 : ∀ t : Fin cfg0.N, win0_1.index t (0 : Fin 2) = t.val % 32 := (by decide +kernel : ∀ t : Fin grid0.N, win0_1.index t (0 : Fin 2) = t.val % 32)
theorem index1_1 : ∀ t : Fin cfg0.N, win0_1.index t (1 : Fin 2) = 0 := (by decide +kernel : ∀ t : Fin grid0.N, win0_1.index t (1 : Fin 2) = 0)
theorem iblk1_at (t : Fin cfg0.N) (r : Fin 1024) (l : Fin 1) (p : Fin 32768) (hp : p.val = t.val % 32 * 1024 + r.val) :
    iblk m c 1 t (ix2 r l) = V m c main_v25 (ix2 p l) := by
  show V m c main_v25 (((cfg0.win 1).blk t).view.emb (ix2 r l)) = _
  refine congrArg (V m c main_v25) (funext fun a => Fin.ext ?_)
  match a with
  | ⟨0, _⟩ => show win0_1.index t (0 : Fin 2) * 1024 + 1 * r.val = p.val; rw [index1_0, hp]; omega
  | ⟨1, _⟩ => show win0_1.index t (1 : Fin 2) * 1 + 1 * l.val = l.val; rw [index1_1]; omega
theorem index2_0 : ∀ t : Fin cfg0.N, win0_2.index t (0 : Fin 2) = t.val % 32 := (by decide +kernel : ∀ t : Fin grid0.N, win0_2.index t (0 : Fin 2) = t.val % 32)
theorem index2_1 : ∀ t : Fin cfg0.N, win0_2.index t (1 : Fin 2) = 0 := (by decide +kernel : ∀ t : Fin grid0.N, win0_2.index t (1 : Fin 2) = 0)
theorem iblk2_at (t : Fin cfg0.N) (r : Fin 1024) (l : Fin 1) (p : Fin 32768) (hp : p.val = t.val % 32 * 1024 + r.val) :
    iblk m c 2 t (ix2 r l) = V m c main_v29 (ix2 p l) := by
  show V m c main_v29 (((cfg0.win 2).blk t).view.emb (ix2 r l)) = _
  refine congrArg (V m c main_v29) (funext fun a => Fin.ext ?_)
  match a with
  | ⟨0, _⟩ => show win0_2.index t (0 : Fin 2) * 1024 + 1 * r.val = p.val; rw [index2_0, hp]; omega
  | ⟨1, _⟩ => show win0_2.index t (1 : Fin 2) * 1 + 1 * l.val = l.val; rw [index2_1]; omega
theorem index3_0 : ∀ t : Fin cfg0.N, win0_3.index t (0 : Fin 2) = 0 := (by decide +kernel : ∀ t : Fin grid0.N, win0_3.index t (0 : Fin 2) = 0)
theorem index3_1 : ∀ t : Fin cfg0.N, win0_3.index t (1 : Fin 2) = 0 := (by decide +kernel : ∀ t : Fin grid0.N, win0_3.index t (1 : Fin 2) = 0)
theorem iblk3_eq (t : Fin cfg0.N) : iblk m c 3 t = V m c main_v5 := by
  funext y
  show V m c main_v5 (((cfg0.win 3).blk t).view.emb y) = _
  refine congrArg (V m c main_v5) (funext fun a => Fin.ext ?_)
  match a with
  | ⟨0, _⟩ => show win0_3.index t (0 : Fin 2) * 11 + 1 * (y 0).val = (y 0).val; rw [index3_0]; omega
  | ⟨1, _⟩ => show win0_3.index t (1 : Fin 2) * 256 + 1 * (y 1).val = (y 1).val; rw [index3_1]; omega
theorem index4_0 : ∀ t : Fin cfg0.N, win0_4.index t (0 : Fin 2) = 0 := (by decide +kernel : ∀ t : Fin grid0.N, win0_4.index t (0 : Fin 2) = 0)
theorem index4_1 : ∀ t : Fin cfg0.N, win0_4.index t (1 : Fin 2) = 0 := (by decide +kernel : ∀ t : Fin grid0.N, win0_4.index t (1 : Fin 2) = 0)
theorem iblk4_eq (t : Fin cfg0.N) : iblk m c 4 t = V m c main_v8 := by
  funext y
  show V m c main_v8 (((cfg0.win 4).blk t).view.emb y) = _
  refine congrArg (V m c main_v8) (funext fun a => Fin.ext ?_)
  match a with
  | ⟨0, _⟩ => show win0_4.index t (0 : Fin 2) * 1 + 1 * (y 0).val = (y 0).val; rw [index4_0]; omega
  | ⟨1, _⟩ => show win0_4.index t (1 : Fin 2) * 256 + 1 * (y 1).val = (y 1).val; rw [index4_1]; omega
theorem index5_0 : ∀ t : Fin cfg0.N, win0_5.index t (0 : Fin 2) = 0 := (by decide +kernel : ∀ t : Fin grid0.N, win0_5.index t (0 : Fin 2) = 0)
theorem index5_1 : ∀ t : Fin cfg0.N, win0_5.index t (1 : Fin 2) = 0 := (by decide +kernel : ∀ t : Fin grid0.N, win0_5.index t (1 : Fin 2) = 0)
theorem iblk5_eq (t : Fin cfg0.N) : iblk m c 5 t = V m c main_v14 := by
  funext y
  show V m c main_v14 (((cfg0.win 5).blk t).view.emb y) = _
  refine congrArg (V m c main_v14) (funext fun a => Fin.ext ?_)
  match a with
  | ⟨0, _⟩ => show win0_5.index t (0 : Fin 2) * 11 + 1 * (y 0).val = (y 0).val; rw [index5_0]; omega
  | ⟨1, _⟩ => show win0_5.index t (1 : Fin 2) * 512 + 1 * (y 1).val = (y 1).val; rw [index5_1]; omega
theorem index6_0 : ∀ t : Fin cfg0.N, win0_6.index t (0 : Fin 2) = 0 := (by decide +kernel : ∀ t : Fin grid0.N, win0_6.index t (0 : Fin 2) = 0)
theorem index6_1 : ∀ t : Fin cfg0.N, win0_6.index t (1 : Fin 2) = 0 := (by decide +kernel : ∀ t : Fin grid0.N, win0_6.index t (1 : Fin 2) = 0)
theorem iblk6_eq (t : Fin cfg0.N) : iblk m c 6 t = V m c main_v11 := by
  funext y
  show V m c main_v11 (((cfg0.win 6).blk t).view.emb y) = _
  refine congrArg (V m c main_v11) (funext fun a => Fin.ext ?_)
  match a with
  | ⟨0, _⟩ => show win0_6.index t (0 : Fin 2) * 256 + 1 * (y 0).val = (y 0).val; rw [index6_0]; omega
  | ⟨1, _⟩ => show win0_6.index t (1 : Fin 2) * 512 + 1 * (y 1).val = (y 1).val; rw [index6_1]; omega
theorem index7_0 : ∀ t : Fin cfg0.N, win0_7.index t (0 : Fin 2) = 0 := (by decide +kernel : ∀ t : Fin grid0.N, win0_7.index t (0 : Fin 2) = 0)
theorem index7_1 : ∀ t : Fin cfg0.N, win0_7.index t (1 : Fin 2) = 0 := (by decide +kernel : ∀ t : Fin grid0.N, win0_7.index t (1 : Fin 2) = 0)
theorem iblk7_eq (t : Fin cfg0.N) : iblk m c 7 t = V m c main_v17 := by
  funext y
  show V m c main_v17 (((cfg0.win 7).blk t).view.emb y) = _
  refine congrArg (V m c main_v17) (funext fun a => Fin.ext ?_)
  match a with
  | ⟨0, _⟩ => show win0_7.index t (0 : Fin 2) * 1 + 1 * (y 0).val = (y 0).val; rw [index7_0]; omega
  | ⟨1, _⟩ => show win0_7.index t (1 : Fin 2) * 512 + 1 * (y 1).val = (y 1).val; rw [index7_1]; omega
theorem index8_0 : ∀ t : Fin cfg0.N, win0_8.index t (0 : Fin 2) = 0 := (by decide +kernel : ∀ t : Fin grid0.N, win0_8.index t (0 : Fin 2) = 0)
theorem index8_1 : ∀ t : Fin cfg0.N, win0_8.index t (1 : Fin 2) = 0 := (by decide +kernel : ∀ t : Fin grid0.N, win0_8.index t (1 : Fin 2) = 0)
theorem iblk8_eq (t : Fin cfg0.N) : iblk m c 8 t = V m c main_v19 := by
  funext y
  show V m c main_v19 (((cfg0.win 8).blk t).view.emb y) = _
  refine congrArg (V m c main_v19) (funext fun a => Fin.ext ?_)
  match a with
  | ⟨0, _⟩ => show win0_8.index t (0 : Fin 2) * 512 + 1 * (y 0).val = (y 0).val; rw [index8_0]; omega
  | ⟨1, _⟩ => show win0_8.index t (1 : Fin 2) * 384 + 1 * (y 1).val = (y 1).val; rw [index8_1]; omega
theorem index9_0 : ∀ t : Fin cfg0.N, win0_9.index t (0 : Fin 2) = 0 := (by decide +kernel : ∀ t : Fin grid0.N, win0_9.index t (0 : Fin 2) = 0)
theorem index9_1 : ∀ t : Fin cfg0.N, win0_9.index t (1 : Fin 2) = 0 := (by decide +kernel : ∀ t : Fin grid0.N, win0_9.index t (1 : Fin 2) = 0)
theorem iblk9_eq (t : Fin cfg0.N) : iblk m c 9 t = V m c main_v20 := by
  funext y
  show V m c main_v20 (((cfg0.win 9).blk t).view.emb y) = _
  refine congrArg (V m c main_v20) (funext fun a => Fin.ext ?_)
  match a with
  | ⟨0, _⟩ => show win0_9.index t (0 : Fin 2) * 1 + 1 * (y 0).val = (y 0).val; rw [index9_0]; omega
  | ⟨1, _⟩ => show win0_9.index t (1 : Fin 2) * 384 + 1 * (y 1).val = (y 1).val; rw [index9_1]; omega
theorem index10_0 : ∀ t : Fin cfg0.N, win0_10.index t (0 : Fin 2) = 0 := (by decide +kernel : ∀ t : Fin grid0.N, win0_10.index t (0 : Fin 2) = 0)
theorem index10_1 : ∀ t : Fin cfg0.N, win0_10.index t (1 : Fin 2) = 0 := (by decide +kernel : ∀ t : Fin grid0.N, win0_10.index t (1 : Fin 2) = 0)
theorem iblk10_eq (t : Fin cfg0.N) : iblk m c 10 t = V m c main_v1 := by
  funext y
  show V m c main_v1 (((cfg0.win 10).blk t).view.emb y) = _
  refine congrArg (V m c main_v1) (funext fun a => Fin.ext ?_)
  match a with
  | ⟨0, _⟩ => show win0_10.index t (0 : Fin 2) * 512 + 1 * (y 0).val = (y 0).val; rw [index10_0]; omega
  | ⟨1, _⟩ => show win0_10.index t (1 : Fin 2) * 3 + 1 * (y 1).val = (y 1).val; rw [index10_1]; omega
theorem index11_0 : ∀ t : Fin cfg0.N, win0_11.index t (0 : Fin 2) = 0 := (by decide +kernel : ∀ t : Fin grid0.N, win0_11.index t (0 : Fin 2) = 0)
theorem index11_1 : ∀ t : Fin cfg0.N, win0_11.index t (1 : Fin 2) = 0 := (by decide +kernel : ∀ t : Fin grid0.N, win0_11.index t (1 : Fin 2) = 0)
theorem iblk11_eq (t : Fin cfg0.N) : iblk m c 11 t = V m c main_v21 := by
  funext y
  show V m c main_v21 (((cfg0.win 11).blk t).view.emb y) = _
  refine congrArg (V m c main_v21) (funext fun a => Fin.ext ?_)
  match a with
  | ⟨0, _⟩ => show win0_11.index t (0 : Fin 2) * 3 + 1 * (y 0).val = (y 0).val; rw [index11_0]; omega
  | ⟨1, _⟩ => show win0_11.index t (1 : Fin 2) * 128 + 1 * (y 1).val = (y 1).val; rw [index11_1]; omega
theorem index12_0 : ∀ t : Fin cfg0.N, win0_12.index t (0 : Fin 2) = 0 := (by decide +kernel : ∀ t : Fin grid0.N, win0_12.index t (0 : Fin 2) = 0)
theorem index12_1 : ∀ t : Fin cfg0.N, win0_12.index t (1 : Fin 2) = 0 := (by decide +kernel : ∀ t : Fin grid0.N, win0_12.index t (1 : Fin 2) = 0)
theorem iblk12_eq (t : Fin cfg0.N) : iblk m c 12 t = V m c main_v22 := by
  funext y
  show V m c main_v22 (((cfg0.win 12).blk t).view.emb y) = _
  refine congrArg (V m c main_v22) (funext fun a => Fin.ext ?_)
  match a with
  | ⟨0, _⟩ => show win0_12.index t (0 : Fin 2) * 1 + 1 * (y 0).val = (y 0).val; rw [index12_0]; omega
  | ⟨1, _⟩ => show win0_12.index t (1 : Fin 2) * 128 + 1 * (y 1).val = (y 1).val; rw [index12_1]; omega
theorem index13_0 : ∀ t : Fin cfg0.N, win0_13.index t (0 : Fin 2) = 0 := (by decide +kernel : ∀ t : Fin grid0.N, win0_13.index t (0 : Fin 2) = 0)
theorem index13_1 : ∀ t : Fin cfg0.N, win0_13.index t (1 : Fin 2) = 0 := (by decide +kernel : ∀ t : Fin grid0.N, win0_13.index t (1 : Fin 2) = 0)
theorem iblk13_eq (t : Fin cfg0.N) : iblk m c 13 t = V m c main_v23 := by
  funext y
  show V m c main_v23 (((cfg0.win 13).blk t).view.emb y) = _
  refine congrArg (V m c main_v23) (funext fun a => Fin.ext ?_)
  match a with
  | ⟨0, _⟩ => show win0_13.index t (0 : Fin 2) * 128 + 1 * (y 0).val = (y 0).val; rw [index13_0]; omega
  | ⟨1, _⟩ => show win0_13.index t (1 : Fin 2) * 384 + 1 * (y 1).val = (y 1).val; rw [index13_1]; omega
theorem index14_0 : ∀ t : Fin cfg0.N, win0_14.index t (0 : Fin 2) = 0 := (by decide +kernel : ∀ t : Fin grid0.N, win0_14.index t (0 : Fin 2) = 0)
theorem index14_1 : ∀ t : Fin cfg0.N, win0_14.index t (1 : Fin 2) = 0 := (by decide +kernel : ∀ t : Fin grid0.N, win0_14.index t (1 : Fin 2) = 0)
theorem iblk14_eq (t : Fin cfg0.N) : iblk m c 14 t = V m c main_v24 := by
  funext y
  show V m c main_v24 (((cfg0.win 14).blk t).view.emb y) = _
  refine congrArg (V m c main_v24) (funext fun a => Fin.ext ?_)
  match a with
  | ⟨0, _⟩ => show win0_14.index t (0 : Fin 2) * 1 + 1 * (y 0).val = (y 0).val; rw [index14_0]; omega
  | ⟨1, _⟩ => show win0_14.index t (1 : Fin 2) * 384 + 1 * (y 1).val = (y 1).val; rw [index14_1]; omega
theorem index15_0 : ∀ t : Fin cfg0.N, win0_15.index t (0 : Fin 2) = 0 := (by decide +kernel : ∀ t : Fin grid0.N, win0_15.index t (0 : Fin 2) = 0)
theorem index15_1 : ∀ t : Fin cfg0.N, win0_15.index t (1 : Fin 2) = 0 := (by decide +kernel : ∀ t : Fin grid0.N, win0_15.index t (1 : Fin 2) = 0)
theorem iblk15_eq (t : Fin cfg0.N) : iblk m c 15 t = V m c main_v30 := by
  funext y
  show V m c main_v30 (((cfg0.win 15).blk t).view.emb y) = _
  refine congrArg (V m c main_v30) (funext fun a => Fin.ext ?_)
  match a with
  | ⟨0, _⟩ => show win0_15.index t (0 : Fin 2) * 512 + 1 * (y 0).val = (y 0).val; rw [index15_0]; omega
  | ⟨1, _⟩ => show win0_15.index t (1 : Fin 2) * 1 + 1 * (y 1).val = (y 1).val; rw [index15_1]; omega

/-! ## The arrays -/

def hX : FVec Ideal S32768x11 .f32 := shapeCast S32768x11 (aX m c) shapeCasts_S1x32768x11_S32768x11
theorem V_main_v0 : V m c main_v0 = hX m c := by
  show StableHlo.after _ _ _ = _
  after_results
  rfl
def hIds : IVec S32768x1 32 := shapeCast S32768x1 (shapeCast S32768 (aS10 m c) shapeCasts_S1x32768_S32768) shapeCasts_S32768_S32768x1
theorem V_main_v25 : V m c main_v25 = hIds m c := by
  show StableHlo.after _ _ _ = _
  after_results
  rfl
def hIdn : IVec S32768x1 32 := shapeCast S32768x1 (concatenate S32768 0 [⟨S32767, extractStridedSlice S32767 ![1] (shapeCast S32768 (aS10 m c) shapeCasts_S1x32768_S32768) slices_S32768_S32767_1⟩, ⟨S1, broadcastInDim S1 ![] bcast_S_S1 (constantI S_ 32 4294967295#32)⟩] concatenates_S32767_S1_S32768_d0) shapeCasts_S32768_S32768x1
theorem V_main_v29 : V m c main_v29 = hIdn m c := by
  show StableHlo.after _ _ _ = _
  after_results
  rfl
def hWct : FVec Ideal S11x256 .f32 := transpose S11x256 [1, 0] (Host.dotGeneral dot_S256x128_S128x11_S256x11_1_0_0_1_n_n none (aW1b m c) (aW1a m c) : FVec Ideal S256x11 .f32) transposes_S256x11_S11x256_1_0
theorem V_main_v5 : V m c main_v5 = hWct m c := by
  show StableHlo.after _ _ _ = _
  after_results
  rfl
def hBc : FVec Ideal S1x256 .f32 := shapeCast S1x256 (addf (Host.dotGeneral dot_S256x128_S128_S256_1_0_0_n_n_n none (aW1b m c) (aB1a m c) : FVec Ideal S256 .f32) (aB1b m c)) shapeCasts_S256_S1x256
theorem V_main_v8 : V m c main_v8 = hBc m c := by
  show StableHlo.after _ _ _ = _
  after_results
  rfl
def hBt : FVec Ideal S256x512 .f32 := transpose S256x512 [1, 0] (extractStridedSlice S512x256 ![0, 256] (aW2a m c) slices_S512x512_S512x256_0_256) transposes_S512x256_S256x512_1_0
theorem V_main_v13 : V m c main_v13 = hBt m c := by
  show StableHlo.after _ _ _ = _
  after_results
  rfl
def hWf : FVec Ideal S11x512 .f32 := Host.dotGeneral dot_S11x256_S256x512_S11x512_1_0_0_1_n_n none (hWct m c) (hBt m c)
theorem V_main_v14 : V m c main_v14 = hWf m c := by
  show StableHlo.after _ _ _ = _
  after_results
  rfl
def hAt : FVec Ideal S256x512 .bf16 := truncf .bf16 (transpose S256x512 [1, 0] (extractStridedSlice S512x256 ![0, 0] (aW2a m c) slices_S512x512_S512x256_0_0) transposes_S512x256_S256x512_1_0) bitsLt_bf16_f32
theorem V_main_v11 : V m c main_v11 = hAt m c := by
  show StableHlo.after _ _ _ = _
  after_results
  rfl
def hB2af : FVec Ideal S1x512 .f32 := addf (Host.dotGeneral dot_S1x256_S256x512_S1x512_1_0_0_1_n_n none (hBc m c) (hBt m c) : FVec Ideal S1x512 .f32) (shapeCast S1x512 (aB2a m c) shapeCasts_S512_S1x512)
theorem V_main_v17 : V m c main_v17 = hB2af m c := by
  show StableHlo.after _ _ _ = _
  after_results
  rfl
def hW2bt : FVec Ideal S512x384 .bf16 := truncf .bf16 (transpose S512x384 [1, 0] (aW2b m c) transposes_S384x512_S512x384_1_0) bitsLt_bf16_f32
theorem V_main_v19 : V m c main_v19 = hW2bt m c := by
  show StableHlo.after _ _ _ = _
  after_results
  rfl
def hB2b : FVec Ideal S1x384 .f32 := shapeCast S1x384 (aB2b m c) shapeCasts_S384_S1x384
theorem V_main_v20 : V m c main_v20 = hB2b m c := by
  show StableHlo.after _ _ _ = _
  after_results
  rfl
def hCo : FVec Ideal S512x3 .f32 := shapeCast S512x3 (aCo m c) shapeCasts_S1x512x3_S512x3
theorem V_main_v1 : V m c main_v1 = hCo m c := by
  show StableHlo.after _ _ _ = _
  after_results
  rfl
def hWp1t : FVec Ideal S3x128 .f32 := transpose S3x128 [1, 0] (aWp1 m c) transposes_S128x3_S3x128_1_0
theorem V_main_v21 : V m c main_v21 = hWp1t m c := by
  show StableHlo.after _ _ _ = _
  after_results
  rfl
def hBp1 : FVec Ideal S1x128 .f32 := shapeCast S1x128 (aBp1 m c) shapeCasts_S128_S1x128
theorem V_main_v22 : V m c main_v22 = hBp1 m c := by
  show StableHlo.after _ _ _ = _
  after_results
  rfl
def hWp2t : FVec Ideal S128x384 .f32 := transpose S128x384 [1, 0] (aWp2 m c) transposes_S384x128_S128x384_1_0
theorem V_main_v23 : V m c main_v23 = hWp2t m c := by
  show StableHlo.after _ _ _ = _
  after_results
  rfl
def hBp2 : FVec Ideal S1x384 .f32 := shapeCast S1x384 (aBp2 m c) shapeCasts_S384_S1x384
theorem V_main_v24 : V m c main_v24 = hBp2 m c := by
  show StableHlo.after _ _ _ = _
  after_results
  rfl
def hS21 : IVec S512x1 32 := shapeCast S512x1 (shapeCast S512 (aS21 m c) shapeCasts_S1x512_S512) shapeCasts_S512_S512x1
theorem V_main_v30 : V m c main_v30 = hS21 m c := by
  show StableHlo.after _ _ _ = _
  after_results
  rfl

/-! ## The arrays at an index -/

theorem hX_at (p : Fin 32768) (i : Fin 11) : hX m c (ix2 p i) = aX m c (ix3 0 p i) := by
  unfold hX; pointwise
theorem hIds_at (p : Fin 32768) : hIds m c (ix2 p 0) = aS10 m c (ix2 0 p) := by
  unfold hIds; pointwise
theorem hIdn_at (p : Fin 32768) : hIdn m c (ix2 p 0) = if h : p.val + 1 < 32768 then aS10 m c (ix2 0 ⟨p.val + 1, h⟩) else 4294967295#32 := by
  unfold hIdn; pointwise
  by_cases h : p.val < 32767
  · rw [dif_pos h, dif_pos (by omega)]
    exact congrArg (aS10 m c) (congrArg (ix2 0) (Fin.ext (by show 1 + p.val = p.val + 1; omega)))
  · rw [dif_neg h, dif_neg (by omega)]
theorem hWct_at (i : Fin 11) (l : Fin 256) : hWct m c (ix2 i l) = ∑ j : Fin 128, aW1b m c (ix2 l j) * aW1a m c (ix2 j i) := by
  unfold hWct; pointwise
theorem hBc_at (l : Fin 256) : hBc m c (ix2 0 l) = (∑ j : Fin 128, aW1b m c (ix2 l j) * aB1a m c (ix1 j)) + aB1b m c (ix1 l) := by
  unfold hBc; pointwise
theorem hBt_at (l : Fin 256) (x : Fin 512) : hBt m c (ix2 l x) = aW2a m c (ix2 x ⟨256 + l.val, by omega⟩) := by
  unfold hBt; pointwise
theorem hWf_at (i : Fin 11) (x : Fin 512) : hWf m c (ix2 i x) = ∑ l : Fin 256, hWct m c (ix2 i l) * hBt m c (ix2 l x) := by
  unfold hWf; pointwise
theorem hAt_at (l : Fin 256) (x : Fin 512) : hAt m c (ix2 l x) = aW2a m c (ix2 x ⟨l.val, by omega⟩) := by
  unfold hAt; pointwise
theorem hB2af_at (x : Fin 512) : hB2af m c (ix2 0 x) = (∑ l : Fin 256, hBc m c (ix2 0 l) * hBt m c (ix2 l x)) + aB2a m c (ix1 x) := by
  unfold hB2af; pointwise
theorem hW2bt_at (x : Fin 512) (l : Fin 384) : hW2bt m c (ix2 x l) = aW2b m c (ix2 l x) := by
  unfold hW2bt; pointwise
theorem hB2b_at (l : Fin 384) : hB2b m c (ix2 0 l) = aB2b m c (ix1 l) := by
  unfold hB2b; pointwise
theorem hCo_at (s : Fin 512) (i : Fin 3) : hCo m c (ix2 s i) = aCo m c (ix3 0 s i) := by
  unfold hCo; pointwise
theorem hWp1t_at (i : Fin 3) (j : Fin 128) : hWp1t m c (ix2 i j) = aWp1 m c (ix2 j i) := by
  unfold hWp1t; pointwise
theorem hBp1_at (j : Fin 128) : hBp1 m c (ix2 0 j) = aBp1 m c (ix1 j) := by
  unfold hBp1; pointwise
theorem hWp2t_at (j : Fin 128) (l : Fin 384) : hWp2t m c (ix2 j l) = aWp2 m c (ix2 l j) := by
  unfold hWp2t; pointwise
theorem hBp2_at (l : Fin 384) : hBp2 m c (ix2 0 l) = aBp2 m c (ix1 l) := by
  unfold hBp2; pointwise
theorem hS21_at (s : Fin 512) : hS21 m c (ix2 s 0) = aS21 m c (ix2 0 s) := by
  unfold hS21; pointwise

end Cert.KernelIdeal.Gen

end
-- ==== Proof.Stage.lean ====
/- Counting the tokens of each stage: where a stage starts, which token stands at a place, and the counts as words. -/
module

public import proofs.«01_k».proof.Proof.Read
public import Idealize.ShloMosaic.Lib.StableHlo.Predicate

@[expose] public section

set_option maxRecDepth 16384

noncomputable section

namespace Cert.Stage

open Idealize.ShloMosaic Cert.KernelIdeal.Gen

/-- The number of tokens whose stage is below `b`: the first token of stage `b` when the stages are sorted. -/
def cnt (st : ℕ → ℕ) (b : ℕ) : ℕ := ((Finset.range 512).filter (fun i => st i < b)).card

variable {st : ℕ → ℕ}

theorem cnt_le (b : ℕ) : cnt st b ≤ 512 := by
  unfold cnt
  exact (Finset.card_filter_le _ _).trans (by rw [Finset.card_range])

theorem cnt_le_iff (mono : Monotone st) {i b : ℕ} (hi : i < 512) : cnt st b ≤ i ↔ b ≤ st i := by
  unfold cnt
  constructor
  · intro h
    by_contra hb
    have hs : Finset.range (i + 1) ⊆ (Finset.range 512).filter (fun j => st j < b) := by
      intro j hj
      rw [Finset.mem_range] at hj
      rw [Finset.mem_filter, Finset.mem_range]
      have := mono (show j ≤ i by omega)
      exact ⟨by omega, by omega⟩
    have := Finset.card_le_card hs
    rw [Finset.card_range] at this
    omega
  · intro h
    have hs : (Finset.range 512).filter (fun j => st j < b) ⊆ Finset.range i := by
      intro j hj
      rw [Finset.mem_filter, Finset.mem_range] at hj
      rw [Finset.mem_range]
      by_contra hc
      have := mono (show i ≤ j by omega)
      omega
    have := Finset.card_le_card hs
    rw [Finset.card_range] at this
    exact this

/-- The tokens of stage `b` are the ones from `cnt b` up to `cnt (b + 1)`. -/
theorem stage_iff (mono : Monotone st) {i b : ℕ} (hi : i < 512) : st i = b ↔ cnt st b ≤ i ∧ i < cnt st (b + 1) := by
  rw [cnt_le_iff mono hi, ← not_le, cnt_le_iff mono hi]
  omega

/-- A sum of bits as words is the count. -/
theorem fold_count (P : ℕ → Prop) [DecidablePred P] :
    Finset.fold IntOp.addi 0#32 (fun p : Fin 512 => BitVec.setWidth 32 (BitVec.ofBool (decide (P p.val)))) Finset.univ = BitVec.ofNat 32 ((Finset.range 512).filter P).card := by
  have hv : ∀ p : Fin 512, (BitVec.setWidth 32 (BitVec.ofBool (decide (P p.val)))).toNat = if P p.val then 1 else 0 := by
    intro p
    by_cases h : P p.val <;> simp [h]
  have hs : ∑ p : Fin 512, (BitVec.setWidth 32 (BitVec.ofBool (decide (P p.val)))).toNat = ((Finset.range 512).filter P).card := by
    rw [Finset.card_filter, ← Fin.sum_univ_eq_sum_range (fun i => if P i then 1 else 0) 512]
    exact Finset.sum_congr rfl fun p _ => hv p
  have hle : ((Finset.range 512).filter P).card ≤ 512 := (Finset.card_filter_le _ _).trans (by rw [Finset.card_range])
  apply BitVec.eq_of_toNat_eq
  rw [StableHlo.Predicate.toNat_fold_addi _ _ (by rw [hs]; omega), hs, BitVec.toNat_ofNat, Nat.mod_eq_of_lt (by omega)]

/-- A sum of words with one word kept is that word. -/
theorem fold_pick (b : Fin 32) (f : Fin 32 → BitVec 32) :
    Finset.fold IntOp.addi 0#32 (fun x : Fin 32 => Scalar.select (IntOp.cmpi .eq (BitVec.ofNat 32 b.val) (BitVec.ofNat 32 x.val)) (f x) 0#32) Finset.univ = f b := by
  have hv : ∀ x : Fin 32, (Scalar.select (IntOp.cmpi .eq (BitVec.ofNat 32 b.val) (BitVec.ofNat 32 x.val)) (f x) 0#32).toNat = if x = b then (f b).toNat else 0 := by
    intro x
    rw [eq_bit, sel_bit]
    by_cases h : x = b
    · rw [h, if_pos rfl, if_pos rfl]
    · rw [if_neg h, if_neg]
      · rfl
      · rw [word_inj (by omega) (by omega)]
        exact fun e => h (Fin.ext e.symm)
  have hs : ∑ x : Fin 32, (Scalar.select (IntOp.cmpi .eq (BitVec.ofNat 32 b.val) (BitVec.ofNat 32 x.val)) (f x) 0#32).toNat = (f b).toNat := by
    rw [Finset.sum_congr rfl fun x _ => hv x, Finset.sum_ite_eq' Finset.univ b, if_pos (Finset.mem_univ _)]
  apply BitVec.eq_of_toNat_eq
  rw [StableHlo.Predicate.toNat_fold_addi _ _ (by rw [hs]; exact (f b).isLt), hs]

/-- The value at place `r` of stage `b`: the token that stands there, or zero. -/
def place (st : ℕ → ℕ) (v : ℕ → EReal) (b r : ℕ) : EReal :=
  if cnt st b + r < cnt st (b + 1) then v (cnt st b + r) else 0

end Cert.Stage

end
-- ==== Proof.RefRead.lean ====
/- The reference program's two results in named pieces, and each piece read at an index. -/
module

public import proofs.«01_k».proof.Proof.Gen.ReferenceIdeal.Run
public import Idealize.ShloMosaic.Lib.Pointwise
public import Idealize.ShloMosaic.Lib.KernelVsHost
public import Idealize.ShloMosaic.Lib.Routing.OpsSet
public import Idealize.ShloMosaic.Lib.Routing.Ops
public import proofs.«01_k».proof.Proof.Stage

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.KernelIdeal.Gen (eq_bit sel_bit slt_bit word_inj neg_inf_f32)

/-! ## The pieces -/

/-- The per-point features after the first two linear layers. -/
def rH (x : FVec Ideal S1x32768x11 .f32) (w1a : FVec Ideal S128x11 .f32) (b1a : FVec Ideal S128 .f32) (w1b : FVec Ideal S256x128 .f32) (b1b : FVec Ideal S256 .f32) : FVec Ideal S32768x256 .f32 :=
  addf (Host.dotGeneral dot_S32768x128_S128x256_S32768x256_1_0_0_1_n_n none
      (addf (Host.dotGeneral dot_S32768x11_S11x128_S32768x128_1_0_0_1_n_n none (shapeCast S32768x11 x shapeCasts_S1x32768x11_S32768x11) (transpose S11x128 [1, 0] w1a transposes_S128x11_S11x128_1_0))
        (broadcastInDim S32768x128 ![0, 1] bcast_S1x128_S32768x128_0_1 (broadcastInDim S1x128 ![1] bcast_S128_S1x128_1 b1a)))
      (transpose S128x256 [1, 0] w1b transposes_S256x128_S128x256_1_0))
    (broadcastInDim S32768x256 ![0, 1] bcast_S1x256_S32768x256_0_1 (broadcastInDim S1x256 ![1] bcast_S256_S1x256_1 b1b))

/-- The masked copy of the features, one plane per segment. -/
def rMask256 (ids : IVec S32768 32) (h : FVec Ideal S32768x256 .f32) : FVec Ideal S32768x512x256 .f32 :=
  select (broadcastInDim S32768x512x256 ![0, 1, 2] bcast_S32768x512x1_S32768x512x256_0_1_2 (broadcastInDim S32768x512x1 ![0, 1] bcast_S32768x512_S32768x512x1_0_1
      (cmpi .eq (broadcastInDim S32768x512 ![0, 1] bcast_S32768x1_S32768x512_0_1 (broadcastInDim S32768x1 ![0] bcast_S32768_S32768x1_0 ids))
        (broadcastInDim S32768x512 ![0, 1] bcast_S1x512_S32768x512_0_1 (broadcastInDim S1x512 ![1] bcast_S512_S1x512_1 (iotaInDim S512 32 0))))))
    (broadcastInDim S32768x512x256 ![0, 1, 2] bcast_S32768x1x256_S32768x512x256_0_1_2 (broadcastInDim S32768x1x256 ![0, 2] bcast_S32768x256_S32768x1x256_0_2 h))
    (broadcastInDim S32768x512x256 ![] bcast_S_S32768x512x256 (id (constant S_ .f32 0xFF800000#32)))

/-- The features' maximum over each segment. -/
def rSeg256 (ids : IVec S32768 32) (h : FVec Ideal S32768x256 .f32) : FVec Ideal S512x256 .f32 :=
  Host.reduce FloatOps.maximumf (rMask256 ids h) (constant S_ .f32 0xFF800000#32) reducesTo_S32768x512x256_S512x256_d0 h_S_

/-- The segment numbers as gather indices. -/
def rWrap (ids : IVec S32768 32) : IVec S32768x1 32 :=
  broadcastInDim S32768x1 ![0] bcast_S32768_S32768x1_0 (select (cmpi .slt ids (broadcastInDim S32768 ![] bcast_S_S32768 (constantI S_ 32 0#32)))
    (addi ids (broadcastInDim S32768 ![] bcast_S_S32768 (constantI S_ 32 512#32))) ids)

/-- Each point's segment maximum. -/
def rG (ids : IVec S32768 32) (g : FVec Ideal S512x256 .f32) : FVec Ideal S32768x256 .f32 :=
  Host.gather gather_S512x256_S32768x1_S32768x256_1_0_n_n_0_1_1256 g (rWrap ids)

/-- The per-point features after the last two layers. -/
def rU (g h : FVec Ideal S32768x256 .f32) (w2a : FVec Ideal S512x512 .f32) (b2a : FVec Ideal S512 .f32) (w2b : FVec Ideal S384x512 .f32) (b2b : FVec Ideal S384 .f32) : FVec Ideal S32768x384 .f32 :=
  addf (Host.dotGeneral dot_S32768x512_S512x384_S32768x384_1_0_0_1_n_n none
      (maximumf (addf (Host.dotGeneral dot_S32768x512_S512x512_S32768x512_1_0_0_1_n_n none (concatenate S32768x512 1 [⟨S32768x256, g⟩, ⟨S32768x256, h⟩] concatenates_S32768x256_S32768x256_S32768x512_d1)
            (transpose S512x512 [1, 0] w2a transposes_S512x512_S512x512_1_0))
          (broadcastInDim S32768x512 ![0, 1] bcast_S1x512_S32768x512_0_1 (broadcastInDim S1x512 ![1] bcast_S512_S1x512_1 b2a)))
        (broadcastInDim S32768x512 ![] bcast_S_S32768x512 (constant S_ .f32 0x00000000#32)))
      (transpose S512x384 [1, 0] w2b transposes_S384x512_S512x384_1_0))
    (broadcastInDim S32768x384 ![0, 1] bcast_S1x384_S32768x384_0_1 (broadcastInDim S1x384 ![1] bcast_S384_S1x384_1 b2b))

/-- The masked copy of the last features, one plane per segment. -/
def rMask384 (ids : IVec S32768 32) (h : FVec Ideal S32768x384 .f32) : FVec Ideal S32768x512x384 .f32 :=
  select (broadcastInDim S32768x512x384 ![0, 1, 2] bcast_S32768x512x1_S32768x512x384_0_1_2 (broadcastInDim S32768x512x1 ![0, 1] bcast_S32768x512_S32768x512x1_0_1
      (cmpi .eq (broadcastInDim S32768x512 ![0, 1] bcast_S32768x1_S32768x512_0_1 (broadcastInDim S32768x1 ![0] bcast_S32768_S32768x1_0 ids))
        (broadcastInDim S32768x512 ![0, 1] bcast_S1x512_S32768x512_0_1 (broadcastInDim S1x512 ![1] bcast_S512_S1x512_1 (iotaInDim S512 32 0))))))
    (broadcastInDim S32768x512x384 ![0, 1, 2] bcast_S32768x1x384_S32768x512x384_0_1_2 (broadcastInDim S32768x1x384 ![0, 2] bcast_S32768x384_S32768x1x384_0_2 h))
    (broadcastInDim S32768x512x384 ![] bcast_S_S32768x512x384 (id (constant S_ .f32 0xFF800000#32)))

/-- The tokens: the last features' maximum over each segment. -/
def rSeg384 (ids : IVec S32768 32) (h : FVec Ideal S32768x384 .f32) : FVec Ideal S512x384 .f32 :=
  Host.reduce FloatOps.maximumf (rMask384 ids h) (constant S_ .f32 0xFF800000#32) reducesTo_S32768x512x384_S512x384_d0 h_S_

/-- The position layer before its activation. -/
def rZ (co : FVec Ideal S1x512x3 .f32) (wp1 : FVec Ideal S128x3 .f32) (bp1 : FVec Ideal S128 .f32) : FVec Ideal S512x128 .f32 :=
  addf (Host.dotGeneral dot_S512x3_S3x128_S512x128_1_0_0_1_n_n none (shapeCast S512x3 co shapeCasts_S1x512x3_S512x3) (transpose S3x128 [1, 0] wp1 transposes_S128x3_S3x128_1_0))
    (broadcastInDim S512x128 ![0, 1] bcast_S1x128_S512x128_0_1 (broadcastInDim S1x128 ![1] bcast_S128_S1x128_1 bp1))

/-- The activation of the position layer. -/
def rGelu (z : FVec Ideal S512x128 .f32) : FVec Ideal S512x128 .f32 :=
  mulf (mulf (broadcastInDim S512x128 ![] bcast_S_S512x128 (constant S_ .f32 0x3F000000#32)) z)
    (addf (broadcastInDim S512x128 ![] bcast_S_S512x128 (constant S_ .f32 0x3F800000#32))
      (Host.erf (mulf z (broadcastInDim S512x128 ![] bcast_S_S512x128 (constant S_ .f32 0x3F3504F3#32)))))

/-- The positions. -/
def rPos (g : FVec Ideal S512x128 .f32) (wp2 : FVec Ideal S384x128 .f32) (bp2 : FVec Ideal S384 .f32) : FVec Ideal S512x384 .f32 :=
  addf (Host.dotGeneral dot_S512x128_S128x384_S512x384_1_0_0_1_n_n none g (transpose S128x384 [1, 0] wp2 transposes_S384x128_S128x384_1_0))
    (broadcastInDim S512x384 ![0, 1] bcast_S1x384_S512x384_0_1 (broadcastInDim S1x384 ![1] bcast_S384_S1x384_1 bp2))

/-- Which tokens lie in a stage before `b`, as words. -/
def rBefore (s : IVec S512 32) : IVec S512x32 32 :=
  extui 32 (cmpi .slt (broadcastInDim S512x32 ![0, 1] bcast_S512x1_S512x32_0_1 (broadcastInDim S512x1 ![0] bcast_S512_S512x1_0 s))
    (broadcastInDim S512x32 ![0, 1] bcast_S1x32_S512x32_0_1 (broadcastInDim S1x32 ![1] bcast_S32_S1x32_1 (iotaInDim S32 32 0)))) natLt_1_32

/-- The first token of each stage. -/
def rStart (s : IVec S512 32) : IVec S32 32 :=
  Host.reduce IntOp.addi (rBefore s) (constantI S_ 32 0#32) reducesTo_S512x32_S32_d0 h_S_

/-- The stage numbers, wrapped. -/
def rStage (s : IVec S512 32) : IVec S512 32 :=
  select (cmpi .slt s (broadcastInDim S512 ![] bcast_S_S512 (constantI S_ 32 0#32))) (addi s (broadcastInDim S512 ![] bcast_S_S512 (constantI S_ 32 32#32))) s

/-- Each token's place in its stage. -/
def rRank (s : IVec S512 32) : IVec S512 32 :=
  subi (iotaInDim S512 32 0) (Host.gather gather_S32_S512x1_S512_n_0_n_n_0_1_1 (rStart s) (broadcastInDim S512x1 ![0] bcast_S512_S512x1_0 (rStage s)))

/-- Where each token goes: its stage and its place. -/
def rIdx (s : IVec S512 32) : IVec S512x2 32 :=
  concatenate S512x2 1 [⟨S512x1, broadcastInDim S512x1 ![0] bcast_S512_S512x1_0 (rStage s)⟩,
    ⟨S512x1, broadcastInDim S512x1 ![0] bcast_S512_S512x1_0 (select (cmpi .slt (rRank s) (broadcastInDim S512 ![] bcast_S_S512 (constantI S_ 32 0#32)))
      (addi (rRank s) (broadcastInDim S512 ![] bcast_S_S512 (constantI S_ 32 64#32))) (rRank s))⟩] concatenates_S512x1_S512x1_S512x2_d1

/-- The rows put at their places, the other places zero. -/
def rScat (idx : IVec S512x2 32) (v : FVec Ideal S512x384 .f32) : FVec Ideal S32x64x384 .f32 :=
  Host.scatter scatter_S32x64x384_S512x2_S512x384_1_01_01_1 (fun _ b => b) (broadcastInDim S32x64x384 ![] bcast_S_S32x64x384 (constant S_ .f32 0x00000000#32)) idx v

/-- One result: the scattered rows, flattened. -/
def rOut (idx : IVec S512x2 32) (v : FVec Ideal S512x384 .f32) : FVec Ideal S2048x384 .f32 :=
  shapeCast S2048x384 (rScat idx v) shapeCasts_S32x64x384_S2048x384

section
variable (m : (ℓ : Loc nD τ sig) → Buf (Elt Ideal) ℓ) (c : Dev nD)

abbrev bIds : IVec S32768 32 := shapeCast S32768 (m ((c.tc : Thread nD τ).loc main_arg2) : IVec S1x32768 32) shapeCasts_S1x32768_S32768
abbrev bS : IVec S512 32 := shapeCast S512 (m ((c.tc : Thread nD τ).loc main_arg3) : IVec S1x512 32) shapeCasts_S1x512_S512
abbrev bH : FVec Ideal S32768x256 .f32 := rH (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7))
abbrev bU : FVec Ideal S32768x384 .f32 := rU (rG (bIds m c) (rSeg256 (bIds m c) (bH m c))) (bH m c) (m ((c.tc : Thread nD τ).loc main_arg8)) (m ((c.tc : Thread nD τ).loc main_arg9)) (m ((c.tc : Thread nD τ).loc main_arg10)) (m ((c.tc : Thread nD τ).loc main_arg11))
abbrev bPos : FVec Ideal S512x384 .f32 := rPos (rGelu (rZ (m ((c.tc : Thread nD τ).loc main_arg1)) (m ((c.tc : Thread nD τ).loc main_arg12)) (m ((c.tc : Thread nD τ).loc main_arg13)))) (m ((c.tc : Thread nD τ).loc main_arg14)) (m ((c.tc : Thread nD τ).loc main_arg15))

theorem tok_eq : (res_main_v119 m c : FVec Ideal S2048x384 .f32) = rOut (rIdx (bS m c)) (rSeg384 (bIds m c) (bU m c)) := rfl
theorem pos_eq : (res_main_v120 m c : FVec Ideal S2048x384 .f32) = rOut (rIdx (bS m c)) (bPos m c) := rfl
end

/-! ## The readings -/

theorem rH_at (x : FVec Ideal S1x32768x11 .f32) (w1a : FVec Ideal S128x11 .f32) (b1a : FVec Ideal S128 .f32) (w1b : FVec Ideal S256x128 .f32) (b1b : FVec Ideal S256 .f32) (p : Fin 32768) (j : Fin 256) :
    rH x w1a b1a w1b b1b (ix2 p j) = ((∑ l : Fin 128, (((∑ i : Fin 11, (x (ix3 0 p i) * w1a (ix2 l i) : EReal)) + b1a (ix1 l) : EReal) * w1b (ix2 j l) : EReal)) + b1b (ix1 j) : EReal) := by
  unfold rH
  pointwise

theorem rU_at (g h : FVec Ideal S32768x256 .f32) (w2a : FVec Ideal S512x512 .f32) (b2a : FVec Ideal S512 .f32) (w2b : FVec Ideal S384x512 .f32) (b2b : FVec Ideal S384 .f32) (p : Fin 32768) (l : Fin 384) :
    rU g h w2a b2a w2b b2b (ix2 p l) = ((∑ x : Fin 512, (max ((∑ i : Fin 512, ((if hi : i.val < 256 then g (ix2 p ⟨i.val, hi⟩) else h (ix2 p ⟨i.val - 256, by omega⟩)) * w2a (ix2 x i) : EReal)) + b2a (ix1 x) : EReal) (0 : EReal) * w2b (ix2 l x) : EReal)) + b2b (ix1 l) : EReal) := by
  unfold rU
  pointwise

theorem rMask256_at (ids : IVec S32768 32) (h : FVec Ideal S32768x256 .f32) (p : Fin 32768) (s : Fin 512) (j : Fin 256) :
    rMask256 ids h (ix3 p s j) = if ids (ix1 p) = BitVec.ofNat 32 s.val then h (ix2 p j) else (⊥ : EReal) := by
  unfold rMask256
  pointwise
  rw [eq_bit, sel_bit]
  exact if_congr Iff.rfl rfl neg_inf_f32

theorem rMask384_at (ids : IVec S32768 32) (h : FVec Ideal S32768x384 .f32) (p : Fin 32768) (s : Fin 512) (j : Fin 384) :
    rMask384 ids h (ix3 p s j) = if ids (ix1 p) = BitVec.ofNat 32 s.val then h (ix2 p j) else (⊥ : EReal) := by
  unfold rMask384
  pointwise
  rw [eq_bit, sel_bit]
  exact if_congr Iff.rfl rfl neg_inf_f32

/-- A maximum over the points, taken from the masked copy, is the segment's supremum. -/
theorem fold_all {ι : Type} (key : ℕ → ℕ) (f : ℕ → EReal) (s : ℕ) (S : Finset ι) (x : ι → EReal) (pt : ι → ℕ)
    (hx : ∀ i ∈ S, pt i < 32768 ∧ x i = if key (pt i) = s then f (pt i) else ⊥) (hsurj : ∀ p < 32768, ∃ i ∈ S, pt i = p) :
    Finset.fold max (⊥ : EReal) x S = Cert.Seg.all 32768 key f s := by
  unfold Cert.Seg.all
  refine le_antisymm ((Finset.fold_max_le _).2 ⟨bot_le, fun i hi => ?_⟩) (Finset.sup_le fun p hp => ?_)
  · obtain ⟨h1, h2⟩ := hx i hi
    rw [h2]
    by_cases h : key (pt i) = s
    · rw [if_pos h]
      exact Finset.le_sup (f := f) (Finset.mem_filter.2 ⟨Finset.mem_range.2 h1, h⟩)
    · rw [if_neg h]
      exact bot_le
  · obtain ⟨hp1, hp2⟩ := Finset.mem_filter.1 hp
    obtain ⟨i, hi, hip⟩ := hsurj p (Finset.mem_range.1 hp1)
    refine (Finset.le_fold_max _).2 (Or.inr ⟨i, hi, ?_⟩)
    rw [(hx i hi).2, hip, if_pos hp2]

/-- The point of an index of the masked copy. -/
theorem ix3_eta {A B C : ℕ} (i : (⟨3, ![A, B, C]⟩ : Shape).Idx) : ∃ (a : Fin A) (b : Fin B) (c : Fin C), i = ix3 a b c :=
  ⟨i 0, i 1, i 2, funext fun a => match a with
    | ⟨0, _⟩ => rfl
    | ⟨1, _⟩ => rfl
    | ⟨2, _⟩ => rfl⟩

theorem rSeg256_at {key : ℕ → ℕ} (hk : ∀ p, key p < 512) (ids : IVec S32768 32) (hid : ∀ p : Fin 32768, ids (ix1 p) = BitVec.ofNat 32 (key p.val))
    (h : FVec Ideal S32768x256 .f32) (s : Fin 512) (j : Fin 256) (f : ℕ → EReal) (hf : ∀ p : Fin 32768, f p.val = h (ix2 p j)) :
    rSeg256 ids h (ix2 s j) = Cert.Seg.all 32768 key f s.val := by
  unfold rSeg256
  rw [Host.reduce_eq_fold]
  have hdrop : ∀ (p : Fin 32768) (s' : Fin 512) (j' : Fin 256), reducesTo_S32768x512x256_S512x256_d0.drop (ix3 p s' j') = ix2 s' j' := fun p s' j' =>
    funext fun a => match a with
      | ⟨0, _⟩ => Fin.ext (Shape.ReducesTo.drop_apply_val _ _ _)
      | ⟨1, _⟩ => Fin.ext (Shape.ReducesTo.drop_apply_val _ _ _)
  have e0 : constant (F := Ideal) S_ .f32 0xFF800000#32 (Shape.Idx.first h_S_) = (⊥ : EReal) := neg_inf_f32
  rw [e0]
  refine fold_all key f s.val _ _ (fun i => (i 0).val) (fun i hi => ?_) (fun p hp => ?_)
  · obtain ⟨p, s', j', rfl⟩ := ix3_eta i
    rw [Finset.mem_filter, hdrop] at hi
    have e1 : s' = s := congrFun hi.2 0
    have e2 : j' = j := congrFun hi.2 1
    subst e1 e2
    refine ⟨p.isLt, ?_⟩
    rw [rMask256_at, hid, ← hf]
    refine if_congr ?_ rfl rfl
    have := hk p.val
    exact word_inj (by omega) (by omega)
  · exact ⟨ix3 ⟨p, hp⟩ s j, Finset.mem_filter.2 ⟨Finset.mem_univ _, hdrop _ _ _⟩, rfl⟩

theorem rSeg384_at {key : ℕ → ℕ} (hk : ∀ p, key p < 512) (ids : IVec S32768 32) (hid : ∀ p : Fin 32768, ids (ix1 p) = BitVec.ofNat 32 (key p.val))
    (h : FVec Ideal S32768x384 .f32) (s : Fin 512) (j : Fin 384) (f : ℕ → EReal) (hf : ∀ p : Fin 32768, f p.val = h (ix2 p j)) :
    rSeg384 ids h (ix2 s j) = Cert.Seg.all 32768 key f s.val := by
  unfold rSeg384
  rw [Host.reduce_eq_fold]
  have hdrop : ∀ (p : Fin 32768) (s' : Fin 512) (j' : Fin 384), reducesTo_S32768x512x384_S512x384_d0.drop (ix3 p s' j') = ix2 s' j' := fun p s' j' =>
    funext fun a => match a with
      | ⟨0, _⟩ => Fin.ext (Shape.ReducesTo.drop_apply_val _ _ _)
      | ⟨1, _⟩ => Fin.ext (Shape.ReducesTo.drop_apply_val _ _ _)
  have e0 : constant (F := Ideal) S_ .f32 0xFF800000#32 (Shape.Idx.first h_S_) = (⊥ : EReal) := neg_inf_f32
  rw [e0]
  refine fold_all key f s.val _ _ (fun i => (i 0).val) (fun i hi => ?_) (fun p hp => ?_)
  · obtain ⟨p, s', j', rfl⟩ := ix3_eta i
    rw [Finset.mem_filter, hdrop] at hi
    have e1 : s' = s := congrFun hi.2 0
    have e2 : j' = j := congrFun hi.2 1
    subst e1 e2
    refine ⟨p.isLt, ?_⟩
    rw [rMask384_at, hid, ← hf]
    refine if_congr ?_ rfl rfl
    have := hk p.val
    exact word_inj (by omega) (by omega)
  · exact ⟨ix3 ⟨p, hp⟩ s j, Finset.mem_filter.2 ⟨Finset.mem_univ _, hdrop _ _ _⟩, rfl⟩

/-- A word that is a small number is not below zero. -/
theorem wrap_small (n : ℕ) (hn : n < 2147483648) (y : BitVec 32) : Scalar.select (IntOp.cmpi .slt (BitVec.ofNat 32 n) 0#32) y (BitVec.ofNat 32 n) = BitVec.ofNat 32 n := by
  rw [show (0#32 : BitVec 32) = BitVec.ofNat 32 0 from rfl, slt_bit n 0 hn (by norm_num), sel_bit, if_neg (Nat.not_lt_zero n)]

theorem rG_at {key : ℕ → ℕ} (hk : ∀ p, key p < 512) (ids : IVec S32768 32) (hid : ∀ p : Fin 32768, ids (ix1 p) = BitVec.ofNat 32 (key p.val))
    (g : FVec Ideal S512x256 .f32) (p : Fin 32768) (j : Fin 256) : rG ids g (ix2 p j) = g (ix2 ⟨key p.val, hk _⟩ j) := by
  have hw : rWrap ids (ix2 p 0) = BitVec.ofNat 32 (key p.val) := by
    have e : rWrap ids (ix2 p 0) = Scalar.select (IntOp.cmpi CmpIPredicate.slt (ids (ix1 p)) 0#32) (IntOp.addi (ids (ix1 p)) 512#32) (ids (ix1 p)) := by
      unfold rWrap
      pointwise
    rw [e, hid]
    exact wrap_small _ (by have := hk p.val; omega) _
  exact Routing.gather_row gather_S512x256_S32768x1_S32768x256_1_0_n_n_0_1_1256 rfl rfl rfl rfl rfl g (rWrap ids) p j ⟨key p.val, hk _⟩ hw (by norm_num)

theorem rZ_at (co : FVec Ideal S1x512x3 .f32) (wp1 : FVec Ideal S128x3 .f32) (bp1 : FVec Ideal S128 .f32) (s : Fin 512) (l : Fin 128) :
    rZ co wp1 bp1 (ix2 s l) = ((∑ i : Fin 3, (co (ix3 0 s i) * wp1 (ix2 l i) : EReal)) + bp1 (ix1 l) : EReal) := by
  unfold rZ
  pointwise

theorem rGelu_at (z : FVec Ideal S512x128 .f32) (s : Fin 512) (l : Fin 128) :
    rGelu z (ix2 s l) = (Ideal.ofBits FTy.f32 1056964608#32 * z (ix2 s l) * (1 + Ideal.erf (z (ix2 s l) * Ideal.ofBits FTy.f32 1060439283#32)) : EReal) := by
  unfold rGelu
  pointwise

theorem rPos_at (g : FVec Ideal S512x128 .f32) (wp2 : FVec Ideal S384x128 .f32) (bp2 : FVec Ideal S384 .f32) (s : Fin 512) (l : Fin 384) :
    rPos g wp2 bp2 (ix2 s l) = ((∑ i : Fin 128, (g (ix2 s i) * wp2 (ix2 l i) : EReal)) + bp2 (ix1 l) : EReal) := by
  unfold rPos
  pointwise

section
variable {st : ℕ → ℕ} (hst : ∀ p, st p < 32) (s : IVec S512 32) (hs : ∀ i : Fin 512, s (ix1 i) = BitVec.ofNat 32 (st i.val))
include hst hs

theorem rStart_at (b : Fin 32) : rStart s (ix1 b) = BitVec.ofNat 32 (Cert.Stage.cnt st b.val) := by
  apply BitVec.eq_of_toNat_eq
  have c0 := Cert.Stage.cnt_le (st := st) b.val
  unfold rStart rBefore
  rw [StableHlo.Predicate.toNat_reduce_count_rows (by norm_num), BitVec.toNat_ofNat, Nat.mod_eq_of_lt (by omega)]
  unfold Cert.Stage.cnt
  rw [Finset.card_filter, Finset.card_filter, ← Fin.sum_univ_eq_sum_range (fun i => if st i < b.val then 1 else 0) 512]
  refine Finset.sum_congr rfl fun p _ => ?_
  refine if_congr ?_ rfl rfl
  have e : cmpi .slt (broadcastInDim S512x32 ![0, 1] bcast_S512x1_S512x32_0_1 (broadcastInDim S512x1 ![0] bcast_S512_S512x1_0 s))
    (broadcastInDim S512x32 ![0, 1] bcast_S1x32_S512x32_0_1 (broadcastInDim S1x32 ![1] bcast_S32_S1x32_1 (iotaInDim S32 32 0))) (ix2 p b) = IntOp.cmpi CmpIPredicate.slt (s (ix1 p)) (BitVec.ofNat 32 b.val) := by
    pointwise
  have h2 : IntOp.cmpi CmpIPredicate.slt (s (ix1 p)) (BitVec.ofNat 32 b.val) = 1#1 ↔ st p.val < b.val := by
    rw [hs p, slt_bit _ _ (by have := hst p.val; omega) (by omega)]
    by_cases h : st p.val < b.val <;> simp [h]
  exact (iff_of_eq (congrArg (· = 1#1) ((congrArg _ (Routing.ij_eq_ix2 p b)).trans e))).trans h2

theorem rStage_at (i : Fin 512) : rStage s (ix1 i) = BitVec.ofNat 32 (st i.val) := by
  have e : rStage s (ix1 i) = Scalar.select (IntOp.cmpi CmpIPredicate.slt (s (ix1 i)) 0#32) (IntOp.addi (s (ix1 i)) 32#32) (s (ix1 i)) := by
    unfold rStage
    pointwise
  rw [e, hs]
  exact wrap_small _ (by have := hst i.val; omega) _

variable (mono : Monotone st)
include mono

theorem rRank_at (i : Fin 512) : rRank s (ix1 i) = BitVec.ofNat 32 (i.val - Cert.Stage.cnt st (st i.val)) := by
  have hg : Host.gather gather_S32_S512x1_S512_n_0_n_n_0_1_1 (rStart s) (broadcastInDim S512x1 ![0] bcast_S512_S512x1_0 (rStage s)) (ix1 i) = BitVec.ofNat 32 (Cert.Stage.cnt st (st i.val)) := by
    have hb : broadcastInDim S512x1 ![0] bcast_S512_S512x1_0 (rStage s) (ix2 i 0) = BitVec.ofNat 32 (st i.val) := by
      have e : broadcastInDim S512x1 ![0] bcast_S512_S512x1_0 (rStage s) (ix2 i 0) = rStage s (ix1 i) := by pointwise
      rw [e, rStage_at hst s hs]
    exact (Routing.gather_take1 gather_S32_S512x1_S512_n_0_n_n_0_1_1 rfl rfl rfl rfl (rStart s) _ i ⟨st i.val, hst _⟩ hb (by norm_num)).trans (rStart_at hst s hs _)
  have e : rRank s (ix1 i) = IntOp.subi (BitVec.ofNat 32 i.val) (Host.gather gather_S32_S512x1_S512_n_0_n_n_0_1_1 (rStart s) (broadcastInDim S512x1 ![0] bcast_S512_S512x1_0 (rStage s)) (ix1 i)) := by
    unfold rRank
    pointwise
  rw [e, hg]
  have hc : Cert.Stage.cnt st (st i.val) ≤ i.val := (Cert.Stage.cnt_le_iff mono i.isLt).2 le_rfl
  have hi := i.isLt
  apply BitVec.eq_of_toNat_eq
  show (BitVec.ofNat 32 i.val - BitVec.ofNat 32 (Cert.Stage.cnt st (st i.val))).toNat = _
  rw [BitVec.toNat_sub, BitVec.toNat_ofNat, BitVec.toNat_ofNat, BitVec.toNat_ofNat]
  norm_num
  omega

theorem rIdx_at0 (i : Fin 512) : rIdx s (ix2 i 0) = BitVec.ofNat 32 (st i.val) := by
  have e : rIdx s (ix2 i 0) = rStage s (ix1 i) := by
    unfold rIdx
    pointwise
  rw [e, rStage_at hst s hs]

theorem rIdx_at1 (i : Fin 512) : rIdx s (ix2 i 1) = BitVec.ofNat 32 (i.val - Cert.Stage.cnt st (st i.val)) := by
  have e : rIdx s (ix2 i 1) = Scalar.select (IntOp.cmpi CmpIPredicate.slt (rRank s (ix1 i)) 0#32) (IntOp.addi (rRank s (ix1 i)) 64#32) (rRank s (ix1 i)) := by
    unfold rIdx
    pointwise
  rw [e, rRank_at hst s hs mono]
  exact wrap_small _ (by have := i.isLt; omega) _
end

/-- Where an update lands. -/
theorem lands (idx : IVec S512x2 32) (i : Fin 512) (l' : Fin 384) (b : Fin 32) (r : Fin 64) (l : Fin 384) :
    scatter_S32x64x384_S512x2_S512x384_1_01_01_1.resultIdx? (ix2 i l') idx = some (ix3 b r l)
      ↔ (idx (ix2 i 0)).toInt = b.val ∧ (idx (ix2 i 1)).toInt = r.val ∧ l' = l := by
  rw [Routing.resultIdx?_eq_some]
  have s0 : scatter_S32x64x384_S512x2_S512x384_1_01_01_1.start (ix2 i l') idx 0 = (idx (ix2 i 0)).toInt :=
    congrArg (fun q => (idx q).toInt) (funext fun a => match a with
      | ⟨0, _⟩ => rfl
      | ⟨1, _⟩ => rfl)
  have s1 : scatter_S32x64x384_S512x2_S512x384_1_01_01_1.start (ix2 i l') idx 1 = (idx (ix2 i 1)).toInt :=
    congrArg (fun q => (idx q).toInt) (funext fun a => match a with
      | ⟨0, _⟩ => rfl
      | ⟨1, _⟩ => rfl)
  have s2 : scatter_S32x64x384_S512x2_S512x384_1_01_01_1.start (ix2 i l') idx 2 = 0 := rfl
  have w0 : scatter_S32x64x384_S512x2_S512x384_1_01_01_1.window (ix2 i l') 0 = 0 := rfl
  have w1 : scatter_S32x64x384_S512x2_S512x384_1_01_01_1.window (ix2 i l') 1 = 0 := rfl
  have w2 : scatter_S32x64x384_S512x2_S512x384_1_01_01_1.window (ix2 i l') 2 = l'.val := rfl
  constructor
  · intro h
    have h0 := h 0
    have h1 := h 1
    have h2 := h 2
    rw [s0, w0] at h0
    rw [s1, w1] at h1
    rw [s2, w2] at h2
    change _ = ((b.val : ℕ) : ℤ) at h0
    change _ = ((r.val : ℕ) : ℤ) at h1
    change _ = ((l.val : ℕ) : ℤ) at h2
    exact ⟨by omega, by omega, Fin.ext (by omega)⟩
  · rintro ⟨h0, h1, rfl⟩ a
    match a with
    | ⟨0, _⟩ => exact (congrArg₂ (fun x (y : ℕ) => x + (y : ℤ)) s0 w0).trans (by rw [h0]; rfl)
    | ⟨1, _⟩ => exact (congrArg₂ (fun x (y : ℕ) => x + (y : ℤ)) s1 w1).trans (by rw [h1]; rfl)
    | ⟨2, _⟩ => exact (congrArg₂ (fun x (y : ℕ) => x + (y : ℤ)) s2 w2).trans (by rw [zero_add]; rfl)

theorem rOut_eq (idx : IVec S512x2 32) (v : FVec Ideal S512x384 .f32) (d : Fin 2048) (l : Fin 384) :
    rOut idx v (ix2 d l) = rScat idx v (ix3 ⟨d.val / 64, by omega⟩ ⟨d.val % 64, by omega⟩ l) := by
  unfold rOut
  pointwise

/-- A result at a place: the token that stands there, or zero. -/
theorem rOut_at {st : ℕ → ℕ} (hst : ∀ p, st p < 32) (mono : Monotone st) (s : IVec S512 32) (hs : ∀ i : Fin 512, s (ix1 i) = BitVec.ofNat 32 (st i.val))
    (v : FVec Ideal S512x384 .f32) (l : Fin 384) (w : ℕ → EReal) (hw : ∀ i : Fin 512, w i.val = v (ix2 i l)) (d : Fin 2048) :
    rOut (rIdx s) v (ix2 d l) = Cert.Stage.place st w (d.val / 64) (d.val % 64) := by
  rw [rOut_eq]
  unfold rScat Cert.Stage.place
  have hm : d.val % 64 < 64 := Nat.mod_lt _ (by norm_num)
  have key : ∀ (i : Fin 512) (l' : Fin 384), scatter_S32x64x384_S512x2_S512x384_1_01_01_1.resultIdx? (ix2 i l') (rIdx s) = some (ix3 (⟨d.val / 64, by omega⟩ : Fin 32) (⟨d.val % 64, by omega⟩ : Fin 64) l)
      ↔ (st i.val = d.val / 64 ∧ i.val = Cert.Stage.cnt st (d.val / 64) + d.val % 64) ∧ l' = l := by
    intro i l'
    rw [lands, rIdx_at0 hst s hs mono, rIdx_at1 hst s hs mono, StableHlo.Predicate.toInt_ofNat_small _ (by have := hst i.val; omega),
      StableHlo.Predicate.toInt_ofNat_small _ (by have := i.isLt; omega)]
    have hc : Cert.Stage.cnt st (st i.val) ≤ i.val := (Cert.Stage.cnt_le_iff mono i.isLt).2 le_rfl
    constructor
    · rintro ⟨h0, h1, h2⟩
      have e : st i.val = d.val / 64 := by exact_mod_cast h0
      have h1' : i.val - Cert.Stage.cnt st (st i.val) = d.val % 64 := by exact_mod_cast h1
      rw [e] at h1' hc
      exact ⟨⟨e, by omega⟩, h2⟩
    · rintro ⟨⟨e, h1⟩, h2⟩
      rw [e]
      refine ⟨rfl, ?_, h2⟩
      show ((i.val - Cert.Stage.cnt st (d.val / 64) : ℕ) : ℤ) = ((d.val % 64 : ℕ) : ℤ)
      rw [h1, Nat.add_sub_cancel_left]
  have c1 := Cert.Stage.cnt_le (st := st) (d.val / 64 + 1)
  by_cases h : Cert.Stage.cnt st (d.val / 64) + d.val % 64 < Cert.Stage.cnt st (d.val / 64 + 1)
  · rw [if_pos h]
    have hi : Cert.Stage.cnt st (d.val / 64) + d.val % 64 < 512 := by omega
    refine Routing.scatter_set_hit _ _ _ _ _ _ (fun k hk => ?_) (ix2 (⟨Cert.Stage.cnt st (d.val / 64) + d.val % 64, hi⟩ : Fin 512) l)
      ((key _ _).2 ⟨⟨(Cert.Stage.stage_iff mono hi).2 ⟨by omega, h⟩, rfl⟩, rfl⟩)
    obtain ⟨i, l', rfl⟩ : ∃ (i : Fin 512) (l' : Fin 384), k = ix2 i l' := ⟨k 0, k 1, funext fun a => match a with
      | ⟨0, _⟩ => rfl
      | ⟨1, _⟩ => rfl⟩
    obtain ⟨⟨_, h1⟩, rfl⟩ := (key i l').1 hk
    rw [← h1]
    exact (hw i).symm
  · rw [if_neg h]
    refine (Routing.scatter_set_miss _ _ _ _ _ (fun k hk => ?_)).trans ?_
    · obtain ⟨i, l', rfl⟩ : ∃ (i : Fin 512) (l' : Fin 384), k = ix2 i l' := ⟨k 0, k 1, funext fun a => match a with
        | ⟨0, _⟩ => rfl
        | ⟨1, _⟩ => rfl⟩
      obtain ⟨⟨h0, h1⟩, -⟩ := (key i l').1 hk
      have := ((Cert.Stage.stage_iff mono i.isLt).1 h0).2
      omega
    · pointwise

end Cert.ReferenceIdeal.Value

end
-- ==== Proof.PreRead.lean ====
/- What the precondition says: the segment numbers and the stages as sorted numbers, and the finite arrays. -/
module

public import proofs.«01_k».proof.Proof.Gen.Pre_sorted_finite
public import proofs.«01_k».proof.Proof.Read
public import Idealize.ShloMosaic.Lib.Pointwise

@[expose] public section

set_option maxRecDepth 16384

noncomputable section

namespace Cert.PreRead

open Cert.Pre_sorted_finite Cert.Pre_sorted_finite.Gen Idealize.ShloMosaic
open Cert.KernelIdeal.Gen (eq_bit)

section
variable (a0 : FVec Ideal S1x32768x11 .f32) (a1 : FVec Ideal S1x512x3 .f32) (a2 : IVec S1x32768 32) (a3 : IVec S1x512 32) (a4 : FVec Ideal S128x11 .f32) (a5 : FVec Ideal S128 .f32) (a6 : FVec Ideal S256x128 .f32) (a7 : FVec Ideal S256 .f32) (a8 : FVec Ideal S512x512 .f32) (a9 : FVec Ideal S512 .f32) (a10 : FVec Ideal S384x512 .f32) (a11 : FVec Ideal S384 .f32) (a12 : FVec Ideal S128x3 .f32) (a13 : FVec Ideal S128 .f32) (a14 : FVec Ideal S384x128 .f32) (a15 : FVec Ideal S384 .f32)

theorem part0 (h : (Cert.Pre_sorted_finite.fn (F := Ideal) a0 a1 a2 a3 a4 a5 a6 a7 a8 a9 a10 a11 a12 a13 a14 a15).1 = fun _ => 1#1) : IntOp.cmpi .eq (a2 (ix2 0 0)) 0#32 = 1#1 := by
  have e : (Cert.Pre_sorted_finite.fn (F := Ideal) a0 a1 a2 a3 a4 a5 a6 a7 a8 a9 a10 a11 a12 a13 a14 a15).1 = cmpi .eq (extractStridedSlice S1 ![0] (shapeCast S32768 a2 shapeCasts_S1x32768_S32768 : IVec S32768 32) slices_S32768_S1_0) (broadcastInDim S1 ![] bcast_S_S1 (constantI S_ 32 0#32)) := rfl
  have e2 : (cmpi .eq (extractStridedSlice S1 ![0] (shapeCast S32768 a2 shapeCasts_S1x32768_S32768 : IVec S32768 32) slices_S32768_S1_0) (broadcastInDim S1 ![] bcast_S_S1 (constantI S_ 32 0#32))) (ix1 0) = IntOp.cmpi .eq (a2 (ix2 0 0)) 0#32 := by
    pointwise
  rw [← e2]
  exact congrFun (e.symm.trans h) (ix1 0)

theorem part1 (h : (Cert.Pre_sorted_finite.fn (F := Ideal) a0 a1 a2 a3 a4 a5 a6 a7 a8 a9 a10 a11 a12 a13 a14 a15).2.1 = fun _ => 1#1) : IntOp.cmpi .eq (a2 (ix2 0 32767)) 511#32 = 1#1 := by
  have e : (Cert.Pre_sorted_finite.fn (F := Ideal) a0 a1 a2 a3 a4 a5 a6 a7 a8 a9 a10 a11 a12 a13 a14 a15).2.1 = cmpi .eq (extractStridedSlice S1 ![32767] (shapeCast S32768 a2 shapeCasts_S1x32768_S32768 : IVec S32768 32) slices_S32768_S1_32767) (broadcastInDim S1 ![] bcast_S_S1 (constantI S_ 32 511#32)) := rfl
  have e2 : (cmpi .eq (extractStridedSlice S1 ![32767] (shapeCast S32768 a2 shapeCasts_S1x32768_S32768 : IVec S32768 32) slices_S32768_S1_32767) (broadcastInDim S1 ![] bcast_S_S1 (constantI S_ 32 511#32))) (ix1 0) = IntOp.cmpi .eq (a2 (ix2 0 32767)) 511#32 := by
    pointwise
  rw [← e2]
  exact congrFun (e.symm.trans h) (ix1 0)

theorem part2 (h : (Cert.Pre_sorted_finite.fn (F := Ideal) a0 a1 a2 a3 a4 a5 a6 a7 a8 a9 a10 a11 a12 a13 a14 a15).2.2.1 = fun _ => 1#1) (p : Fin 32767) : IntOp.ori (IntOp.cmpi .eq (IntOp.subi (a2 (ix2 0 ⟨p.val + 1, by omega⟩)) (a2 (ix2 0 ⟨p.val, by omega⟩))) 0#32) (IntOp.cmpi .eq (IntOp.subi (a2 (ix2 0 ⟨p.val + 1, by omega⟩)) (a2 (ix2 0 ⟨p.val, by omega⟩))) 1#32) = 1#1 := by
  have e : (Cert.Pre_sorted_finite.fn (F := Ideal) a0 a1 a2 a3 a4 a5 a6 a7 a8 a9 a10 a11 a12 a13 a14 a15).2.2.1 = ori (cmpi .eq (subi (extractStridedSlice S32767 ![1] (shapeCast S32768 a2 shapeCasts_S1x32768_S32768 : IVec S32768 32) slices_S32768_S32767_1) (extractStridedSlice S32767 ![0] (shapeCast S32768 a2 shapeCasts_S1x32768_S32768 : IVec S32768 32) slices_S32768_S32767_0)) (broadcastInDim S32767 ![] bcast_S_S32767 (constantI S_ 32 0#32))) (cmpi .eq (subi (extractStridedSlice S32767 ![1] (shapeCast S32768 a2 shapeCasts_S1x32768_S32768 : IVec S32768 32) slices_S32768_S32767_1) (extractStridedSlice S32767 ![0] (shapeCast S32768 a2 shapeCasts_S1x32768_S32768 : IVec S32768 32) slices_S32768_S32767_0)) (broadcastInDim S32767 ![] bcast_S_S32767 (constantI S_ 32 1#32))) := rfl
  have e2 : (ori (cmpi .eq (subi (extractStridedSlice S32767 ![1] (shapeCast S32768 a2 shapeCasts_S1x32768_S32768 : IVec S32768 32) slices_S32768_S32767_1) (extractStridedSlice S32767 ![0] (shapeCast S32768 a2 shapeCasts_S1x32768_S32768 : IVec S32768 32) slices_S32768_S32767_0)) (broadcastInDim S32767 ![] bcast_S_S32767 (constantI S_ 32 0#32))) (cmpi .eq (subi (extractStridedSlice S32767 ![1] (shapeCast S32768 a2 shapeCasts_S1x32768_S32768 : IVec S32768 32) slices_S32768_S32767_1) (extractStridedSlice S32767 ![0] (shapeCast S32768 a2 shapeCasts_S1x32768_S32768 : IVec S32768 32) slices_S32768_S32767_0)) (broadcastInDim S32767 ![] bcast_S_S32767 (constantI S_ 32 1#32)))) (ix1 p) = IntOp.ori (IntOp.cmpi .eq (IntOp.subi (a2 (ix2 0 ⟨p.val + 1, by omega⟩)) (a2 (ix2 0 ⟨p.val, by omega⟩))) 0#32) (IntOp.cmpi .eq (IntOp.subi (a2 (ix2 0 ⟨p.val + 1, by omega⟩)) (a2 (ix2 0 ⟨p.val, by omega⟩))) 1#32) := by
    pointwise
    simp only [Nat.add_comm 1]
  rw [← e2]
  exact congrFun (e.symm.trans h) (ix1 p)

theorem part3 (h : (Cert.Pre_sorted_finite.fn (F := Ideal) a0 a1 a2 a3 a4 a5 a6 a7 a8 a9 a10 a11 a12 a13 a14 a15).2.2.2.1 = fun _ => 1#1) : IntOp.cmpi .sge (a3 (ix2 0 0)) 0#32 = 1#1 := by
  have e : (Cert.Pre_sorted_finite.fn (F := Ideal) a0 a1 a2 a3 a4 a5 a6 a7 a8 a9 a10 a11 a12 a13 a14 a15).2.2.2.1 = cmpi .sge (extractStridedSlice S1 ![0] (shapeCast S512 a3 shapeCasts_S1x512_S512 : IVec S512 32) slices_S512_S1_0) (broadcastInDim S1 ![] bcast_S_S1 (constantI S_ 32 0#32)) := rfl
  have e2 : (cmpi .sge (extractStridedSlice S1 ![0] (shapeCast S512 a3 shapeCasts_S1x512_S512 : IVec S512 32) slices_S512_S1_0) (broadcastInDim S1 ![] bcast_S_S1 (constantI S_ 32 0#32))) (ix1 0) = IntOp.cmpi .sge (a3 (ix2 0 0)) 0#32 := by
    pointwise
  rw [← e2]
  exact congrFun (e.symm.trans h) (ix1 0)

theorem part4 (h : (Cert.Pre_sorted_finite.fn (F := Ideal) a0 a1 a2 a3 a4 a5 a6 a7 a8 a9 a10 a11 a12 a13 a14 a15).2.2.2.2.1 = fun _ => 1#1) : IntOp.cmpi .slt (a3 (ix2 0 511)) 32#32 = 1#1 := by
  have e : (Cert.Pre_sorted_finite.fn (F := Ideal) a0 a1 a2 a3 a4 a5 a6 a7 a8 a9 a10 a11 a12 a13 a14 a15).2.2.2.2.1 = cmpi .slt (extractStridedSlice S1 ![511] (shapeCast S512 a3 shapeCasts_S1x512_S512 : IVec S512 32) slices_S512_S1_511) (broadcastInDim S1 ![] bcast_S_S1 (constantI S_ 32 32#32)) := rfl
  have e2 : (cmpi .slt (extractStridedSlice S1 ![511] (shapeCast S512 a3 shapeCasts_S1x512_S512 : IVec S512 32) slices_S512_S1_511) (broadcastInDim S1 ![] bcast_S_S1 (constantI S_ 32 32#32))) (ix1 0) = IntOp.cmpi .slt (a3 (ix2 0 511)) 32#32 := by
    pointwise
  rw [← e2]
  exact congrFun (e.symm.trans h) (ix1 0)

theorem part5 (h : (Cert.Pre_sorted_finite.fn (F := Ideal) a0 a1 a2 a3 a4 a5 a6 a7 a8 a9 a10 a11 a12 a13 a14 a15).2.2.2.2.2.1 = fun _ => 1#1) (p : Fin 511) : IntOp.cmpi .sle (a3 (ix2 0 ⟨p.val, by omega⟩)) (a3 (ix2 0 ⟨p.val + 1, by omega⟩)) = 1#1 := by
  have e : (Cert.Pre_sorted_finite.fn (F := Ideal) a0 a1 a2 a3 a4 a5 a6 a7 a8 a9 a10 a11 a12 a13 a14 a15).2.2.2.2.2.1 = cmpi .sle (extractStridedSlice S511 ![0] (shapeCast S512 a3 shapeCasts_S1x512_S512 : IVec S512 32) slices_S512_S511_0) (extractStridedSlice S511 ![1] (shapeCast S512 a3 shapeCasts_S1x512_S512 : IVec S512 32) slices_S512_S511_1) := rfl
  have e2 : (cmpi .sle (extractStridedSlice S511 ![0] (shapeCast S512 a3 shapeCasts_S1x512_S512 : IVec S512 32) slices_S512_S511_0) (extractStridedSlice S511 ![1] (shapeCast S512 a3 shapeCasts_S1x512_S512 : IVec S512 32) slices_S512_S511_1)) (ix1 p) = IntOp.cmpi .sle (a3 (ix2 0 ⟨p.val, by omega⟩)) (a3 (ix2 0 ⟨p.val + 1, by omega⟩)) := by
    pointwise
    simp only [Nat.add_comm 1]
  rw [← e2]
  exact congrFun (e.symm.trans h) (ix1 p)

theorem part6 (h : (Cert.Pre_sorted_finite.fn (F := Ideal) a0 a1 a2 a3 a4 a5 a6 a7 a8 a9 a10 a11 a12 a13 a14 a15).2.2.2.2.2.2.1 = fun _ => 1#1) (p : Fin 32768) (i : Fin 11) : FloatOps.cmpf (F := Ideal) (φ := .f32) .olt (FloatOps.absf (a0 (ix3 0 p i))) (Ideal.ofBits .f32 0x7F800000#32) = 1#1 := by
  have e : (Cert.Pre_sorted_finite.fn (F := Ideal) a0 a1 a2 a3 a4 a5 a6 a7 a8 a9 a10 a11 a12 a13 a14 a15).2.2.2.2.2.2.1 = cmpf (F := Ideal) .olt (Host.absf a0) (broadcastInDim S1x32768x11 ![] bcast_S_S1x32768x11 (constant S_ .f32 0x7F800000#32)) := rfl
  have e2 : (cmpf (F := Ideal) .olt (Host.absf a0) (broadcastInDim S1x32768x11 ![] bcast_S_S1x32768x11 (constant S_ .f32 0x7F800000#32))) (ix3 0 p i) = FloatOps.cmpf (F := Ideal) (φ := .f32) .olt (FloatOps.absf (a0 (ix3 0 p i))) (Ideal.ofBits .f32 0x7F800000#32) := by
    pointwise
  rw [← e2]
  exact congrFun (e.symm.trans h) (ix3 0 p i)

theorem part7 (h : (Cert.Pre_sorted_finite.fn (F := Ideal) a0 a1 a2 a3 a4 a5 a6 a7 a8 a9 a10 a11 a12 a13 a14 a15).2.2.2.2.2.2.2.1 = fun _ => 1#1) (p : Fin 128) (i : Fin 11) : FloatOps.cmpf (F := Ideal) (φ := .f32) .olt (FloatOps.absf (a4 (ix2 p i))) (Ideal.ofBits .f32 0x7F800000#32) = 1#1 := by
  have e : (Cert.Pre_sorted_finite.fn (F := Ideal) a0 a1 a2 a3 a4 a5 a6 a7 a8 a9 a10 a11 a12 a13 a14 a15).2.2.2.2.2.2.2.1 = cmpf (F := Ideal) .olt (Host.absf a4) (broadcastInDim S128x11 ![] bcast_S_S128x11 (constant S_ .f32 0x7F800000#32)) := rfl
  have e2 : (cmpf (F := Ideal) .olt (Host.absf a4) (broadcastInDim S128x11 ![] bcast_S_S128x11 (constant S_ .f32 0x7F800000#32))) (ix2 p i) = FloatOps.cmpf (F := Ideal) (φ := .f32) .olt (FloatOps.absf (a4 (ix2 p i))) (Ideal.ofBits .f32 0x7F800000#32) := by
    pointwise
  rw [← e2]
  exact congrFun (e.symm.trans h) (ix2 p i)

theorem part8 (h : (Cert.Pre_sorted_finite.fn (F := Ideal) a0 a1 a2 a3 a4 a5 a6 a7 a8 a9 a10 a11 a12 a13 a14 a15).2.2.2.2.2.2.2.2.1 = fun _ => 1#1) (p : Fin 256) (i : Fin 128) : FloatOps.cmpf (F := Ideal) (φ := .f32) .olt (FloatOps.absf (a6 (ix2 p i))) (Ideal.ofBits .f32 0x7F800000#32) = 1#1 := by
  have e : (Cert.Pre_sorted_finite.fn (F := Ideal) a0 a1 a2 a3 a4 a5 a6 a7 a8 a9 a10 a11 a12 a13 a14 a15).2.2.2.2.2.2.2.2.1 = cmpf (F := Ideal) .olt (Host.absf a6) (broadcastInDim S256x128 ![] bcast_S_S256x128 (constant S_ .f32 0x7F800000#32)) := rfl
  have e2 : (cmpf (F := Ideal) .olt (Host.absf a6) (broadcastInDim S256x128 ![] bcast_S_S256x128 (constant S_ .f32 0x7F800000#32))) (ix2 p i) = FloatOps.cmpf (F := Ideal) (φ := .f32) .olt (FloatOps.absf (a6 (ix2 p i))) (Ideal.ofBits .f32 0x7F800000#32) := by
    pointwise
  rw [← e2]
  exact congrFun (e.symm.trans h) (ix2 p i)

theorem part9 (h : (Cert.Pre_sorted_finite.fn (F := Ideal) a0 a1 a2 a3 a4 a5 a6 a7 a8 a9 a10 a11 a12 a13 a14 a15).2.2.2.2.2.2.2.2.2 = fun _ => 1#1) (p : Fin 512) (i : Fin 256) : FloatOps.cmpf (F := Ideal) (φ := .f32) .olt (FloatOps.absf (a8 (ix2 p ⟨256 + i.val, by omega⟩))) (Ideal.ofBits .f32 0x7F800000#32) = 1#1 := by
  have e : (Cert.Pre_sorted_finite.fn (F := Ideal) a0 a1 a2 a3 a4 a5 a6 a7 a8 a9 a10 a11 a12 a13 a14 a15).2.2.2.2.2.2.2.2.2 = cmpf (F := Ideal) .olt (Host.absf (extractStridedSlice S512x256 ![0, 256] a8 slices_S512x512_S512x256_0_256)) (broadcastInDim S512x256 ![] bcast_S_S512x256 (constant S_ .f32 0x7F800000#32)) := rfl
  have e2 : (cmpf (F := Ideal) .olt (Host.absf (extractStridedSlice S512x256 ![0, 256] a8 slices_S512x512_S512x256_0_256)) (broadcastInDim S512x256 ![] bcast_S_S512x256 (constant S_ .f32 0x7F800000#32))) (ix2 p i) = FloatOps.cmpf (F := Ideal) (φ := .f32) .olt (FloatOps.absf (a8 (ix2 p ⟨256 + i.val, by omega⟩))) (Ideal.ofBits .f32 0x7F800000#32) := by
    pointwise
  rw [← e2]
  exact congrFun (e.symm.trans h) (ix2 p i)

end

theorem inf_f32 : (Ideal.ofBits .f32 0x7F800000#32 : EReal) = ⊤ := by
  simp [Ideal.ofBits, Ideal.ieee]

/-- A number whose absolute value is below infinity is finite. -/
theorem finite_of (x : EReal) (h : FloatOps.cmpf (F := Ideal) (φ := .f32) .olt (FloatOps.absf (F := Ideal) (φ := .f32) x) (Ideal.ofBits .f32 0x7F800000#32) = 1#1) : x ≠ ⊤ ∧ x ≠ ⊥ := by
  rw [inf_f32] at h
  constructor
  · rintro rfl
    revert h
    simp [FloatOps.cmpf, FloatOps.absf, Ideal.cmp]
  · rintro rfl
    revert h
    simp [FloatOps.cmpf, FloatOps.absf, Ideal.cmp]

/-- Consecutive words that stay or step by one from zero, as numbers. -/
theorem steps (v : ℕ → BitVec 32) (h0 : v 0 = 0#32) (N : ℕ) (hN : N < 4294967295) (hs : ∀ p, p < N → v (p + 1) - v p = 0#32 ∨ v (p + 1) - v p = 1#32) :
    ∀ p, p ≤ N → (v p).toNat ≤ p ∧ (p < N → (v (p + 1)).toNat = (v p).toNat ∨ (v (p + 1)).toNat = (v p).toNat + 1) := by
  have one : ∀ p, p < N → (v p).toNat ≤ p → ((v (p + 1)).toNat = (v p).toNat ∨ (v (p + 1)).toNat = (v p).toNat + 1) := by
    intro p hp hle
    rcases hs p hp with e | e
    · left
      have : v (p + 1) = v p := by rw [BitVec.sub_eq_iff_eq_add] at e; rw [e]; simp
      rw [this]
    · right
      have : v (p + 1) = 1#32 + v p := by rw [BitVec.sub_eq_iff_eq_add] at e; exact e
      rw [this, BitVec.toNat_add]
      simp
      omega
  intro p
  induction p with
  | zero =>
    intro _
    have : (v 0).toNat ≤ 0 := by rw [h0]; simp
    exact ⟨this, fun h => one 0 h this⟩
  | succ p ih =>
    intro hp
    obtain ⟨i1, i2⟩ := ih (by omega)
    have : (v (p + 1)).toNat ≤ p + 1 := by
      rcases i2 (by omega) with e | e <;> omega
    exact ⟨this, fun h => one _ h this⟩

/-- The key function of an array of 32768 words. -/
def keyOf (a2 : IVec S1x32768 32) (p : ℕ) : ℕ := (a2 (ix2 0 ⟨min p 32767, by omega⟩)).toNat

theorem keyOf_word (a2 : IVec S1x32768 32) (p : Fin 32768) : a2 (ix2 0 p) = BitVec.ofNat 32 (keyOf a2 p.val) := by
  unfold keyOf
  rw [BitVec.ofNat_toNat, BitVec.setWidth_eq]
  exact congrArg (fun q => a2 (ix2 0 q)) (Fin.ext (by show p.val = min p.val 32767; omega))

/-- The segment numbers are sorted, start at 0, end at 511 and leave no gap. -/
theorem keys (a2 : IVec S1x32768 32) (h0 : IntOp.cmpi .eq (a2 (ix2 0 0)) 0#32 = 1#1) (h1 : IntOp.cmpi .eq (a2 (ix2 0 32767)) 511#32 = 1#1)
    (h2 : ∀ p : Fin 32767, IntOp.ori (IntOp.cmpi .eq (IntOp.subi (a2 (ix2 0 ⟨p.val + 1, by omega⟩)) (a2 (ix2 0 ⟨p.val, by omega⟩))) 0#32) (IntOp.cmpi .eq (IntOp.subi (a2 (ix2 0 ⟨p.val + 1, by omega⟩)) (a2 (ix2 0 ⟨p.val, by omega⟩))) 1#32) = 1#1) :
    Monotone (keyOf a2) ∧ (∀ p, keyOf a2 p < 512) ∧ ∀ s ≤ 511, ∃ p < 32768, keyOf a2 p = s := by
  have e0 : a2 (ix2 0 0) = 0#32 := by
    rw [eq_bit] at h0
    by_contra h
    simp [h] at h0
  have e1 : a2 (ix2 0 32767) = 511#32 := by
    rw [eq_bit] at h1
    by_contra h
    simp [h] at h1
  have hs := steps (fun p => a2 (ix2 0 ⟨min p 32767, by omega⟩)) e0 32767 (by norm_num) (fun p hp => by
    have h := h2 ⟨p, hp⟩
    rw [eq_bit, eq_bit] at h
    have q1 : (⟨min (p + 1) 32767, by omega⟩ : Fin 32768) = ⟨p + 1, by omega⟩ := Fin.ext (by show min (p + 1) 32767 = p + 1; omega)
    have q0 : (⟨min p 32767, by omega⟩ : Fin 32768) = ⟨p, by omega⟩ := Fin.ext (by show min p 32767 = p; omega)
    beta_reduce
    rw [q1, q0]
    by_contra hc
    rw [not_or] at hc
    have c1 : ¬ IntOp.subi (a2 (ix2 0 (⟨p + 1, by omega⟩ : Fin 32768))) (a2 (ix2 0 (⟨p, by omega⟩ : Fin 32768))) = 0#32 := hc.1
    have c2 : ¬ IntOp.subi (a2 (ix2 0 (⟨p + 1, by omega⟩ : Fin 32768))) (a2 (ix2 0 (⟨p, by omega⟩ : Fin 32768))) = 1#32 := hc.2
    rw [decide_eq_false c1, decide_eq_false c2] at h
    exact absurd h (by decide))
  have step : ∀ p, p < 32767 → keyOf a2 (p + 1) = keyOf a2 p ∨ keyOf a2 (p + 1) = keyOf a2 p + 1 := fun p hp => (hs p (by omega)).2 hp
  have top : ∀ p, 32767 ≤ p → keyOf a2 p = 511 := by
    intro p hp
    have q : (⟨min p 32767, by omega⟩ : Fin 32768) = 32767 := Fin.ext (by show min p 32767 = 32767; omega)
    unfold keyOf
    rw [q, e1]
    rfl
  have mono : Monotone (keyOf a2) := by
    refine monotone_nat_of_le_succ fun p => ?_
    by_cases hp : p < 32767
    · rcases step p hp with e | e <;> omega
    · rw [top p (by omega), top (p + 1) (by omega)]
  refine ⟨mono, fun p => ?_, ?_⟩
  · have h : keyOf a2 p ≤ keyOf a2 (max p 32767) := mono (le_max_left _ _)
    rw [top _ (le_max_right _ _)] at h
    omega
  · refine Cert.Seg.onto 32768 511 ?_ (top _ (by norm_num)) (by norm_num) fun p hp => ?_
    · show (a2 (ix2 0 0)).toNat = 0
      rw [e0]
      rfl
    · rcases step p (by omega) with e | e <;> omega

/-- The stage function of an array of 512 words. -/
def stageOf (a3 : IVec S1x512 32) (p : ℕ) : ℕ := (a3 (ix2 0 ⟨min p 511, by omega⟩)).toNat

theorem stageOf_word (a3 : IVec S1x512 32) (p : Fin 512) : a3 (ix2 0 p) = BitVec.ofNat 32 (stageOf a3 p.val) := by
  unfold stageOf
  rw [BitVec.ofNat_toNat, BitVec.setWidth_eq]
  exact congrArg (fun q => a3 (ix2 0 q)) (Fin.ext (by show p.val = min p.val 511; omega))

theorem sle_iff (a b : BitVec 32) (h : IntOp.cmpi .sle a b = 1#1) : a.toInt ≤ b.toInt := by
  have h' : BitVec.ofBool (a.sle b) = 1#1 := h
  rw [BitVec.sle] at h'
  by_contra hc
  simp [hc] at h'
theorem slt_iff (a b : BitVec 32) (h : IntOp.cmpi .slt a b = 1#1) : a.toInt < b.toInt := by
  have h' : BitVec.ofBool (a.slt b) = 1#1 := h
  rw [BitVec.slt] at h'
  by_contra hc
  simp [hc] at h'
theorem sge_iff (a b : BitVec 32) (h : IntOp.cmpi .sge a b = 1#1) : b.toInt ≤ a.toInt := sle_iff b a h

/-- The stages are sorted and below 32. -/
theorem stages (a3 : IVec S1x512 32) (h0 : IntOp.cmpi .sge (a3 (ix2 0 0)) 0#32 = 1#1) (h1 : IntOp.cmpi .slt (a3 (ix2 0 511)) 32#32 = 1#1)
    (h2 : ∀ p : Fin 511, IntOp.cmpi .sle (a3 (ix2 0 ⟨p.val, by omega⟩)) (a3 (ix2 0 ⟨p.val + 1, by omega⟩)) = 1#1) :
    Monotone (stageOf a3) ∧ ∀ p, stageOf a3 p < 32 := by
  have i0 := sge_iff _ _ h0
  have i1 := slt_iff _ _ h1
  rw [show (0#32 : BitVec 32).toInt = 0 from rfl] at i0
  rw [show (32#32 : BitVec 32).toInt = 32 from rfl] at i1
  let w : ℕ → ℤ := fun p => (a3 (ix2 0 ⟨min p 511, by omega⟩)).toInt
  have wm : Monotone w := by
    refine monotone_nat_of_le_succ fun p => ?_
    by_cases hp : p < 511
    · have q1 : (⟨min (p + 1) 511, by omega⟩ : Fin 512) = ⟨p + 1, by omega⟩ := Fin.ext (by show min (p + 1) 511 = p + 1; omega)
      have q0 : (⟨min p 511, by omega⟩ : Fin 512) = ⟨p, by omega⟩ := Fin.ext (by show min p 511 = p; omega)
      show (a3 (ix2 0 ⟨min p 511, by omega⟩)).toInt ≤ (a3 (ix2 0 ⟨min (p + 1) 511, by omega⟩)).toInt
      rw [q1, q0]
      exact sle_iff _ _ (h2 ⟨p, hp⟩)
    · have q : (⟨min (p + 1) 511, by omega⟩ : Fin 512) = ⟨min p 511, by omega⟩ := Fin.ext (by show min (p + 1) 511 = min p 511; omega)
      show (a3 (ix2 0 ⟨min p 511, by omega⟩)).toInt ≤ (a3 (ix2 0 ⟨min (p + 1) 511, by omega⟩)).toInt
      rw [q]
  have w0 : ∀ p, 0 ≤ w p := fun p => le_trans (show (0 : ℤ) ≤ w 0 from i0) (wm (Nat.zero_le p))
  have w1 : ∀ p, w p < 32 := fun p => by
    refine lt_of_le_of_lt (wm (le_max_left p 511)) ?_
    have q : (⟨min (max p 511) 511, by omega⟩ : Fin 512) = 511 := Fin.ext (by show min (max p 511) 511 = 511; omega)
    show (a3 (ix2 0 ⟨min (max p 511) 511, by omega⟩)).toInt < 32
    rw [q]
    exact i1
  have e : ∀ p, (stageOf a3 p : ℤ) = w p := fun p => by
    have h := w0 p
    have h' : w p = if 2 * (a3 (ix2 0 ⟨min p 511, by omega⟩)).toNat < 2 ^ 32 then ((a3 (ix2 0 ⟨min p 511, by omega⟩)).toNat : ℤ) else ((a3 (ix2 0 ⟨min p 511, by omega⟩)).toNat : ℤ) - (2 ^ 32 : ℕ) :=
      BitVec.toInt_eq_toNat_cond _
    have hl := (a3 (ix2 0 ⟨min p 511, by omega⟩)).isLt
    unfold stageOf
    rw [h'] at h ⊢
    split_ifs at h ⊢ with hc
    · rfl
    · exfalso
      push_cast at h
      omega
  refine ⟨fun p q hpq => ?_, fun p => ?_⟩
  · have := wm hpq
    rw [← e, ← e] at this
    exact_mod_cast this
  · have := w1 p
    rw [← e] at this
    exact_mod_cast this

end Cert.PreRead

end
-- ==== Proof.Lin.lean ====
/- The linear algebra behind the fused weights: what distributes over finite numbers when the biases may be infinite. -/
module

public import Idealize.ShloMosaic.Lib.Pointwise

@[expose] public section

noncomputable section

namespace Cert.Lin

/-- Neither of the infinities. -/
def Fine (x : EReal) : Prop := x ≠ ⊤ ∧ x ≠ ⊥

theorem fine_coe (r : ℝ) : Fine (r : EReal) := ⟨EReal.coe_ne_top r, EReal.coe_ne_bot r⟩

theorem lift_fine {I : Type} (x : I → EReal) (hx : ∀ i, Fine (x i)) : ∃ r : I → ℝ, x = fun i => (r i : EReal) :=
  ⟨fun i => (x i).toReal, funext fun i => (EReal.coe_toReal (hx i).1 (hx i).2).symm⟩

theorem coe_sum {I : Type} [Fintype I] (f : I → ℝ) : ((∑ i, f i : ℝ) : EReal) = ∑ i, (f i : EReal) := by
  classical
  induction (Finset.univ : Finset I) using Finset.induction_on with
  | empty => simp
  | insert a s ha ih => rw [Finset.sum_insert ha, Finset.sum_insert ha, EReal.coe_add, ih]

/-- A finite factor distributes over a sum one side of which is finite. -/
theorem add_mul_fine (r t : ℝ) (c : EReal) : ((r : EReal) + c) * t = (r : EReal) * t + c * t := by
  rw [← EReal.coe_mul]
  induction c with
  | bot =>
    rcases lt_trichotomy t 0 with h | h | h
    · rw [EReal.add_bot, EReal.bot_mul_coe_of_neg h, EReal.coe_add_top]
    · subst h; simp
    · rw [EReal.add_bot, EReal.bot_mul_coe_of_pos h, EReal.add_bot]
  | coe c => rw [← EReal.coe_add, ← EReal.coe_mul, ← EReal.coe_mul, ← EReal.coe_add, add_mul]
  | top =>
    rcases lt_trichotomy t 0 with h | h | h
    · rw [EReal.coe_add_top, EReal.top_mul_coe_of_neg h, EReal.add_bot]
    · subst h; simp
    · rw [EReal.coe_add_top, EReal.top_mul_coe_of_pos h, EReal.coe_add_top]

theorem dist {I J : Type} [Fintype I] [Fintype J] (x : I → EReal) (w : J → I → EReal) (c : J → EReal) (t : J → EReal)
    (hx : ∀ i, Fine (x i)) (hw : ∀ j i, Fine (w j i)) (ht : ∀ j, Fine (t j)) :
    (∑ j, ((∑ i, x i * w j i) + c j) * t j) = (∑ i, x i * ∑ j, w j i * t j) + ∑ j, c j * t j := by
  obtain ⟨x, rfl⟩ := lift_fine x hx
  obtain ⟨t, rfl⟩ := lift_fine t ht
  obtain ⟨w', hw'⟩ := lift_fine (fun p : J × I => w p.1 p.2) (fun p => hw p.1 p.2)
  have hwe : ∀ j i, w j i = ((w' (j, i) : ℝ) : EReal) := fun j i => congrFun hw' (j, i)
  simp only [hwe]
  have e1 : ∀ j, (∑ i, (x i : EReal) * (w' (j, i) : EReal)) = ((∑ i, x i * w' (j, i) : ℝ) : EReal) := fun j => by
    rw [coe_sum]
    exact Finset.sum_congr rfl fun i _ => (EReal.coe_mul _ _).symm
  have e2 : ∀ i, (x i : EReal) * (∑ j, (w' (j, i) : EReal) * (t j : EReal)) = ((x i * ∑ j, w' (j, i) * t j : ℝ) : EReal) := fun i => by
    rw [EReal.coe_mul, coe_sum]
    exact congrArg _ (Finset.sum_congr rfl fun j _ => (EReal.coe_mul _ _).symm)
  simp only [e1, e2, add_mul_fine]
  rw [Finset.sum_add_distrib]
  congr 1
  simp only [← EReal.coe_mul]
  rw [← coe_sum, ← coe_sum]
  congr 1
  simp only [Finset.sum_mul, Finset.mul_sum]
  rw [Finset.sum_comm]
  exact Finset.sum_congr rfl fun i _ => Finset.sum_congr rfl fun j _ => mul_assoc _ _ _

theorem fine_sum {J : Type} [Fintype J] (a b : J → EReal) (ha : ∀ j, Fine (a j)) (hb : ∀ j, Fine (b j)) : Fine (∑ j, a j * b j) := by
  obtain ⟨a, rfl⟩ := lift_fine a ha
  obtain ⟨b, rfl⟩ := lift_fine b hb
  have e : (∑ j, (a j : EReal) * (b j : EReal)) = ((∑ j, a j * b j : ℝ) : EReal) := by
    rw [coe_sum]
    exact Finset.sum_congr rfl fun j _ => (EReal.coe_mul _ _).symm
  rw [e]
  exact fine_coe _

/-- The two layers of the first map against the fused one. -/
theorem first {I J : Type} [Fintype I] [Fintype J] (x : I → EReal) (wa : J → I → EReal) (ba wb : J → EReal) (bb : EReal)
    (hx : ∀ i, Fine (x i)) (ha : ∀ j i, Fine (wa j i)) (hb : ∀ j, Fine (wb j)) :
    (∑ i, x i * ∑ j, wb j * wa j i) + ((∑ j, wb j * ba j) + bb) = (∑ j, ((∑ i, x i * wa j i) + ba j) * wb j) + bb := by
  rw [dist x wa ba wb hx ha hb, ← add_assoc]
  simp only [mul_comm (wb _)]

/-- A sum over two halves. -/
theorem halves (g h : Fin 256 → EReal) (w : Fin 512 → EReal) :
    (∑ i : Fin 512, (if hi : i.val < 256 then g ⟨i.val, hi⟩ else h ⟨i.val - 256, by omega⟩) * w i)
      = (∑ l : Fin 256, g l * w ⟨l.val, by omega⟩) + ∑ l : Fin 256, h l * w ⟨256 + l.val, by omega⟩ := by
  have e := Fin.sum_univ_add (a := 256) (b := 256) (fun i : Fin (256 + 256) => (if hi : i.val < 256 then g ⟨i.val, hi⟩ else h ⟨i.val - 256, by omega⟩) * w i)
  refine e.trans (congrArg₂ (· + ·) (Finset.sum_congr rfl fun l _ => ?_) (Finset.sum_congr rfl fun l _ => ?_))
  · have q : (Fin.castAdd 256 l).val < 256 := l.isLt
    rw [dif_pos q]
    rfl
  · have q : ¬ (Fin.natAdd 256 l).val < 256 := by show ¬ (256 + l.val < 256); omega
    rw [dif_neg q]
    exact congrArg₂ (· * ·) (congrArg h (Fin.ext (by show 256 + l.val - 256 = l.val; omega))) rfl

/-- The first layer of the second map against the fused one. -/
theorem second {I : Type} [Fintype I] (x : I → EReal) (wct : Fin 256 → I → EReal) (bc g h : Fin 256 → EReal) (w : Fin 512 → EReal) (b : EReal)
    (hx : ∀ i, Fine (x i)) (hc : ∀ l i, Fine (wct l i)) (hw : ∀ l : Fin 256, Fine (w ⟨256 + l.val, by omega⟩))
    (hh : ∀ l, h l = (∑ i, x i * wct l i) + bc l) :
    (∑ i, x i * ∑ l : Fin 256, wct l i * w ⟨256 + l.val, by omega⟩)
        + ((∑ l : Fin 256, g l * w ⟨l.val, by omega⟩) + ((∑ l : Fin 256, bc l * w ⟨256 + l.val, by omega⟩) + b))
      = (∑ i : Fin 512, (if hi : i.val < 256 then g ⟨i.val, hi⟩ else h ⟨i.val - 256, by omega⟩) * w i) + b := by
  rw [halves]
  simp only [hh]
  rw [dist x wct bc (fun l => w ⟨256 + l.val, by omega⟩) hx hc hw, ← add_assoc, ← add_assoc]
  exact congrArg (· + b) (by rw [add_comm (∑ i, x i * _), add_assoc])

end Cert.Lin

end
-- ==== Proof.Rows.lean ====
/- The rows both sweeps run over, against the reference's rows. -/
module

public import proofs.«01_k».proof.Proof.HostArrays
public import proofs.«01_k».proof.Proof.RefRead
public import proofs.«01_k».proof.Proof.PreRead
public import proofs.«01_k».proof.Proof.Lin

@[expose] public section

set_option maxRecDepth 16384

noncomputable section

namespace Cert.KernelIdeal.Gen

open Idealize.ShloMosaic Idealize.ShloMosaic.TcCoe
open Cert.PreRead (keyOf stageOf)
open Cert.Lin (Fine)

variable (m : (ℓ : Loc nD τ sig) → Buf (Elt Ideal) ℓ) (c : Dev nD)

/-- The segment number of a place. -/
abbrev kKey : ℕ → ℕ := keyOf (aS10 m c)
/-- The stage of a token. -/
abbrev kSt : ℕ → ℕ := stageOf (aS21 m c)

/-- What is used of the arguments. -/
structure Good : Prop where
  mono : Monotone (kKey m c)
  lt : ∀ p, kKey m c p < 512
  onto : ∀ s ≤ 511, ∃ p < 32768, kKey m c p = s
  smono : Monotone (kSt m c)
  slt : ∀ p, kSt m c p < 32
  fx : ∀ (p : Fin 32768) (i : Fin 11), Fine (aX m c (ix3 0 p i))
  fa : ∀ (j : Fin 128) (i : Fin 11), Fine (aW1a m c (ix2 j i))
  fb : ∀ (l : Fin 256) (j : Fin 128), Fine (aW1b m c (ix2 l j))
  fw : ∀ (x : Fin 512) (l : Fin 256), Fine (aW2a m c (ix2 x ⟨256 + l.val, by omega⟩))

/-! ## The reference's arrays, of the kernel's arguments -/

abbrev kIds : IVec Cert.ReferenceIdeal.S32768 32 := shapeCast Cert.ReferenceIdeal.S32768 (aS10 m c) Cert.ReferenceIdeal.Gen.shapeCasts_S1x32768_S32768
abbrev kS : IVec S512 32 := shapeCast S512 (aS21 m c) Cert.ReferenceIdeal.Gen.shapeCasts_S1x512_S512
def kH : FVec Ideal Cert.ReferenceIdeal.S32768x256 .f32 := Cert.ReferenceIdeal.Value.rH (aX m c) (aW1a m c) (aB1a m c) (aW1b m c) (aB1b m c)
def kG : FVec Ideal S512x256 .f32 := Cert.ReferenceIdeal.Value.rSeg256 (kIds m c) (kH m c)
def kU : FVec Ideal Cert.ReferenceIdeal.S32768x384 .f32 := Cert.ReferenceIdeal.Value.rU (Cert.ReferenceIdeal.Value.rG (kIds m c) (kG m c)) (kH m c) (aW2a m c) (aB2a m c) (aW2b m c) (aB2b m c)
def kPos : FVec Ideal S512x384 .f32 := Cert.ReferenceIdeal.Value.rPos (Cert.ReferenceIdeal.Value.rGelu (Cert.ReferenceIdeal.Value.rZ (aCo m c) (aWp1 m c) (aBp1 m c))) (aWp2 m c) (aBp2 m c)

/-- A column of the first rows, by place. -/
def hf (l : Fin 256) (p : ℕ) : EReal := kH m c (ix2 (⟨min p 32767, by omega⟩ : Fin 32768) l)
/-- A column of the second rows, by place. -/
def uf (l : Fin 384) (p : ℕ) : EReal := kU m c (ix2 (⟨min p 32767, by omega⟩ : Fin 32768) l)
/-- A segment's maxima, projected. -/
def kGs (s : Fin 512) (x : Fin 512) : EReal := (∑ i : Fin 256, kG m c (ix2 s i) * hAt m c (ix2 i x)) + hB2af m c (ix2 0 x)

theorem min_place (p : Fin 32768) : (⟨min p.val 32767, by omega⟩ : Fin 32768) = p := Fin.ext (by show min p.val 32767 = p.val; omega)

theorem hf_at (l : Fin 256) (p : Fin 32768) : hf m c l p.val = kH m c (ix2 p l) := by
  unfold hf
  rw [min_place]
theorem uf_at (l : Fin 384) (p : Fin 32768) : uf m c l p.val = kU m c (ix2 p l) := by
  unfold uf
  rw [min_place]

theorem kIds_at (p : Fin 32768) : kIds m c (ix1 p) = BitVec.ofNat 32 (kKey m c p.val) := by
  have e : kIds m c (ix1 p) = aS10 m c (ix2 0 p) := by
    unfold kIds
    pointwise
  rw [e]
  exact Cert.PreRead.keyOf_word _ p
theorem kS_at (p : Fin 512) : kS m c (ix1 p) = BitVec.ofNat 32 (kSt m c p.val) := by
  have e : kS m c (ix1 p) = aS21 m c (ix2 0 p) := by
    unfold kS
    pointwise
  rw [e]
  exact Cert.PreRead.stageOf_word _ p

/-! ## The identifier columns of a block -/

/-- The place a row of a block stands at. -/
def pl (t : Fin cfg0.N) (r : Fin 1024) : Fin 32768 := ⟨t.val % 32 * 1024 + r.val, by have := r.isLt; have := Nat.mod_lt t.val (show 0 < 32 by norm_num); omega⟩

theorem ids_at (t : Fin cfg0.N) : IdsAt (kKey m c) (t.val % 32 * 1024) (iblk m c 1 t) := by
  intro r
  refine (iblk1_at m c t r 0 (pl t r) rfl).trans ?_
  rw [V_main_v25, hIds_at]
  exact Cert.PreRead.keyOf_word _ (pl t r)

theorem next_at (t : Fin cfg0.N) : NextAt (kKey m c) (t.val % 32 * 1024) (iblk m c 2 t) := by
  intro r
  refine (iblk2_at m c t r 0 (pl t r) rfl).trans ?_
  rw [V_main_v29, hIdn_at]
  have hp : (pl t r).val = t.val % 32 * 1024 + r.val := rfl
  by_cases h : t.val % 32 * 1024 + r.val + 1 = 32768
  · rw [if_pos h, dif_neg (by omega)]
  · have hl := (pl t r).isLt
    rw [if_neg h, dif_pos (by omega)]
    exact Cert.PreRead.keyOf_word _ ⟨(pl t r).val + 1, by omega⟩

/-! ## The rows -/

variable {m c} (G : Good m c)
include G

/-- The fused first map is the reference's two layers. -/
theorem H_at (p : Fin 32768) (l : Fin 256) : (∑ i : Fin 11, aX m c (ix3 0 p i) * hWct m c (ix2 i l)) + hBc m c (ix2 0 l) = kH m c (ix2 p l) := by
  unfold kH
  rw [Cert.ReferenceIdeal.Value.rH_at, hBc_at]
  simp only [hWct_at]
  exact Cert.Lin.first (fun i : Fin 11 => aX m c (ix3 0 p i)) (fun (j : Fin 128) i => aW1a m c (ix2 j i)) (fun j => aB1a m c (ix1 j)) (fun j => aW1b m c (ix2 l j)) _
    (G.fx p) G.fa (G.fb l)

theorem wct_fine (i : Fin 11) (l : Fin 256) : Fine (hWct m c (ix2 i l)) := by
  rw [hWct_at]
  exact Cert.Lin.fine_sum (fun j : Fin 128 => aW1b m c (ix2 l j)) (fun j => aW1a m c (ix2 j i)) (G.fb l) (fun j => G.fa j i)

/-- The fused second map is the reference's. -/
theorem U_at (p : Fin 32768) (l : Fin 384) :
    (∑ x : Fin 512, max ((∑ i : Fin 11, aX m c (ix3 0 p i) * hWf m c (ix2 i x)) + kGs m c ⟨kKey m c p.val, G.lt _⟩ x) 0 * hW2bt m c (ix2 x l)) + hB2b m c (ix2 0 l) = kU m c (ix2 p l) := by
  unfold kU
  rw [Cert.ReferenceIdeal.Value.rU_at, hB2b_at]
  refine congrArg (· + aB2b m c (ix1 l)) (Finset.sum_congr rfl fun x _ => ?_)
  rw [hW2bt_at]
  refine congrArg (fun z => max z 0 * aW2b m c (ix2 l x)) ?_
  unfold kGs
  simp only [Cert.ReferenceIdeal.Value.rG_at G.lt (kIds m c) (kIds_at m c)]
  rw [hB2af_at]
  simp only [hWf_at, hBt_at, hAt_at]
  exact Cert.Lin.second (fun i : Fin 11 => aX m c (ix3 0 p i)) (fun l i => hWct m c (ix2 i l)) (fun l => hBc m c (ix2 0 l))
    (fun l => kG m c (ix2 ⟨kKey m c p.val, G.lt _⟩ l)) (fun l => kH m c (ix2 p l)) (fun i => aW2a m c (ix2 x i)) (aB2a m c (ix1 x))
    (G.fx p) (fun l i => wct_fine G i l) (G.fw x) (fun l => (H_at G p l).symm)

theorem lin1_val (t : Fin cfg0.N) (r : Fin 1024) (l : Fin 256) :
    lin1 (iblk m c 0 t) (iblk m c 3 t) (iblk m c 4 t) (ix2 r l) = hf m c l (t.val % 32 * 1024 + r.val) := by
  have e := lin1_at (iblk m c 0 t) (iblk m c 3 t) (iblk m c 4 t) r l
  refine e.trans ?_
  have e0 : ∀ i : Fin 11, iblk m c 0 t (ix2 r i) = aX m c (ix3 0 (pl t r) i) := fun i => by
    refine (iblk0_at m c t r i (pl t r) rfl).trans ?_
    rw [V_main_v0, hX_at]
  refine Eq.trans ?_ ((H_at G (pl t r) l).trans (hf_at m c l (pl t r)).symm)
  refine congrArg₂ (· + ·) (Finset.sum_congr rfl fun i _ => congrArg₂ (· * ·) (e0 i) ?_) ?_
  · rw [iblk3_eq, V_main_v5]
  · rw [iblk4_eq, V_main_v8]

theorem lin2_val (t : Fin cfg0.N) (y1 : Vec Ideal S512x512 .bf16) (hy : ∀ s x : Fin 512, y1 (ix2 s x) = kGs m c s x) (r : Fin 1024) (l : Fin 384) :
    lin2 (iblk m c 0 t) (iblk m c 1 t) (iblk m c 5 t) (iblk m c 8 t) (iblk m c 9 t) y1 (ix2 r l) = uf m c l (t.val % 32 * 1024 + r.val) := by
  have e := lin2_at G.lt (iblk m c 0 t) (iblk m c 1 t) (iblk m c 5 t) (iblk m c 8 t) (iblk m c 9 t) y1 (ids_at m c t) r l
  refine e.trans ?_
  have e0 : ∀ i : Fin 11, iblk m c 0 t (ix2 r i) = aX m c (ix3 0 (pl t r) i) := fun i => by
    refine (iblk0_at m c t r i (pl t r) rfl).trans ?_
    rw [V_main_v0, hX_at]
  refine Eq.trans ?_ ((U_at G (pl t r) l).trans (uf_at m c l (pl t r)).symm)
  refine congrArg₂ (· + ·) (Finset.sum_congr rfl fun x _ => congrArg₂ (· * ·) (congrArg (fun z => max z 0) (congrArg₂ (· + ·) (Finset.sum_congr rfl fun i _ => congrArg₂ (· * ·) (e0 i) ?_) ?_)) ?_) ?_
  · rw [iblk5_eq, V_main_v14]
  · exact hy _ x
  · rw [iblk8_eq, V_main_v19]
  · rw [iblk9_eq, V_main_v20]

/-- The first sweep's rows after a block. -/
theorem fix1_val (t : Fin cfg0.N) (y3 : Vec Ideal S8x512 .bf16) (y4 : Vec Ideal S8x128 .i32) (l : Fin 256)
    (hc : CarryAt (kKey m c) (t.val % 32 * 1024) (cidOf (F := Ideal) y4 (ix2 0 0)))
    (hrow : 0 < t.val % 32 * 1024 → crow256 y3 (ix2 0 l) = Cert.Seg.upto (kKey m c) (hf m c l) (t.val % 32 * 1024 - 1)) (r : Fin 1024) :
    fix1 (iblk m c 0 t) (iblk m c 1 t) (iblk m c 3 t) (iblk m c 4 t) y3 y4 (ix2 r l) = Cert.Seg.upto (kKey m c) (hf m c l) (t.val % 32 * 1024 + r.val) := by
  have e := fix1_eq (F := Ideal) (iblk m c 0 t) (iblk m c 1 t) (iblk m c 3 t) (iblk m c 4 t) y3 y4
  rw [e]
  exact carry256_upto G.lt G.mono (iblk m c 1 t) _ _ _ (ids_at m c t) (hf m c l) l
    (scan256_loc G.lt G.mono (iblk m c 1 t) _ (ids_at m c t) (hf m c l) l (fun r => lin1_val G t r l)) hc hrow r

/-- The second sweep's rows after a block. -/
theorem fix2_val (t : Fin cfg0.N) (y1 : Vec Ideal S512x512 .bf16) (hy : ∀ s x : Fin 512, y1 (ix2 s x) = kGs m c s x) (y3 : Vec Ideal S8x512 .bf16) (y4 : Vec Ideal S8x128 .i32) (l : Fin 384)
    (hc : CarryAt (kKey m c) (t.val % 32 * 1024) (cidOf (F := Ideal) y4 (ix2 0 0)))
    (hrow : 0 < t.val % 32 * 1024 → crow384 y3 (ix2 0 l) = Cert.Seg.upto (kKey m c) (uf m c l) (t.val % 32 * 1024 - 1)) (r : Fin 1024) :
    fix2 (iblk m c 0 t) (iblk m c 1 t) (iblk m c 5 t) (iblk m c 8 t) (iblk m c 9 t) y1 y3 y4 (ix2 r l) = Cert.Seg.upto (kKey m c) (uf m c l) (t.val % 32 * 1024 + r.val) := by
  unfold fix2

  exact carry384_upto G.lt G.mono (iblk m c 1 t) _ _ _ (ids_at m c t) (uf m c l) l
    (scan384_loc G.lt G.mono (iblk m c 1 t) _ (ids_at m c t) (uf m c l) l (fun r => lin2_val G t y1 hy r l)) hc hrow r

end Cert.KernelIdeal.Gen

end
-- ==== Proof.Tail.lean ====
/- The one-hot rows of the eight output chunks read at an index, and each output at an index. -/
module
public import proofs.«01_k».proof.Proof.Stage
@[expose] public section
set_option maxRecDepth 16384
noncomputable section
namespace Cert.KernelIdeal.Gen
open Idealize.ShloMosaic

/-- A place's stage: the quotient by 64, rounded down, as the kernel spells it. -/
def quoW (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

/-- A place within its stage: the remainder by 64, as the kernel spells it. -/
def remW (w : BitVec 32) : BitVec 32 :=
  Scalar.select
    (IntOp.andi
      (IntOp.xori
        (IntOp.cmpi CmpIPredicate.slt (IntOp.remsi ArithUnit.vector w (Scalar.select (Scalar.cmpi CmpIPredicate.eq 64#32 0#32) 1#32 64#32)) 0#32)
        (Scalar.cmpi CmpIPredicate.slt (Scalar.select (Scalar.cmpi CmpIPredicate.eq 64#32 0#32) 1#32 64#32) 0#32))
      (IntOp.cmpi CmpIPredicate.ne (IntOp.remsi ArithUnit.vector w (Scalar.select (Scalar.cmpi CmpIPredicate.eq 64#32 0#32) 1#32 64#32)) 0#32))
    (IntOp.addi (IntOp.remsi ArithUnit.vector w (Scalar.select (Scalar.cmpi CmpIPredicate.eq 64#32 0#32) 1#32 64#32)) (Scalar.select (Scalar.cmpi CmpIPredicate.eq 64#32 0#32) 1#32 64#32))
    (IntOp.remsi ArithUnit.vector w (Scalar.select (Scalar.cmpi CmpIPredicate.eq 64#32 0#32) 1#32 64#32))

/-- The entry of a table of 32 words at the word `q`. -/
def atW (q : BitVec 32) (f : Fin 32 → BitVec 32) : BitVec 32 :=
  Finset.fold IntOp.addi 0#32 (fun x : Fin 32 => Scalar.select (IntOp.cmpi CmpIPredicate.eq q (BitVec.ofNat 32 x.val)) (f x) 0#32) Finset.univ

/-- Whether token `s` stands at the place `w`. -/
def ohW (f g : Fin 32 → BitVec 32) (w : BitVec 32) (s : Fin 512) : EReal :=
  (FloatOps.sitofp .f32 (BitVec.setWidth 32 (IntOp.andi
    (IntOp.cmpi CmpIPredicate.eq (IntOp.addi (atW (quoW w) f) (remW w)) (BitVec.ofNat 32 s.val))
    (IntOp.cmpi CmpIPredicate.slt (IntOp.addi (atW (quoW w) f) (remW w)) (atW (quoW w) g)))) : Ideal .f32)

theorem quoW_at : ∀ d : Fin 2048, quoW (BitVec.ofNat 32 d.val) = BitVec.ofNat 32 (d.val / 64) := by decide +kernel
theorem remW_at : ∀ d : Fin 2048, remW (BitVec.ofNat 32 d.val) = BitVec.ofNat 32 (d.val % 64) := by decide +kernel

/-- The places' numbers of a chunk, as words. -/
def placesV (base : BitVec 32) : IVec S256x1 32 := addi (iota .tc S256x1 32 [0] iota_S256x1_d0_w32) (broadcast S256x1 base)

/-- The quotients of a chunk's places. -/
def quoV (w : IVec S256x1 32) : IVec S256x1 32 :=
  select
    (andi
      (cmpi .ne (subi (extui 32 (cmpi .sgt w (broadcast S256x1 0#32)) natLt_1_32) (extui 32 (cmpi .slt w (broadcast S256x1 0#32)) natLt_1_32))
        (broadcast S256x1 (Scalar.subi (Scalar.extui (Scalar.cmpi .sgt 64#32 0#32)) (Scalar.extui (Scalar.cmpi .slt 64#32 0#32)))))
      (cmpi .ne (remsi w (broadcast S256x1 64#32)) (broadcast S256x1 0#32)))
    (subi (divsi w (broadcast S256x1 64#32)) (broadcast S256x1 1#32))
    (divsi w (broadcast S256x1 64#32))

/-- The remainders of a chunk's places. -/
def remV (w : IVec S256x1 32) : IVec S256x1 32 :=
  select
    (andi
      (xori (cmpi .slt (remsi w (broadcast S256x1 (Scalar.select (Scalar.cmpi .eq 64#32 0#32) 1#32 64#32))) (broadcast S256x1 0#32))
        (broadcastTo S256x1 (broadcast S256x1 (Scalar.cmpi .slt (Scalar.select (Scalar.cmpi .eq 64#32 0#32) 1#32 64#32) 0#32)) broadcasts_S256x1_S256x1))
      (cmpi .ne (remsi w (broadcast S256x1 (Scalar.select (Scalar.cmpi .eq 64#32 0#32) 1#32 64#32))) (broadcast S256x1 0#32)))
    (addi (remsi w (broadcast S256x1 (Scalar.select (Scalar.cmpi .eq 64#32 0#32) 1#32 64#32))) (broadcast S256x1 (Scalar.select (Scalar.cmpi .eq 64#32 0#32) 1#32 64#32)))
    (remsi w (broadcast S256x1 (Scalar.select (Scalar.cmpi .eq 64#32 0#32) 1#32 64#32)))

/-- A table's entries at a chunk's stages. -/
def tabV (q : IVec S256x1 32) (v : IVec S1x32 32) : IVec S256x1 32 :=
  shapeCast S256x1 (multiReductionI .add [1] S256
    (select (cmpi .eq (broadcastTo S256x32 q broadcasts_S256x1_S256x32) (iota .tc S256x32 32 [1] iota_S256x32_d1_w32))
      (broadcastTo S256x32 (shapeCast S1x32 v shapeCasts_S1x32_S1x32) broadcasts_S1x32_S256x32) (broadcast S256x32 0#32)) 0#32 reduces_S256x32_S256 rfl) shapeCasts_S256_S256x1

/-- A chunk's one-hot rows. -/
def ohV (v47 v52 : IVec S1x32 32) (w : IVec S256x1 32) : FVec Ideal S256x512 .bf16 :=
  truncf .bf16 (sitofp (F := Ideal) .f32 (extui 32 (andi
    (cmpi .eq (broadcastTo S256x512 (addi (tabV (quoV w) v47) (remV w)) broadcasts_S256x1_S256x512) (iota .tc S256x512 32 [1] iota_S256x512_d1_w32))
    (broadcastTo S256x512 (cmpi .slt (addi (tabV (quoV w) v47) (remV w)) (tabV (quoV w) v52)) broadcasts_S256x1_S256x512)) natLt_1_32)) bitsLt_bf16_f32

theorem ohV_at (v47 v52 : IVec S1x32 32) (base : BitVec 32) (r : Fin 256) (s : Fin 512) :
    ohV v47 v52 (placesV base) (ix2 r s) = ohW (fun b => v47 (ix2 0 b)) (fun b => v52 (ix2 0 b)) (IntOp.addi (BitVec.ofNat 32 r.val) base) s := by
  unfold ohV tabV quoV remV placesV
  pointwise
  rfl

theorem oh0_at (x : Vec Ideal S512x1 .i32) (r : Fin 256) (s : Fin 512) :
    (oh0 (F := Ideal) x (ix2 r s)) = ohW (fun b => k0_pay43 (F := Ideal) x (ix2 0 b)) (fun b => k0_pay44 (F := Ideal) x (ix2 0 b)) (IntOp.addi (BitVec.ofNat 32 r.val) 0#32) s := by
  have e : oh0 (F := Ideal) x = ohV (k0_pay43 (F := Ideal) x) (k0_pay44 (F := Ideal) x) (placesV 0#32) := rfl
  rw [e, ohV_at]

theorem oh1_at (x : Vec Ideal S512x1 .i32) (r : Fin 256) (s : Fin 512) :
    (oh1 (F := Ideal) x (ix2 r s)) = ohW (fun b => k0_pay43 (F := Ideal) x (ix2 0 b)) (fun b => k0_pay44 (F := Ideal) x (ix2 0 b)) (IntOp.addi (BitVec.ofNat 32 r.val) 256#32) s := by
  have e : oh1 (F := Ideal) x = ohV (k0_pay43 (F := Ideal) x) (k0_pay44 (F := Ideal) x) (placesV 256#32) := rfl
  rw [e, ohV_at]

theorem oh2_at (x : Vec Ideal S512x1 .i32) (r : Fin 256) (s : Fin 512) :
    (oh2 (F := Ideal) x (ix2 r s)) = ohW (fun b => k0_pay43 (F := Ideal) x (ix2 0 b)) (fun b => k0_pay44 (F := Ideal) x (ix2 0 b)) (IntOp.addi (BitVec.ofNat 32 r.val) 512#32) s := by
  have e : oh2 (F := Ideal) x = ohV (k0_pay43 (F := Ideal) x) (k0_pay44 (F := Ideal) x) (placesV 512#32) := rfl
  rw [e, ohV_at]

theorem oh3_at (x : Vec Ideal S512x1 .i32) (r : Fin 256) (s : Fin 512) :
    (oh3 (F := Ideal) x (ix2 r s)) = ohW (fun b => k0_pay43 (F := Ideal) x (ix2 0 b)) (fun b => k0_pay44 (F := Ideal) x (ix2 0 b)) (IntOp.addi (BitVec.ofNat 32 r.val) 768#32) s := by
  have e : oh3 (F := Ideal) x = ohV (k0_pay43 (F := Ideal) x) (k0_pay44 (F := Ideal) x) (placesV 768#32) := rfl
  rw [e, ohV_at]

theorem oh4_at (x : Vec Ideal S512x1 .i32) (r : Fin 256) (s : Fin 512) :
    (oh4 (F := Ideal) x (ix2 r s)) = ohW (fun b => k0_pay43 (F := Ideal) x (ix2 0 b)) (fun b => k0_pay44 (F := Ideal) x (ix2 0 b)) (IntOp.addi (BitVec.ofNat 32 r.val) 1024#32) s := by
  have e : oh4 (F := Ideal) x = ohV (k0_pay43 (F := Ideal) x) (k0_pay44 (F := Ideal) x) (placesV 1024#32) := rfl
  rw [e, ohV_at]

theorem oh5_at (x : Vec Ideal S512x1 .i32) (r : Fin 256) (s : Fin 512) :
    (oh5 (F := Ideal) x (ix2 r s)) = ohW (fun b => k0_pay43 (F := Ideal) x (ix2 0 b)) (fun b => k0_pay44 (F := Ideal) x (ix2 0 b)) (IntOp.addi (BitVec.ofNat 32 r.val) 1280#32) s := by
  have e : oh5 (F := Ideal) x = ohV (k0_pay43 (F := Ideal) x) (k0_pay44 (F := Ideal) x) (placesV 1280#32) := rfl
  rw [e, ohV_at]

theorem oh6_at (x : Vec Ideal S512x1 .i32) (r : Fin 256) (s : Fin 512) :
    (oh6 (F := Ideal) x (ix2 r s)) = ohW (fun b => k0_pay43 (F := Ideal) x (ix2 0 b)) (fun b => k0_pay44 (F := Ideal) x (ix2 0 b)) (IntOp.addi (BitVec.ofNat 32 r.val) 1536#32) s := by
  have e : oh6 (F := Ideal) x = ohV (k0_pay43 (F := Ideal) x) (k0_pay44 (F := Ideal) x) (placesV 1536#32) := rfl
  rw [e, ohV_at]

theorem oh7_at (x : Vec Ideal S512x1 .i32) (r : Fin 256) (s : Fin 512) :
    (oh7 (F := Ideal) x (ix2 r s)) = ohW (fun b => k0_pay43 (F := Ideal) x (ix2 0 b)) (fun b => k0_pay44 (F := Ideal) x (ix2 0 b)) (IntOp.addi (BitVec.ofNat 32 r.val) 1792#32) s := by
  have e : oh7 (F := Ideal) x = ohV (k0_pay43 (F := Ideal) x) (k0_pay44 (F := Ideal) x) (placesV 1792#32) := rfl
  rw [e, ohV_at]

/-- The stages as words. -/
def StagesAt (st : ℕ → ℕ) (x : IVec S512x1 32) : Prop := ∀ p : Fin 512, x (ix2 p 0) = BitVec.ofNat 32 (st p.val)

theorem pay43_at {st : ℕ → ℕ} (hst : ∀ p, st p < 32) (x : Vec Ideal S512x1 .i32) (hx : StagesAt st x) (b : Fin 32) :
    k0_pay43 (F := Ideal) x (ix2 0 b) = BitVec.ofNat 32 (Cert.Stage.cnt st b.val) := by
  have e : k0_pay43 (F := Ideal) x (ix2 0 b) = Finset.fold IntOp.addi (0#32)
      (fun p : Fin 512 => BitVec.setWidth 32 (IntOp.cmpi CmpIPredicate.slt (x (ix2 p 0)) (BitVec.ofNat 32 b.val))) Finset.univ := by
    unfold k0_pay43 k0_pay42
    pointwise
  rw [e]
  unfold Cert.Stage.cnt
  rw [← Cert.Stage.fold_count (fun i => st i < b.val)]
  refine congrArg (fun f => Finset.fold IntOp.addi 0#32 f Finset.univ) (funext fun p => ?_)
  rw [hx p, slt_bit _ _ (by have := hst p.val; omega) (by omega)]

theorem pay44_at {st : ℕ → ℕ} (hst : ∀ p, st p < 32) (x : Vec Ideal S512x1 .i32) (hx : StagesAt st x) (b : Fin 32) :
    k0_pay44 (F := Ideal) x (ix2 0 b) = BitVec.ofNat 32 (Cert.Stage.cnt st (b.val + 1)) := by
  have e : k0_pay44 (F := Ideal) x (ix2 0 b) = Finset.fold IntOp.addi (0#32)
      (fun p : Fin 512 => BitVec.setWidth 32 (IntOp.cmpi CmpIPredicate.sle (x (ix2 p 0)) (BitVec.ofNat 32 b.val))) Finset.univ := by
    unfold k0_pay44 k0_pay42
    pointwise
  rw [e]
  unfold Cert.Stage.cnt
  rw [← Cert.Stage.fold_count (fun i => st i < b.val + 1)]
  refine congrArg (fun f => Finset.fold IntOp.addi 0#32 f Finset.univ) (funext fun p => ?_)
  rw [hx p, sle_bit _ _ (by have := hst p.val; omega) (by omega)]
  exact congrArg (fun q => BitVec.setWidth 32 (BitVec.ofBool q)) (decide_eq_decide.2 Nat.lt_succ_iff.symm)

/-- The one-hot row of the place `d`: token `cnt b + r` of stage `b = d / 64` at `r = d % 64`, if there is one. -/
theorem ohW_at {st : ℕ → ℕ} (f g : Fin 32 → BitVec 32) (hf : ∀ b, f b = BitVec.ofNat 32 (Cert.Stage.cnt st b.val)) (hg : ∀ b, g b = BitVec.ofNat 32 (Cert.Stage.cnt st (b.val + 1)))
    (d : Fin 2048) (s : Fin 512) :
    ohW f g (BitVec.ofNat 32 d.val) s = if Cert.Stage.cnt st (d.val / 64) + d.val % 64 = s.val ∧ Cert.Stage.cnt st (d.val / 64) + d.val % 64 < Cert.Stage.cnt st (d.val / 64 + 1) then (1 : EReal) else 0 := by
  have h1 : ∀ k : Fin 32 → BitVec 32, atW (BitVec.ofNat 32 (d.val / 64)) k = k ⟨d.val / 64, by omega⟩ := fun k => Cert.Stage.fold_pick ⟨d.val / 64, by omega⟩ k
  have c0 := Cert.Stage.cnt_le (st := st) (d.val / 64)
  have c1 := Cert.Stage.cnt_le (st := st) (d.val / 64 + 1)
  have hm : d.val % 64 < 64 := Nat.mod_lt _ (by norm_num)
  have ha : IntOp.addi (BitVec.ofNat 32 (Cert.Stage.cnt st (d.val / 64))) (BitVec.ofNat 32 (d.val % 64)) = BitVec.ofNat 32 (Cert.Stage.cnt st (d.val / 64) + d.val % 64) :=
    (BitVec.ofNat_add _ _).symm
  unfold ohW
  rw [quoW_at, remW_at, h1, h1, hf, hg]
  dsimp only
  rw [ha, eq_bit, slt_bit _ _ (by omega) (by omega), and_bit, fl_bit]
  refine if_congr ?_ rfl rfl
  rw [word_inj (by omega) (by omega)]

theorem chunk_at (o : FVec Ideal S256x512 .bf16) (v : FVec Ideal S512x384 .bf16) (r : Fin 256) (l : Fin 384) : chunk o v (ix2 r l) = (∑ s : Fin 512, (o (ix2 r s) * v (ix2 s l) : EReal) : EReal) := by
  unfold chunk
  pointwise

/-- A chunk's row is the token at that place, or zero. -/
theorem chunk_place {st : ℕ → ℕ} (o : FVec Ideal S256x512 .bf16) (v : FVec Ideal S512x384 .bf16) (r : Fin 256) (l : Fin 384) (d : Fin 2048) (w : ℕ → EReal)
    (hw : ∀ s : Fin 512, w s.val = v (ix2 s l))
    (ho : ∀ s : Fin 512, (o (ix2 r s) : EReal) = if Cert.Stage.cnt st (d.val / 64) + d.val % 64 = s.val ∧ Cert.Stage.cnt st (d.val / 64) + d.val % 64 < Cert.Stage.cnt st (d.val / 64 + 1) then (1 : EReal) else 0) :
    chunk o v (ix2 r l) = Cert.Stage.place st w (d.val / 64) (d.val % 64) := by
  rw [chunk_at]
  unfold Cert.Stage.place
  have c1 := Cert.Stage.cnt_le (st := st) (d.val / 64 + 1)
  by_cases h : Cert.Stage.cnt st (d.val / 64) + d.val % 64 < Cert.Stage.cnt st (d.val / 64 + 1)
  · rw [if_pos h, Finset.sum_eq_single (⟨Cert.Stage.cnt st (d.val / 64) + d.val % 64, by omega⟩ : Fin 512)]
    · rw [ho, if_pos ⟨rfl, h⟩, one_mul, ← hw]
    · intro s _ hs
      rw [ho, if_neg fun q => hs (Fin.ext q.1.symm), zero_mul]
    · intro q; exact absurd (Finset.mem_univ _) q
  · rw [if_neg h]
    refine Finset.sum_eq_zero fun s _ => ?_
    rw [ho, if_neg fun q => h q.2, zero_mul]

theorem pay41_at (x10 : Vec Ideal S512x3 .f32) (x11 : Vec Ideal S3x128 .f32) (x12 : Vec Ideal S1x128 .f32) (x13 : Vec Ideal S128x384 .f32) (x14 : Vec Ideal S1x384 .f32) (s : Fin 512) (l : Fin 384) :
    (k0_pay41 (F := Ideal) x10 x11 x12 x13 x14 (ix2 s l) : EReal) =
      ((∑ x : Fin 128,
        (Ideal.ofBits FTy.f32 1056964608#32 * ((∑ i : Fin 3, (x10 (ix2 s i) * x11 (ix2 i x) : EReal)) + x12 (ix2 0 x)) *
            (1 + Ideal.erf (((∑ i : Fin 3, (x10 (ix2 s i) * x11 (ix2 i x) : EReal)) + x12 (ix2 0 x)) * Ideal.ofBits FTy.f32 1060439283#32)) *
          x13 (ix2 x l) : EReal)) + x14 (ix2 0 l) : EReal) := by
  unfold k0_pay41
  pointwise
  rfl

theorem row0 {st : ℕ → ℕ} (hst : ∀ p, st p < 32) (x : Vec Ideal S512x1 .i32) (hx : StagesAt st x) (v : FVec Ideal S512x384 .bf16) (l : Fin 384) (w : ℕ → EReal)
    (hw : ∀ s : Fin 512, w s.val = v (ix2 s l)) (r : Fin 256) (d : Fin 2048) (hd : d.val = 0 + r.val) :
    chunk (oh0 x) v (ix2 r l) = Cert.Stage.place st w (d.val / 64) (d.val % 64) := by
  refine chunk_place _ _ _ _ d w hw fun s => ?_
  rw [oh0_at, show IntOp.addi (BitVec.ofNat 32 r.val) 0#32 = BitVec.ofNat 32 d.val by rw [hd, Nat.add_comm]; exact (BitVec.ofNat_add r.val 0).symm]
  exact ohW_at _ _ (pay43_at hst x hx) (pay44_at hst x hx) d s

theorem row1 {st : ℕ → ℕ} (hst : ∀ p, st p < 32) (x : Vec Ideal S512x1 .i32) (hx : StagesAt st x) (v : FVec Ideal S512x384 .bf16) (l : Fin 384) (w : ℕ → EReal)
    (hw : ∀ s : Fin 512, w s.val = v (ix2 s l)) (r : Fin 256) (d : Fin 2048) (hd : d.val = 256 + r.val) :
    chunk (oh1 x) v (ix2 r l) = Cert.Stage.place st w (d.val / 64) (d.val % 64) := by
  refine chunk_place _ _ _ _ d w hw fun s => ?_
  rw [oh1_at, show IntOp.addi (BitVec.ofNat 32 r.val) 256#32 = BitVec.ofNat 32 d.val by rw [hd, Nat.add_comm]; exact (BitVec.ofNat_add r.val 256).symm]
  exact ohW_at _ _ (pay43_at hst x hx) (pay44_at hst x hx) d s

theorem row2 {st : ℕ → ℕ} (hst : ∀ p, st p < 32) (x : Vec Ideal S512x1 .i32) (hx : StagesAt st x) (v : FVec Ideal S512x384 .bf16) (l : Fin 384) (w : ℕ → EReal)
    (hw : ∀ s : Fin 512, w s.val = v (ix2 s l)) (r : Fin 256) (d : Fin 2048) (hd : d.val = 512 + r.val) :
    chunk (oh2 x) v (ix2 r l) = Cert.Stage.place st w (d.val / 64) (d.val % 64) := by
  refine chunk_place _ _ _ _ d w hw fun s => ?_
  rw [oh2_at, show IntOp.addi (BitVec.ofNat 32 r.val) 512#32 = BitVec.ofNat 32 d.val by rw [hd, Nat.add_comm]; exact (BitVec.ofNat_add r.val 512).symm]
  exact ohW_at _ _ (pay43_at hst x hx) (pay44_at hst x hx) d s

theorem row3 {st : ℕ → ℕ} (hst : ∀ p, st p < 32) (x : Vec Ideal S512x1 .i32) (hx : StagesAt st x) (v : FVec Ideal S512x384 .bf16) (l : Fin 384) (w : ℕ → EReal)
    (hw : ∀ s : Fin 512, w s.val = v (ix2 s l)) (r : Fin 256) (d : Fin 2048) (hd : d.val = 768 + r.val) :
    chunk (oh3 x) v (ix2 r l) = Cert.Stage.place st w (d.val / 64) (d.val % 64) := by
  refine chunk_place _ _ _ _ d w hw fun s => ?_
  rw [oh3_at, show IntOp.addi (BitVec.ofNat 32 r.val) 768#32 = BitVec.ofNat 32 d.val by rw [hd, Nat.add_comm]; exact (BitVec.ofNat_add r.val 768).symm]
  exact ohW_at _ _ (pay43_at hst x hx) (pay44_at hst x hx) d s

theorem row4 {st : ℕ → ℕ} (hst : ∀ p, st p < 32) (x : Vec Ideal S512x1 .i32) (hx : StagesAt st x) (v : FVec Ideal S512x384 .bf16) (l : Fin 384) (w : ℕ → EReal)
    (hw : ∀ s : Fin 512, w s.val = v (ix2 s l)) (r : Fin 256) (d : Fin 2048) (hd : d.val = 1024 + r.val) :
    chunk (oh4 x) v (ix2 r l) = Cert.Stage.place st w (d.val / 64) (d.val % 64) := by
  refine chunk_place _ _ _ _ d w hw fun s => ?_
  rw [oh4_at, show IntOp.addi (BitVec.ofNat 32 r.val) 1024#32 = BitVec.ofNat 32 d.val by rw [hd, Nat.add_comm]; exact (BitVec.ofNat_add r.val 1024).symm]
  exact ohW_at _ _ (pay43_at hst x hx) (pay44_at hst x hx) d s

theorem row5 {st : ℕ → ℕ} (hst : ∀ p, st p < 32) (x : Vec Ideal S512x1 .i32) (hx : StagesAt st x) (v : FVec Ideal S512x384 .bf16) (l : Fin 384) (w : ℕ → EReal)
    (hw : ∀ s : Fin 512, w s.val = v (ix2 s l)) (r : Fin 256) (d : Fin 2048) (hd : d.val = 1280 + r.val) :
    chunk (oh5 x) v (ix2 r l) = Cert.Stage.place st w (d.val / 64) (d.val % 64) := by
  refine chunk_place _ _ _ _ d w hw fun s => ?_
  rw [oh5_at, show IntOp.addi (BitVec.ofNat 32 r.val) 1280#32 = BitVec.ofNat 32 d.val by rw [hd, Nat.add_comm]; exact (BitVec.ofNat_add r.val 1280).symm]
  exact ohW_at _ _ (pay43_at hst x hx) (pay44_at hst x hx) d s

theorem row6 {st : ℕ → ℕ} (hst : ∀ p, st p < 32) (x : Vec Ideal S512x1 .i32) (hx : StagesAt st x) (v : FVec Ideal S512x384 .bf16) (l : Fin 384) (w : ℕ → EReal)
    (hw : ∀ s : Fin 512, w s.val = v (ix2 s l)) (r : Fin 256) (d : Fin 2048) (hd : d.val = 1536 + r.val) :
    chunk (oh6 x) v (ix2 r l) = Cert.Stage.place st w (d.val / 64) (d.val % 64) := by
  refine chunk_place _ _ _ _ d w hw fun s => ?_
  rw [oh6_at, show IntOp.addi (BitVec.ofNat 32 r.val) 1536#32 = BitVec.ofNat 32 d.val by rw [hd, Nat.add_comm]; exact (BitVec.ofNat_add r.val 1536).symm]
  exact ohW_at _ _ (pay43_at hst x hx) (pay44_at hst x hx) d s

theorem row7 {st : ℕ → ℕ} (hst : ∀ p, st p < 32) (x : Vec Ideal S512x1 .i32) (hx : StagesAt st x) (v : FVec Ideal S512x384 .bf16) (l : Fin 384) (w : ℕ → EReal)
    (hw : ∀ s : Fin 512, w s.val = v (ix2 s l)) (r : Fin 256) (d : Fin 2048) (hd : d.val = 1792 + r.val) :
    chunk (oh7 x) v (ix2 r l) = Cert.Stage.place st w (d.val / 64) (d.val % 64) := by
  refine chunk_place _ _ _ _ d w hw fun s => ?_
  rw [oh7_at, show IntOp.addi (BitVec.ofNat 32 r.val) 1792#32 = BitVec.ofNat 32 d.val by rw [hd, Nat.add_comm]; exact (BitVec.ofNat_add r.val 1792).symm]
  exact ohW_at _ _ (pay43_at hst x hx) (pay44_at hst x hx) d s

/-- A window's put read outside it. -/
theorem put_out (d : Vec Ideal S2048x384 .f32) (o : ℕ) (w : Vec Ideal S256x384 .f32) (p : Fin 2048) (l : Fin 384) (hp : p.val < o ∨ o + 256 ≤ p.val) :
    VecWindow.put (s := S2048x384) d ![o, 0] ![256, 384] w (ix2 p l) = d (ix2 p l) := by
  refine dif_neg fun h => ?_
  have h0 := h 0
  change o ≤ p.val ∧ p.val < o + 256 at h0
  omega
/-- A window's put read in it. -/
theorem put_in (d : Vec Ideal S2048x384 .f32) (o : ℕ) (w : Vec Ideal S256x384 .f32) (p : Fin 2048) (l : Fin 384) (r : Fin 256) (hp : p.val = o + r.val) :
    VecWindow.put (s := S2048x384) d ![o, 0] ![256, 384] w (ix2 p l) = w (ix2 r l) := by
  have h : ∀ a : Fin S2048x384.rank, (![o, 0] : Fin 2 → ℕ) a ≤ ((ix2 p l : S2048x384.Idx) a).val ∧ ((ix2 p l : S2048x384.Idx) a).val < (![o, 0] : Fin 2 → ℕ) a + (![256, 384] : Fin 2 → ℕ) a := fun a =>
    match a with
    | ⟨0, _⟩ => by show o ≤ p.val ∧ p.val < o + 256; have := r.isLt; omega
    | ⟨1, _⟩ => by show 0 ≤ l.val ∧ l.val < 0 + 384; have := l.isLt; omega
  refine (dif_pos h).trans (congrArg w (funext fun a => Fin.ext ?_))
  match a with
  | ⟨0, _⟩ => show p.val - o = r.val; omega
  | ⟨1, _⟩ => show l.val - 0 = l.val; omega

/-- An output at a place: the token that stands there, or zero. -/
theorem putChunks_at {st : ℕ → ℕ} (hst : ∀ p, st p < 32) (x : Vec Ideal S512x1 .i32) (hx : StagesAt st x) (d : Vec Ideal S2048x384 .f32) (v : FVec Ideal S512x384 .bf16) (l : Fin 384) (w : ℕ → EReal)
    (hw : ∀ s : Fin 512, w s.val = v (ix2 s l)) (p : Fin 2048) :
    (putChunks x d v (ix2 p l) : EReal) = Cert.Stage.place st w (p.val / 64) (p.val % 64) := by
  unfold putChunks
  by_cases h7 : 1792 ≤ p.val
  · rw [put_in _ _ _ p l ⟨p.val - 1792, by omega⟩ (by show p.val = 1792 + (p.val - 1792); omega)]
    exact row7 hst x hx v l w hw _ p (by show p.val = 1792 + (p.val - 1792); omega)
  rw [put_out _ _ _ p l (by omega)]
  by_cases h6 : 1536 ≤ p.val
  · rw [put_in _ _ _ p l ⟨p.val - 1536, by omega⟩ (by show p.val = 1536 + (p.val - 1536); omega)]
    exact row6 hst x hx v l w hw _ p (by show p.val = 1536 + (p.val - 1536); omega)
  rw [put_out _ _ _ p l (by omega)]
  by_cases h5 : 1280 ≤ p.val
  · rw [put_in _ _ _ p l ⟨p.val - 1280, by omega⟩ (by show p.val = 1280 + (p.val - 1280); omega)]
    exact row5 hst x hx v l w hw _ p (by show p.val = 1280 + (p.val - 1280); omega)
  rw [put_out _ _ _ p l (by omega)]
  by_cases h4 : 1024 ≤ p.val
  · rw [put_in _ _ _ p l ⟨p.val - 1024, by omega⟩ (by show p.val = 1024 + (p.val - 1024); omega)]
    exact row4 hst x hx v l w hw _ p (by show p.val = 1024 + (p.val - 1024); omega)
  rw [put_out _ _ _ p l (by omega)]
  by_cases h3 : 768 ≤ p.val
  · rw [put_in _ _ _ p l ⟨p.val - 768, by omega⟩ (by show p.val = 768 + (p.val - 768); omega)]
    exact row3 hst x hx v l w hw _ p (by show p.val = 768 + (p.val - 768); omega)
  rw [put_out _ _ _ p l (by omega)]
  by_cases h2 : 512 ≤ p.val
  · rw [put_in _ _ _ p l ⟨p.val - 512, by omega⟩ (by show p.val = 512 + (p.val - 512); omega)]
    exact row2 hst x hx v l w hw _ p (by show p.val = 512 + (p.val - 512); omega)
  rw [put_out _ _ _ p l (by omega)]
  by_cases h1 : 256 ≤ p.val
  · rw [put_in _ _ _ p l ⟨p.val - 256, by omega⟩ (by show p.val = 256 + (p.val - 256); omega)]
    exact row1 hst x hx v l w hw _ p (by show p.val = 256 + (p.val - 256); omega)
  rw [put_out _ _ _ p l (by omega)]
  rw [put_in _ _ _ p l ⟨p.val - 0, by omega⟩ (by show p.val = 0 + (p.val - 0); omega)]
  exact row0 hst x hx v l w hw _ p (by show p.val = 0 + (p.val - 0); omega)

end Cert.KernelIdeal.Gen

end
-- ==== Proof.Outputs.lean ====
/- What every point of the two sweeps keeps, and the outputs the last point leaves. -/
module

public import proofs.«01_k».proof.Proof.KernelIdealValue
public import proofs.«01_k».proof.Proof.Rows
public import proofs.«01_k».proof.Proof.Tail

@[expose] public section

set_option maxRecDepth 16384

noncomputable section

namespace Cert.KernelIdeal.Gen

open Idealize.ShloMosaic Idealize.ShloMosaic.TcCoe

variable (m : (ℓ : Loc nD τ sig) → Buf (Elt Ideal) ℓ) (c : Dev nD)

/-- The scratch buffers after the first `b` places of the first sweep. -/
structure Inv1 (b : ℕ) (y : St Ideal) : Prop where
  acc : ∀ (s : Fin 512) (l : Fin 256), y.s0 (ix2 s l) = Cert.Seg.picked 32768 (kKey m c) (hf m c l) s.val b
  row : ∀ l : Fin 256, 0 < b → crow256 y.s3 (ix2 0 l) = Cert.Seg.upto (kKey m c) (hf m c l) (b - 1)
  cid : CarryAt (kKey m c) b (cidOf (F := Ideal) y.s4 (ix2 0 0))

/-- The scratch buffers after the first `b` places of the second sweep. -/
structure Inv2 (b : ℕ) (y : St Ideal) : Prop where
  seg : ∀ s x : Fin 512, y.s1 (ix2 s x) = kGs m c s x
  acc : ∀ (s : Fin 512) (l : Fin 384), y.s2 (ix2 s l) = Cert.Seg.picked 32768 (kKey m c) (uf m c l) s.val b
  row : ∀ l : Fin 384, 0 < b → crow384 y.s3 (ix2 0 l) = Cert.Seg.upto (kKey m c) (uf m c l) (b - 1)
  cid : CarryAt (kKey m c) b (cidOf (F := Ideal) y.s4 (ix2 0 0))

/-- The scratch buffers after `n` points. -/
def Inv (n : ℕ) (y : St Ideal) : Prop :=
  if n = 0 then True else if n ≤ 32 then Inv1 m c (n * 1024) y else Inv2 m c ((n - 32) * 1024) y

variable {m c}

theorem inv1_begin (y : St Ideal) : Inv1 m c 0 (begin1 y) where
  acc s l := (zero1_at s l).trans (Cert.Seg.picked_zero _ _).symm
  row l h := absurd h (lt_irrefl 0)
  cid := by
    unfold CarryAt
    rw [if_pos rfl]
    exact cid_neg (key := fun _ => 0) (fun _ => by norm_num)

variable (G : Good m c)
include G

theorem carry_next (t : Fin cfg0.N) (b : ℕ) (hb : t.val % 32 * 1024 = b) (y4 : Vec Ideal S8x128 .i32) :
    CarryAt (kKey m c) (b + 1024) (cidOf (F := Ideal) (putId y4 (lastId (iblk m c 1 t))) (ix2 0 0)) := by
  subst hb
  unfold CarryAt
  rw [if_neg (by omega), cid_put G.lt, lastId_at G.lt _ (ids_at m c t)]
  exact congrArg (fun p => BitVec.ofNat 32 (kKey m c p)) (by omega)

theorem inv1_step (t : Fin cfg0.N) (b : ℕ) (hb : t.val % 32 * 1024 = b) (y : St Ideal) (h : Inv1 m c b y) : Inv1 m c (b + 1024) (sweep1 m c t y) := by
  have hc := carry_next G t b hb y.s4
  subst hb
  have hv := fun l => fix1_val G t y.s3 y.s4 l h.cid (h.row l)
  refine ⟨fun s l => ?_, fun l _ => ?_, ?_⟩
  · exact acc1_at G.lt (iblk m c 0 t) (iblk m c 1 t) (iblk m c 2 t) (iblk m c 3 t) (iblk m c 4 t) y.s0 y.s3 y.s4 (ids_at m c t) (next_at m c t) (hf m c l) _ rfl l (hv l) s (h.acc s l)
  · refine (crow256_put G.lt y.s3 _ l).trans ?_
    have e := last1_eq (F := Ideal) (iblk m c 0 t) (iblk m c 1 t) (iblk m c 3 t) (iblk m c 4 t) y.s3 y.s4
    rw [e]
    refine (lastRow256_at G.lt _ l).trans ((hv l 1023).trans ?_)
    exact congrArg (Cert.Seg.upto (kKey m c) (hf m c l)) (by show _ + 1023 = _; omega)
  · show CarryAt _ _ (cidOf (F := Ideal) (putId y.s4 (k0_pay4 (k0_pay14 (iblk m c 1 t)))) (ix2 0 0))
    have e : k0_pay4 (k0_pay14 (F := Ideal) (iblk m c 1 t)) = lastId (iblk m c 1 t) := (pay4_eq _).trans (congrArg lastId (pay14_eq _))
    rw [e]
    exact hc

theorem inv2_step (t : Fin cfg0.N) (b : ℕ) (hb : t.val % 32 * 1024 = b) (y : St Ideal) (h : Inv2 m c b y) : Inv2 m c (b + 1024) (sweep2 m c t y) := by
  have hc := carry_next G t b hb y.s4
  subst hb
  have hv := fun l => fix2_val G t y.s1 h.seg y.s3 y.s4 l h.cid (h.row l)
  refine ⟨h.seg, fun s l => ?_, fun l _ => ?_, ?_⟩
  · exact acc2_at G.lt (iblk m c 0 t) (iblk m c 1 t) (iblk m c 2 t) (iblk m c 5 t) (iblk m c 8 t) (iblk m c 9 t) y.s1 y.s2 y.s3 y.s4 (ids_at m c t) (next_at m c t) (uf m c l) _ rfl l (hv l) s (h.acc s l)
  · refine (crow384_put G.lt y.s3 _ l).trans ?_
    have e := last2_eq (F := Ideal) (iblk m c 0 t) (iblk m c 1 t) (iblk m c 5 t) (iblk m c 8 t) (iblk m c 9 t) y.s1 y.s3 y.s4
    rw [e]
    refine (lastRow384_at G.lt _ l).trans ((hv l 1023).trans ?_)
    exact congrArg (Cert.Seg.upto (kKey m c) (uf m c l)) (by show _ + 1023 = _; omega)
  · show CarryAt _ _ (cidOf (F := Ideal) (putId y.s4 (k0_pay11 (k0_pay28 (iblk m c 1 t)))) (ix2 0 0))
    have e : k0_pay11 (k0_pay28 (F := Ideal) (iblk m c 1 t)) = lastId (iblk m c 1 t) := (pay11_eq _).trans (congrArg lastId (pay28_eq _))
    rw [e]
    exact hc

/-- A segment's sum of last running maxima is its maximum. -/
theorem picked_seg (h : ℕ → EReal) (s : Fin 512) : Cert.Seg.picked 32768 (kKey m c) h s.val 32768 = Cert.Seg.all 32768 (kKey m c) h s.val := by
  obtain ⟨p, hp, hs⟩ := G.onto s.val (by have := s.isLt; omega)
  exact Cert.Seg.picked_all G.mono 32768 s.val p hp hs

theorem inv2_begin (t : Fin cfg0.N) (y : St Ideal) (h : Inv1 m c 32768 y) : Inv2 m c 0 (begin2 m c t y) := by
  refine ⟨fun s x => ?_, fun s l => (zero7_at s l).trans (Cert.Seg.picked_zero _ _).symm, fun l h0 => absurd h0 (lt_irrefl 0), ?_⟩
  · refine (gseg_at y.s0 (iblk m c 6 t) (iblk m c 7 t) s x).trans ?_
    unfold kGs
    refine congrArg₂ (· + ·) (Finset.sum_congr rfl fun i _ => congrArg₂ (· * ·) ?_ ?_) ?_
    · rw [h.acc s i, picked_seg G]
      exact (Cert.ReferenceIdeal.Value.rSeg256_at G.lt (kIds m c) (kIds_at m c) (kH m c) s i (hf m c i) (fun p => hf_at m c i p)).symm
    · rw [iblk6_eq, V_main_v11]
    · rw [iblk7_eq, V_main_v17]
  · unfold CarryAt
    rw [if_pos rfl]
    exact cid_neg' G.lt

/-- The stages of the tokens, as the last point reads them. -/
theorem stages_at (t : Fin cfg0.N) : StagesAt (kSt m c) (iblk m c 15 t) := by
  intro p
  rw [iblk15_eq, V_main_v30]
  refine (hS21_at m c p).trans ?_
  exact Cert.PreRead.stageOf_word _ p

theorem tok_val (t : Fin cfg0.N) (y : St Ideal) (d : Vec Ideal S2048x384 .f32) (ht : t.val = 63) (h : Inv2 m c 31744 y) :
    outTok m c t y d = Cert.ReferenceIdeal.Value.rOut (Cert.ReferenceIdeal.Value.rIdx (kS m c)) (Cert.ReferenceIdeal.Value.rSeg384 (kIds m c) (kU m c)) := by
  have h' := inv2_step G t 31744 (by rw [ht]) y h
  have hs : ∀ (l : Fin 384) (s : Fin 512), Cert.Seg.all 32768 (kKey m c) (uf m c l) s.val = (sweep2 m c t y).s2 (ix2 s l) := fun l s => by
    rw [h'.acc s l]
    exact (picked_seg G (uf m c l) s).symm
  funext i
  obtain ⟨p, l, rfl⟩ : ∃ (p : Fin 2048) (l : Fin 384), i = ix2 p l := ⟨_, _, eq_ix2 i⟩
  refine (putChunks_at G.slt (iblk m c 15 t) (stages_at G t) d (sweep2 m c t y).s2 l (Cert.Seg.all 32768 (kKey m c) (uf m c l)) (hs l) p).trans ?_
  refine (Cert.ReferenceIdeal.Value.rOut_at G.slt G.smono (kS m c) (kS_at m c) _ l _ (fun s => ?_) p).symm
  exact (Cert.ReferenceIdeal.Value.rSeg384_at G.lt (kIds m c) (kIds_at m c) (kU m c) s l (uf m c l) (fun p => uf_at m c l p)).symm

omit G in
/-- The token rows of the second output, read from equal arrays. -/
theorem pos_rows (co : FVec Ideal S1x512x3 .f32) (wp1 : FVec Ideal S128x3 .f32) (bp1 : FVec Ideal S128 .f32) (wp2 : FVec Ideal S384x128 .f32) (bp2 : FVec Ideal S384 .f32)
    (x10 : Vec Ideal S512x3 .f32) (x11 : Vec Ideal S3x128 .f32) (x12 : Vec Ideal S1x128 .f32) (x13 : Vec Ideal S128x384 .f32) (x14 : Vec Ideal S1x384 .f32)
    (e10 : ∀ (s : Fin 512) (i : Fin 3), x10 (ix2 s i) = co (ix3 0 s i)) (e11 : ∀ (i : Fin 3) (x : Fin 128), x11 (ix2 i x) = wp1 (ix2 x i))
    (e12 : ∀ x : Fin 128, x12 (ix2 0 x) = bp1 (ix1 x)) (e13 : ∀ (x : Fin 128) (l : Fin 384), x13 (ix2 x l) = wp2 (ix2 l x)) (e14 : ∀ l : Fin 384, x14 (ix2 0 l) = bp2 (ix1 l))
    (s : Fin 512) (l : Fin 384) :
    Cert.ReferenceIdeal.Value.rPos (Cert.ReferenceIdeal.Value.rGelu (Cert.ReferenceIdeal.Value.rZ co wp1 bp1)) wp2 bp2 (ix2 s l) = (k0_pay41 (F := Ideal) x10 x11 x12 x13 x14 (ix2 s l) : EReal) := by
  rw [pay41_at, Cert.ReferenceIdeal.Value.rPos_at]
  simp only [Cert.ReferenceIdeal.Value.rGelu_at, Cert.ReferenceIdeal.Value.rZ_at, e10, e11, e12, e13, e14]

omit G in
theorem pos_read (t : Fin cfg0.N) (s : Fin 512) (l : Fin 384) :
    kPos m c (ix2 s l) = (k0_pay41 (F := Ideal) (iblk m c 10 t) (iblk m c 11 t) (iblk m c 12 t) (iblk m c 13 t) (iblk m c 14 t) (ix2 s l) : EReal) :=
  pos_rows (aCo m c) (aWp1 m c) (aBp1 m c) (aWp2 m c) (aBp2 m c) _ _ _ _ _
    (fun s i => by rw [iblk10_eq, V_main_v1]; exact hCo_at m c s i)
    (fun i x => by rw [iblk11_eq, V_main_v21]; exact hWp1t_at m c i x)
    (fun x => by rw [iblk12_eq, V_main_v22]; exact hBp1_at m c x)
    (fun x l => by rw [iblk13_eq, V_main_v23]; exact hWp2t_at m c x l)
    (fun l => by rw [iblk14_eq, V_main_v24]; exact hBp2_at m c l) s l

theorem pos_val (t : Fin cfg0.N) (d : Vec Ideal S2048x384 .f32) :
    outPos m c t d = Cert.ReferenceIdeal.Value.rOut (Cert.ReferenceIdeal.Value.rIdx (kS m c)) (kPos m c) := by
  funext i
  obtain ⟨p, l, rfl⟩ : ∃ (p : Fin 2048) (l : Fin 384), i = ix2 p l := ⟨_, _, eq_ix2 i⟩
  let w : ℕ → EReal := fun s => kPos m c (ix2 (⟨min s 511, by omega⟩ : Fin 512) l)
  have hw : ∀ s : Fin 512, w s.val = kPos m c (ix2 s l) := fun s =>
    congrArg (fun q => kPos m c (ix2 q l)) (Fin.ext (by show min s.val 511 = s.val; omega))
  refine (putChunks_at G.slt (iblk m c 15 t) (stages_at G t) d
    (truncf .bf16 (k0_pay41 (F := Ideal) (iblk m c 10 t) (iblk m c 11 t) (iblk m c 12 t) (iblk m c 13 t) (iblk m c 14 t)) bitsLt_bf16_f32) l w
    (fun s => (hw s).trans (pos_read t s l)) p).trans ?_
  exact (Cert.ReferenceIdeal.Value.rOut_at G.slt G.smono (kS m c) (kS_at m c) _ l w hw p).symm

omit G in
/-- The two sweeps keep what is said of the scratch buffers, and end in the reference's results. -/
theorem carries (hG : ∀ c, Good m c) : Carries m (fun c n y => Inv m c n y)
    (fun c => Cert.ReferenceIdeal.Value.rOut (Cert.ReferenceIdeal.Value.rIdx (kS m c)) (Cert.ReferenceIdeal.Value.rSeg384 (kIds m c) (kU m c)))
    (fun c => Cert.ReferenceIdeal.Value.rOut (Cert.ReferenceIdeal.Value.rIdx (kS m c)) (kPos m c)) where
  start c y := by unfold Inv; rw [if_pos rfl]; trivial
  first c t y ht _ := by
    have h := inv1_step (hG c) t 0 (by rw [ht]) (begin1 y) (inv1_begin y)
    unfold Inv
    rw [if_neg (by omega), if_pos (by omega), ht]
    exact h
  one c t y h0 h1 h := by
    unfold Inv at h ⊢
    rw [if_neg (by omega), if_pos (by omega)] at h ⊢
    have h' := inv1_step (hG c) t (t.val * 1024) (by rw [Nat.mod_eq_of_lt h1]) y h
    rw [show (t.val + 1) * 1024 = t.val * 1024 + 1024 by omega]
    exact h'
  turn c t y ht h := by
    unfold Inv at h ⊢
    rw [if_neg (by omega), if_pos (by omega), ht] at h
    rw [if_neg (by omega), if_neg (by omega), ht]
    exact inv2_step (hG c) t 0 (by rw [ht]) _ (inv2_begin (hG c) t y h)
  two c t y ht h := by
    have hl : t.val < 64 := t.isLt
    unfold Inv at h ⊢
    rw [if_neg (by omega), if_neg (by omega)] at h ⊢
    have h' := inv2_step (hG c) t ((t.val - 32) * 1024) (by omega) y h
    rw [show (t.val + 1 - 32) * 1024 = (t.val - 32) * 1024 + 1024 by omega]
    exact h'
  tok c t y d ht h := by
    unfold Inv at h
    rw [if_neg (by omega), if_neg (by omega), ht] at h
    exact tok_val (hG c) t y d ht h
  pos c t d _ := pos_val (hG c) t d

omit G in
/-- The reference's first result depends on its arguments alone. -/
theorem tok_same {a0 b0 : FVec Ideal S1x32768x11 .f32} {a2 b2 : IVec S1x32768 32} {a3 b3 : IVec S1x512 32} {a4 b4 : FVec Ideal S128x11 .f32} {a5 b5 : FVec Ideal S128 .f32} {a6 b6 : FVec Ideal S256x128 .f32} {a7 b7 : FVec Ideal S256 .f32} {a8 b8 : FVec Ideal S512x512 .f32} {a9 b9 : FVec Ideal S512 .f32} {a10 b10 : FVec Ideal S384x512 .f32} {a11 b11 : FVec Ideal S384 .f32}
    (h0 : a0 = b0) (h2 : a2 = b2) (h3 : a3 = b3) (h4 : a4 = b4) (h5 : a5 = b5) (h6 : a6 = b6) (h7 : a7 = b7) (h8 : a8 = b8) (h9 : a9 = b9) (h10 : a10 = b10) (h11 : a11 = b11) :
    Cert.ReferenceIdeal.Value.rOut (Cert.ReferenceIdeal.Value.rIdx (shapeCast S512 a3 Cert.ReferenceIdeal.Gen.shapeCasts_S1x512_S512)) (Cert.ReferenceIdeal.Value.rSeg384 (shapeCast Cert.ReferenceIdeal.S32768 a2 Cert.ReferenceIdeal.Gen.shapeCasts_S1x32768_S32768) (Cert.ReferenceIdeal.Value.rU (Cert.ReferenceIdeal.Value.rG (shapeCast Cert.ReferenceIdeal.S32768 a2 Cert.ReferenceIdeal.Gen.shapeCasts_S1x32768_S32768) (Cert.ReferenceIdeal.Value.rSeg256 (shapeCast Cert.ReferenceIdeal.S32768 a2 Cert.ReferenceIdeal.Gen.shapeCasts_S1x32768_S32768) (Cert.ReferenceIdeal.Value.rH a0 a4 a5 a6 a7))) (Cert.ReferenceIdeal.Value.rH a0 a4 a5 a6 a7) a8 a9 a10 a11)) =
      Cert.ReferenceIdeal.Value.rOut (Cert.ReferenceIdeal.Value.rIdx (shapeCast S512 b3 Cert.ReferenceIdeal.Gen.shapeCasts_S1x512_S512)) (Cert.ReferenceIdeal.Value.rSeg384 (shapeCast Cert.ReferenceIdeal.S32768 b2 Cert.ReferenceIdeal.Gen.shapeCasts_S1x32768_S32768) (Cert.ReferenceIdeal.Value.rU (Cert.ReferenceIdeal.Value.rG (shapeCast Cert.ReferenceIdeal.S32768 b2 Cert.ReferenceIdeal.Gen.shapeCasts_S1x32768_S32768) (Cert.ReferenceIdeal.Value.rSeg256 (shapeCast Cert.ReferenceIdeal.S32768 b2 Cert.ReferenceIdeal.Gen.shapeCasts_S1x32768_S32768) (Cert.ReferenceIdeal.Value.rH b0 b4 b5 b6 b7))) (Cert.ReferenceIdeal.Value.rH b0 b4 b5 b6 b7) b8 b9 b10 b11)) := by
  rw [h0, h2, h3, h4, h5, h6, h7, h8, h9, h10, h11]

omit G in
/-- The reference's second result depends on its arguments alone. -/
theorem pos_same {a3 b3 : IVec S1x512 32} {a1 b1 : FVec Ideal S1x512x3 .f32} {a12 b12 : FVec Ideal S128x3 .f32} {a13 b13 : FVec Ideal S128 .f32} {a14 b14 : FVec Ideal S384x128 .f32} {a15 b15 : FVec Ideal S384 .f32}
    (h3 : a3 = b3) (h1 : a1 = b1) (h12 : a12 = b12) (h13 : a13 = b13) (h14 : a14 = b14) (h15 : a15 = b15) :
    Cert.ReferenceIdeal.Value.rOut (Cert.ReferenceIdeal.Value.rIdx (shapeCast S512 a3 Cert.ReferenceIdeal.Gen.shapeCasts_S1x512_S512)) (Cert.ReferenceIdeal.Value.rPos (Cert.ReferenceIdeal.Value.rGelu (Cert.ReferenceIdeal.Value.rZ a1 a12 a13)) a14 a15) =
      Cert.ReferenceIdeal.Value.rOut (Cert.ReferenceIdeal.Value.rIdx (shapeCast S512 b3 Cert.ReferenceIdeal.Gen.shapeCasts_S1x512_S512)) (Cert.ReferenceIdeal.Value.rPos (Cert.ReferenceIdeal.Value.rGelu (Cert.ReferenceIdeal.Value.rZ b1 b12 b13)) b14 b15) := by
  rw [h3, h1, h12, h13, h14, h15]

end Cert.KernelIdeal.Gen

end
-- ==== Proof.lean ====
module

public import proofs.«01_k».proof.Defs
public import proofs.«01_k».proof.Proof.KernelFrame
public import proofs.«01_k».proof.Proof.KernelIdealFrame
public import proofs.«01_k».proof.Proof.Gen.ReferenceIdeal
public import proofs.«01_k».proof.Proof.Gen.ReferenceIdeal.Run
public import proofs.«01_k».proof.Proof.Gen.Pre_sorted_finite
public import proofs.«01_k».proof.Proof.Outputs
public import Idealize.ShloMosaic.Adequacy
public import Idealize.ShloMosaic.Init
public import Idealize.ShloMosaic.Lib.Quiescent

@[expose] public section

noncomputable section

namespace Cert.Proof

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_sorted_finite := fun m ρ _ => Cert.KernelIdeal.Gen.frame m ρ
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)
theorem frame_ri_pre : Cert.quiescent_ReferenceIdeal_pre_sorted_finite := fun m ρ _ => frame_ri m ρ trivial

/-- The named constant has the value the table gives it. -/
theorem preserves : Cert.preserves_Kernel_KernelIdeal :=
  IdealRules.named_const.statement Cert.KernelIdeal.κ "mask" .f32 0xF149F2CA#32 ⊥ rfl

/-- The precondition gives what the value proof uses of the arguments. -/
theorem good (m : (ℓ : Loc Cert.KernelIdeal.nD Cert.KernelIdeal.τ Cert.KernelIdeal.sig) → Buf (Elt Ideal) ℓ) (h : Cert.Pre_KernelIdeal_sorted_finite m)
    (c : Dev Cert.KernelIdeal.nD) : Cert.KernelIdeal.Gen.Good m c := by
  obtain ⟨h0, h1, h2, h3, h4, h5, h6, h7, h8, h9⟩ := h c
  have K := Cert.PreRead.keys _ (Cert.PreRead.part0 _ _ _ _ _ _ _ _ _ _ _ _ _ _ _ _ h0) (Cert.PreRead.part1 _ _ _ _ _ _ _ _ _ _ _ _ _ _ _ _ h1)
    (Cert.PreRead.part2 _ _ _ _ _ _ _ _ _ _ _ _ _ _ _ _ h2)
  have T := Cert.PreRead.stages _ (Cert.PreRead.part3 _ _ _ _ _ _ _ _ _ _ _ _ _ _ _ _ h3) (Cert.PreRead.part4 _ _ _ _ _ _ _ _ _ _ _ _ _ _ _ _ h4)
    (Cert.PreRead.part5 _ _ _ _ _ _ _ _ _ _ _ _ _ _ _ _ h5)
  exact ⟨K.1, K.2.1, K.2.2, T.1, T.2,
    fun p i => Cert.PreRead.finite_of _ (Cert.PreRead.part6 _ _ _ _ _ _ _ _ _ _ _ _ _ _ _ _ h6 p i),
    fun p i => Cert.PreRead.finite_of _ (Cert.PreRead.part7 _ _ _ _ _ _ _ _ _ _ _ _ _ _ _ _ h7 p i),
    fun p i => Cert.PreRead.finite_of _ (Cert.PreRead.part8 _ _ _ _ _ _ _ _ _ _ _ _ _ _ _ _ h8 p i),
    fun p i => Cert.PreRead.finite_of _ (Cert.PreRead.part9 _ _ _ _ _ _ _ _ _ _ _ _ _ _ _ _ h9 p i)⟩

/-- The two programs leave equal results. -/
theorem algebraic : Cert.algebraic_KernelIdeal_ReferenceIdeal_pre_sorted_finite := by
  intro m g m' g' hp ha
  refine ⟨_, _, Cert.KernelIdeal.Gen.run_carries m g _ _ _ (Cert.KernelIdeal.Gen.carries (good m hp)), ?_⟩
  refine (θ_run Cert.ReferenceIdeal.defs _ _).mono (fun r h c => ⟨(h c).1.trans ?_, (h c).2.1.trans ?_, (h c).2.2⟩) (Cert.ReferenceIdeal.Value.run (F := Ideal) m' g')
  · obtain ⟨h0, h1, h2, h3, h4, h5, h6, h7, h8, h9, h10, h11, h12, h13, h14, h15⟩ := ha c
    refine (Cert.ReferenceIdeal.Value.tok_eq m' c).trans ?_
    exact Cert.KernelIdeal.Gen.tok_same h0 h2 h3 h4 h5 h6 h7 h8 h9 h10 h11
  · obtain ⟨h0, h1, h2, h3, h4, h5, h6, h7, h8, h9, h10, h11, h12, h13, h14, h15⟩ := ha c
    refine (Cert.ReferenceIdeal.Value.pos_eq m' c).trans ?_
    exact Cert.KernelIdeal.Gen.pos_same h3 h1 h12 h13 h14 h15

theorem claim : Cert.Claim :=
  ⟨Cert.Kernel.Gen.facts, Cert.KernelIdeal.Gen.facts, Cert.ReferenceIdeal.Gen.facts, Cert.Pre_sorted_finite.Gen.facts,
    frame_p, frame_pi, frame_pi_pre, frame_ri, frame_ri_pre, preserves, algebraic⟩

end Cert.Proof

end
